-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_bwd_in_finite [hPre_bwd_in_finite : Cert.Pre_bwd_in_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_bwd_in_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_bwd_in_finite [hPre_bwd_in_finite : Cert.Pre_bwd_in_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_bwd_in_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_mlp_finite [hPre_mlp_finite : Cert.Pre_mlp_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_mlp_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_mlp_finite [hPre_mlp_finite : Cert.Pre_mlp_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_mlp_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_bwd_in_finite [hKernel5Ideal : Cert.Kernel5Ideal.Facts] [hPre_bwd_in_finite : Cert.Pre_bwd_in_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_bwd_in_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_bwd_in_finite [hReference5Ideal : Cert.Reference5Ideal.Facts] [hPre_bwd_in_finite : Cert.Pre_bwd_in_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_bwd_in_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_mlp_finite [hKernel6Ideal : Cert.Kernel6Ideal.Facts] [hPre_mlp_finite : Cert.Pre_mlp_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_mlp_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_mlp_finite [hReference6Ideal : Cert.Reference6Ideal.Facts] [hPre_mlp_finite : Cert.Pre_mlp_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_mlp_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v13) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_bwd_in_finite [hKernel5Ideal : Cert.Kernel5Ideal.Facts] [hReference5Ideal : Cert.Reference5Ideal.Facts] [hPre_bwd_in_finite : Cert.Pre_bwd_in_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_bwd_in_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_mlp_finite [hKernel6Ideal : Cert.Kernel6Ideal.Facts] [hReference6Ideal : Cert.Reference6Ideal.Facts] [hPre_mlp_finite : Cert.Pre_mlp_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_mlp_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)) (v2 : (c : Dev Cert.Kernel6Ideal.nD) → Buf (Elt Ideal) ((c.tc : Thread Cert.Kernel6Ideal.nD Cert.Kernel6Ideal.τ).loc Cert.Kernel6Ideal.main_v15_2)) (v3 : (c : Dev Cert.Kernel6Ideal.nD) → Buf (Elt Ideal) ((c.tc : Thread Cert.Kernel6Ideal.nD Cert.Kernel6Ideal.τ).loc Cert.Kernel6Ideal.main_v15_3)) (v4 : (c : Dev Cert.Kernel6Ideal.nD) → Buf (Elt Ideal) ((c.tc : Thread Cert.Kernel6Ideal.nD Cert.Kernel6Ideal.τ).loc Cert.Kernel6Ideal.main_v15_4)) (v5 : (c : Dev Cert.Kernel6Ideal.nD) → Buf (Elt Ideal) ((c.tc : Thread Cert.Kernel6Ideal.nD Cert.Kernel6Ideal.τ).loc Cert.Kernel6Ideal.main_v15_5)) (v6 : (c : Dev Cert.Kernel6Ideal.nD) → Buf (Elt Ideal) ((c.tc : Thread Cert.Kernel6Ideal.nD Cert.Kernel6Ideal.τ).loc Cert.Kernel6Ideal.main_v15_6)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_v15_2) = v2 c
          ∧ r.2.mem ((c.tc : Thread Cert.Kernel6Ideal.nD Cert.Kernel6Ideal.τ).loc Cert.Kernel6Ideal.main_v15_3) = v3 c
          ∧ r.2.mem ((c.tc : Thread Cert.Kernel6Ideal.nD Cert.Kernel6Ideal.τ).loc Cert.Kernel6Ideal.main_v15_4) = v4 c
          ∧ r.2.mem ((c.tc : Thread Cert.Kernel6Ideal.nD Cert.Kernel6Ideal.τ).loc Cert.Kernel6Ideal.main_v15_5) = v5 c
          ∧ r.2.mem ((c.tc : Thread Cert.Kernel6Ideal.nD Cert.Kernel6Ideal.τ).loc Cert.Kernel6Ideal.main_v15_6) = v6 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v102) = v0 c
          ∧ r.2.mem ((c.tc : Thread Cert.Reference6Ideal.nD Cert.Reference6Ideal.τ).loc Cert.Reference6Ideal.main_v103) = v1 c
          ∧ r.2.mem ((c.tc : Thread Cert.Reference6Ideal.nD Cert.Reference6Ideal.τ).loc Cert.Reference6Ideal.main_v104) = v2 c
          ∧ r.2.mem ((c.tc : Thread Cert.Reference6Ideal.nD Cert.Reference6Ideal.τ).loc Cert.Reference6Ideal.main_v105) = v3 c
          ∧ r.2.mem ((c.tc : Thread Cert.Reference6Ideal.nD Cert.Reference6Ideal.τ).loc Cert.Reference6Ideal.main_v106) = v4 c
          ∧ r.2.mem ((c.tc : Thread Cert.Reference6Ideal.nD Cert.Reference6Ideal.τ).loc Cert.Reference6Ideal.main_v59) = v5 c
          ∧ r.2.mem ((c.tc : Thread Cert.Reference6Ideal.nD Cert.Reference6Ideal.τ).loc Cert.Reference6Ideal.main_v83) = v6 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)) (v4 : (c : Dev Cert.Kernel7Ideal.nD) → Buf (Elt Ideal) ((c.tc : Thread Cert.Kernel7Ideal.nD Cert.Kernel7Ideal.τ).loc Cert.Kernel7Ideal.main_v4_4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_v4_4) = v4 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v91) = v0 c
          ∧ r.2.mem ((c.tc : Thread Cert.Reference7Ideal.nD Cert.Reference7Ideal.τ).loc Cert.Reference7Ideal.main_v70) = v1 c
          ∧ r.2.mem ((c.tc : Thread Cert.Reference7Ideal.nD Cert.Reference7Ideal.τ).loc Cert.Reference7Ideal.main_v71) = v2 c
          ∧ r.2.mem ((c.tc : Thread Cert.Reference7Ideal.nD Cert.Reference7Ideal.τ).loc Cert.Reference7Ideal.main_v90) = v3 c
          ∧ r.2.mem ((c.tc : Thread Cert.Reference7Ideal.nD Cert.Reference7Ideal.τ).loc Cert.Reference7Ideal.main_v104) = v4 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v8_1)) (v1 : (c : Dev Cert.Kernel8Ideal.nD) → Buf (Elt Ideal) ((c.tc : Thread Cert.Kernel8Ideal.nD Cert.Kernel8Ideal.τ).loc Cert.Kernel8Ideal.main_v8_2)) (v2 : (c : Dev Cert.Kernel8Ideal.nD) → Buf (Elt Ideal) ((c.tc : Thread Cert.Kernel8Ideal.nD Cert.Kernel8Ideal.τ).loc Cert.Kernel8Ideal.main_v8_3)) (v3 : (c : Dev Cert.Kernel8Ideal.nD) → Buf (Elt Ideal) ((c.tc : Thread Cert.Kernel8Ideal.nD Cert.Kernel8Ideal.τ).loc Cert.Kernel8Ideal.main_v8_5)) (v4 : (c : Dev Cert.Kernel8Ideal.nD) → Buf (Elt Ideal) ((c.tc : Thread Cert.Kernel8Ideal.nD Cert.Kernel8Ideal.τ).loc Cert.Kernel8Ideal.main_v8_6)) (v5 : (c : Dev Cert.Kernel8Ideal.nD) → Buf (Elt Ideal) ((c.tc : Thread Cert.Kernel8Ideal.nD Cert.Kernel8Ideal.τ).loc Cert.Kernel8Ideal.main_v8_7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_1) = v0 c
          ∧ r.2.mem ((c.tc : Thread Cert.Kernel8Ideal.nD Cert.Kernel8Ideal.τ).loc Cert.Kernel8Ideal.main_v8_2) = v1 c
          ∧ r.2.mem ((c.tc : Thread Cert.Kernel8Ideal.nD Cert.Kernel8Ideal.τ).loc Cert.Kernel8Ideal.main_v8_3) = v2 c
          ∧ r.2.mem ((c.tc : Thread Cert.Kernel8Ideal.nD Cert.Kernel8Ideal.τ).loc Cert.Kernel8Ideal.main_v8_5) = v3 c
          ∧ r.2.mem ((c.tc : Thread Cert.Kernel8Ideal.nD Cert.Kernel8Ideal.τ).loc Cert.Kernel8Ideal.main_v8_6) = v4 c
          ∧ r.2.mem ((c.tc : Thread Cert.Kernel8Ideal.nD Cert.Kernel8Ideal.τ).loc Cert.Kernel8Ideal.main_v8_7) = v5 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v24) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v26) = v2 c
          ∧ r.2.mem ((c.tc : Thread Cert.Reference8Ideal.nD Cert.Reference8Ideal.τ).loc Cert.Reference8Ideal.main_v51) = v3 c
          ∧ r.2.mem ((c.tc : Thread Cert.Reference8Ideal.nD Cert.Reference8Ideal.τ).loc Cert.Reference8Ideal.main_v52) = v4 c
          ∧ r.2.mem ((c.tc : Thread Cert.Reference8Ideal.nD Cert.Reference8Ideal.τ).loc Cert.Reference8Ideal.main_v53) = v5 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v12_1)) (v1 : (c : Dev Cert.Kernel9Ideal.nD) → Buf (Elt Ideal) ((c.tc : Thread Cert.Kernel9Ideal.nD Cert.Kernel9Ideal.τ).loc Cert.Kernel9Ideal.main_v12_2)) (v2 : (c : Dev Cert.Kernel9Ideal.nD) → Buf (Elt Ideal) ((c.tc : Thread Cert.Kernel9Ideal.nD Cert.Kernel9Ideal.τ).loc Cert.Kernel9Ideal.main_v12_3)) (v3 : (c : Dev Cert.Kernel9Ideal.nD) → Buf (Elt Ideal) ((c.tc : Thread Cert.Kernel9Ideal.nD Cert.Kernel9Ideal.τ).loc Cert.Kernel9Ideal.main_v12_5)) (v4 : (c : Dev Cert.Kernel9Ideal.nD) → Buf (Elt Ideal) ((c.tc : Thread Cert.Kernel9Ideal.nD Cert.Kernel9Ideal.τ).loc Cert.Kernel9Ideal.main_v12_6)) (v5 : (c : Dev Cert.Kernel9Ideal.nD) → Buf (Elt Ideal) ((c.tc : Thread Cert.Kernel9Ideal.nD Cert.Kernel9Ideal.τ).loc Cert.Kernel9Ideal.main_v12_7)) (v6 : (c : Dev Cert.Kernel9Ideal.nD) → Buf (Elt Ideal) ((c.tc : Thread Cert.Kernel9Ideal.nD Cert.Kernel9Ideal.τ).loc Cert.Kernel9Ideal.main_v12_9)) (v7 : (c : Dev Cert.Kernel9Ideal.nD) → Buf (Elt Ideal) ((c.tc : Thread Cert.Kernel9Ideal.nD Cert.Kernel9Ideal.τ).loc Cert.Kernel9Ideal.main_v12_10)) (v8 : (c : Dev Cert.Kernel9Ideal.nD) → Buf (Elt Ideal) ((c.tc : Thread Cert.Kernel9Ideal.nD Cert.Kernel9Ideal.τ).loc Cert.Kernel9Ideal.main_v12_11)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v12_1) = v0 c
          ∧ r.2.mem ((c.tc : Thread Cert.Kernel9Ideal.nD Cert.Kernel9Ideal.τ).loc Cert.Kernel9Ideal.main_v12_2) = v1 c
          ∧ r.2.mem ((c.tc : Thread Cert.Kernel9Ideal.nD Cert.Kernel9Ideal.τ).loc Cert.Kernel9Ideal.main_v12_3) = v2 c
          ∧ r.2.mem ((c.tc : Thread Cert.Kernel9Ideal.nD Cert.Kernel9Ideal.τ).loc Cert.Kernel9Ideal.main_v12_5) = v3 c
          ∧ r.2.mem ((c.tc : Thread Cert.Kernel9Ideal.nD Cert.Kernel9Ideal.τ).loc Cert.Kernel9Ideal.main_v12_6) = v4 c
          ∧ r.2.mem ((c.tc : Thread Cert.Kernel9Ideal.nD Cert.Kernel9Ideal.τ).loc Cert.Kernel9Ideal.main_v12_7) = v5 c
          ∧ r.2.mem ((c.tc : Thread Cert.Kernel9Ideal.nD Cert.Kernel9Ideal.τ).loc Cert.Kernel9Ideal.main_v12_9) = v6 c
          ∧ r.2.mem ((c.tc : Thread Cert.Kernel9Ideal.nD Cert.Kernel9Ideal.τ).loc Cert.Kernel9Ideal.main_v12_10) = v7 c
          ∧ r.2.mem ((c.tc : Thread Cert.Kernel9Ideal.nD Cert.Kernel9Ideal.τ).loc Cert.Kernel9Ideal.main_v12_11) = v8 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v24) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_v51) = v3 c
          ∧ r.2.mem ((c.tc : Thread Cert.Reference9Ideal.nD Cert.Reference9Ideal.τ).loc Cert.Reference9Ideal.main_v52) = v4 c
          ∧ r.2.mem ((c.tc : Thread Cert.Reference9Ideal.nD Cert.Reference9Ideal.τ).loc Cert.Reference9Ideal.main_v53) = v5 c
          ∧ r.2.mem ((c.tc : Thread Cert.Reference9Ideal.nD Cert.Reference9Ideal.τ).loc Cert.Reference9Ideal.main_v78) = v6 c
          ∧ r.2.mem ((c.tc : Thread Cert.Reference9Ideal.nD Cert.Reference9Ideal.τ).loc Cert.Reference9Ideal.main_v79) = v7 c
          ∧ r.2.mem ((c.tc : Thread Cert.Reference9Ideal.nD Cert.Reference9Ideal.τ).loc Cert.Reference9Ideal.main_v80) = v8 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)) →
    ∃ (v0 : (c : Dev Cert.Kernel10Ideal.nD) → Buf (Elt Ideal) ((c.tc : Thread Cert.Kernel10Ideal.nD Cert.Kernel10Ideal.τ).loc Cert.Kernel10Ideal.main_v12_1)) (v1 : (c : Dev Cert.Kernel10Ideal.nD) → Buf (Elt Ideal) ((c.tc : Thread Cert.Kernel10Ideal.nD Cert.Kernel10Ideal.τ).loc Cert.Kernel10Ideal.main_v12_2)) (v2 : (c : Dev Cert.Kernel10Ideal.nD) → Buf (Elt Ideal) ((c.tc : Thread Cert.Kernel10Ideal.nD Cert.Kernel10Ideal.τ).loc Cert.Kernel10Ideal.main_v12_3)) (v3 : (c : Dev Cert.Kernel10Ideal.nD) → Buf (Elt Ideal) ((c.tc : Thread Cert.Kernel10Ideal.nD Cert.Kernel10Ideal.τ).loc Cert.Kernel10Ideal.main_v12_5)) (v4 : (c : Dev Cert.Kernel10Ideal.nD) → Buf (Elt Ideal) ((c.tc : Thread Cert.Kernel10Ideal.nD Cert.Kernel10Ideal.τ).loc Cert.Kernel10Ideal.main_v12_6)) (v5 : (c : Dev Cert.Kernel10Ideal.nD) → Buf (Elt Ideal) ((c.tc : Thread Cert.Kernel10Ideal.nD Cert.Kernel10Ideal.τ).loc Cert.Kernel10Ideal.main_v12_7)) (v6 : (c : Dev Cert.Kernel10Ideal.nD) → Buf (Elt Ideal) ((c.tc : Thread Cert.Kernel10Ideal.nD Cert.Kernel10Ideal.τ).loc Cert.Kernel10Ideal.main_v12_9)) (v7 : (c : Dev Cert.Kernel10Ideal.nD) → Buf (Elt Ideal) ((c.tc : Thread Cert.Kernel10Ideal.nD Cert.Kernel10Ideal.τ).loc Cert.Kernel10Ideal.main_v12_10)) (v8 : (c : Dev Cert.Kernel10Ideal.nD) → Buf (Elt Ideal) ((c.tc : Thread Cert.Kernel10Ideal.nD Cert.Kernel10Ideal.τ).loc Cert.Kernel10Ideal.main_v12_11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v12_1) = v0 c
          ∧ r.2.mem ((c.tc : Thread Cert.Kernel10Ideal.nD Cert.Kernel10Ideal.τ).loc Cert.Kernel10Ideal.main_v12_2) = v1 c
          ∧ r.2.mem ((c.tc : Thread Cert.Kernel10Ideal.nD Cert.Kernel10Ideal.τ).loc Cert.Kernel10Ideal.main_v12_3) = v2 c
          ∧ r.2.mem ((c.tc : Thread Cert.Kernel10Ideal.nD Cert.Kernel10Ideal.τ).loc Cert.Kernel10Ideal.main_v12_5) = v3 c
          ∧ r.2.mem ((c.tc : Thread Cert.Kernel10Ideal.nD Cert.Kernel10Ideal.τ).loc Cert.Kernel10Ideal.main_v12_6) = v4 c
          ∧ r.2.mem ((c.tc : Thread Cert.Kernel10Ideal.nD Cert.Kernel10Ideal.τ).loc Cert.Kernel10Ideal.main_v12_7) = v5 c
          ∧ r.2.mem ((c.tc : Thread Cert.Kernel10Ideal.nD Cert.Kernel10Ideal.τ).loc Cert.Kernel10Ideal.main_v12_9) = v6 c
          ∧ r.2.mem ((c.tc : Thread Cert.Kernel10Ideal.nD Cert.Kernel10Ideal.τ).loc Cert.Kernel10Ideal.main_v12_10) = v7 c
          ∧ r.2.mem ((c.tc : Thread Cert.Kernel10Ideal.nD Cert.Kernel10Ideal.τ).loc Cert.Kernel10Ideal.main_v12_11) = v8 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v24) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_v26) = v2 c
          ∧ r.2.mem ((c.tc : Thread Cert.Reference10Ideal.nD Cert.Reference10Ideal.τ).loc Cert.Reference10Ideal.main_v51) = v3 c
          ∧ r.2.mem ((c.tc : Thread Cert.Reference10Ideal.nD Cert.Reference10Ideal.τ).loc Cert.Reference10Ideal.main_v52) = v4 c
          ∧ r.2.mem ((c.tc : Thread Cert.Reference10Ideal.nD Cert.Reference10Ideal.τ).loc Cert.Reference10Ideal.main_v53) = v5 c
          ∧ r.2.mem ((c.tc : Thread Cert.Reference10Ideal.nD Cert.Reference10Ideal.τ).loc Cert.Reference10Ideal.main_v78) = v6 c
          ∧ r.2.mem ((c.tc : Thread Cert.Reference10Ideal.nD Cert.Reference10Ideal.τ).loc Cert.Reference10Ideal.main_v79) = v7 c
          ∧ r.2.mem ((c.tc : Thread Cert.Reference10Ideal.nD Cert.Reference10Ideal.τ).loc Cert.Reference10Ideal.main_v80) = v8 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_bwd_in_finite : Cert.Pre_bwd_in_finite.Facts) (hPre_mlp_finite : Cert.Pre_mlp_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_bwd_in_finite (hKernel5Ideal := hKernel5Ideal) (hPre_bwd_in_finite := hPre_bwd_in_finite)
    ∧ quiescent_Reference5Ideal (hReference5Ideal := hReference5Ideal)
    ∧ quiescent_Reference5Ideal_pre_bwd_in_finite (hReference5Ideal := hReference5Ideal) (hPre_bwd_in_finite := hPre_bwd_in_finite)
    ∧ quiescent_Kernel6 (hKernel6 := hKernel6)
    ∧ quiescent_Kernel6Ideal (hKernel6Ideal := hKernel6Ideal)
    ∧ quiescent_Kernel6Ideal_pre_mlp_finite (hKernel6Ideal := hKernel6Ideal) (hPre_mlp_finite := hPre_mlp_finite)
    ∧ quiescent_Reference6Ideal (hReference6Ideal := hReference6Ideal)
    ∧ quiescent_Reference6Ideal_pre_mlp_finite (hReference6Ideal := hReference6Ideal) (hPre_mlp_finite := hPre_mlp_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_bwd_in_finite (hKernel5Ideal := hKernel5Ideal) (hReference5Ideal := hReference5Ideal) (hPre_bwd_in_finite := hPre_bwd_in_finite)
    ∧ preserves_Kernel6_Kernel6Ideal
    ∧ algebraic_Kernel6Ideal_Reference6Ideal_pre_mlp_finite (hKernel6Ideal := hKernel6Ideal) (hReference6Ideal := hReference6Ideal) (hPre_mlp_finite := hPre_mlp_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_bwd_in_finite.lean ====
abbrev S4096x6144 : Shape := ⟨2, ![4096, 6144]⟩
abbrev S4096x1024 : Shape := ⟨2, ![4096, 1024]⟩
abbrev S1024x6144 : Shape := ⟨2, ![1024, 6144]⟩
abbrev S1x1024 : Shape := ⟨2, ![1, 1024]⟩
abbrev S_ : Shape := ⟨0, ![]⟩

class Facts : Prop where
  bitsLt_bf16_f32 : FTy.bits .bf16 < FTy.bits .f32
  bcast_S_S4096x6144 : S_.BroadcastsInDim S4096x6144 (![] : Fin 0 → Fin S4096x6144.rank)
  reducesTo_S4096x6144_S_d0_1 : S4096x6144.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v4 : IVec S_ 1) (main_v8 : IVec S_ 1) (main_v12 : IVec S_ 1) (main_v16 : IVec S1024x6144 1) : IVec S_ 1 :=
  let main_c_5 : IVec S_ 1 := constantI S_ 1 1#1
  let main_v17 : IVec S_ 1 := (fun x v => Host.reduce IntOp.andi x v reducesTo_S1024x6144_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : IVec S_ 1 := andi main_v4 main_v8
  let main_v23 : IVec S_ 1 := andi main_v22 main_v12
  let main_v24 : IVec S_ 1 := andi main_v23 main_v17
  let main_v25 : IVec S_ 1 := andi main_v24 main_v21
  main_v25

def fn {F : FTy → Type} [FloatOps F] (main_arg0 : FVec F S4096x6144 .bf16) (main_arg1 : FVec F S4096x1024 .f32) (main_arg2 : FVec F S4096x1024 .f32) (main_arg3 : FVec F S1024x6144 .bf16) (main_arg4 : FVec F S1x1024 .f32) : IVec S_ 1 :=
  let main_v0 : FVec F S4096x6144 .f32 := (extf .f32 · bitsLt_bf16_f32) main_arg0
  let main_v1 : FVec F S4096x6144 .f32 := Host.absf main_v0
  let main_cst : FVec F S_ .f32 := constant S_ .f32 0x7F800000#32
  let main_v2 : FVec F S4096x6144 .f32 := broadcastInDim S4096x6144 ![] bcast_S_S4096x6144 main_cst
  let main_v3 : IVec S4096x6144 1 := cmpf .olt main_v1 main_v2
  let main_c : IVec S_ 1 := constantI S_ 1 1#1
  let main_v4 : IVec S_ 1 := (fun x v => Host.reduce IntOp.andi x v reducesTo_S4096x6144_S_d0_1 h_S_) main_v3 main_c
  let main_v5 : FVec F S4096x1024 .f32 := Host.absf main_arg1
  let main_cst_0 : FVec F S_ .f32 := constant S_ .f32 0x7F800000#32
  let main_v6 : FVec F S4096x1024 .f32 := broadcastInDim S4096x1024 ![] bcast_S_S4096x1024 main_cst_0
  let main_v7 : IVec S4096x1024 1 := cmpf .olt main_v5 main_v6
  let main_c_1 : IVec S_ 1 := constantI S_ 1 1#1
  let main_v8 : IVec S_ 1 := (fun x v => Host.reduce IntOp.andi x v reducesTo_S4096x1024_S_d0_1 h_S_) main_v7 main_c_1
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : FVec F S1024x6144 .f32 := (extf .f32 · bitsLt_bf16_f32) main_arg3
  let main_v14 : FVec F S1024x6144 .f32 := Host.absf main_v13
  let main_cst_4 : FVec F S_ .f32 := constant S_ .f32 0x7F800000#32
  let main_v15 : FVec F S1024x6144 .f32 := broadcastInDim S1024x6144 ![] bcast_S_S1024x6144 main_cst_4
  let main_v16 : IVec S1024x6144 1 := cmpf .olt main_v14 main_v15
  fn_part1 (F := F) main_arg4 main_v4 main_v8 main_v12 main_v16
-- ==== Pre_mlp_finite.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S1024x4096 : S_.BroadcastsInDim S1024x4096 (![] : Fin 0 → Fin S1024x4096.rank)
  reducesTo_S1024x4096_S_d0_1 : S1024x4096.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S1x1024 .f32) (main_v3 : IVec S_ 1) (main_v7 : IVec S_ 1) (main_v12 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : FVec F S1x1024 .f32 := Host.absf main_arg4
  let main_cst_6 : FVec F S_ .f32 := constant S_ .f32 0x7F800000#32
  let main_v19 : FVec F S1x1024 .f32 := broadcastInDim S1x1024 ![] bcast_S_S1x1024 main_cst_6
  let main_v20 : IVec S1x1024 1 := cmpf .olt main_v18 main_v19
  let main_c_7 : IVec S_ 1 := constantI S_ 1 1#1
  let main_v21 : IVec S_ 1 := (fun x v => Host.reduce IntOp.andi x v reducesTo_S1x1024_S_d0_1 h_S_) main_v20 main_c_7
  let main_v22 : FVec F S1x1024 .f32 := Host.absf main_arg5
  let main_cst_8 : FVec F S_ .f32 := constant S_ .f32 0x7F800000#32
  let main_v23 : FVec F S1x1024 .f32 := broadcastInDim S1x1024 ![] bcast_S_S1x1024 main_cst_8
  let main_v24 : IVec S1x1024 1 := cmpf .olt main_v22 main_v23
  let main_c_9 : IVec S_ 1 := constantI S_ 1 1#1
  let main_v25 : IVec S_ 1 := (fun x v => Host.reduce IntOp.andi x v reducesTo_S1x1024_S_d0_1 h_S_) main_v24 main_c_9
  let main_v26 : IVec S_ 1 := andi main_v3 main_v7
  let main_v27 : IVec S_ 1 := andi main_v26 main_v12
  let main_v28 : IVec S_ 1 := andi main_v27 main_v17
  let main_v29 : IVec S_ 1 := andi main_v28 main_v21
  let main_v30 : IVec S_ 1 := andi main_v29 main_v25
  main_v30

def fn {F : FTy → Type} [FloatOps F] (main_arg0 : FVec F S4096x1024 .f32) (main_arg1 : FVec F S4096x1024 .f32) (main_arg2 : FVec F S1024x4096 .bf16) (main_arg3 : FVec F S4096x1024 .bf16) (main_arg4 : FVec F S1x1024 .f32) (main_arg5 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1024x4096 .f32 := (extf .f32 · bitsLt_bf16_f32) main_arg2
  let main_v9 : FVec F S1024x4096 .f32 := Host.absf main_v8
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : FVec F S4096x1024 .f32 := (extf .f32 · bitsLt_bf16_f32) main_arg3
  let main_v14 : FVec F S4096x1024 .f32 := Host.absf main_v13
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_v3 main_v7 main_v12 main_v16
-- ==== Kernel.lean ====
abbrev S4096x4096 : Shape := ⟨2, ![4096, 4096]⟩
abbrev S4096x1024 : Shape := ⟨2, ![4096, 1024]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | .hbm, ⟨10, _⟩ => ⟨S4x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S4x1024x1024 : Shape := ⟨3, ![4, 1024, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S4096x4096, .f32⟩
  | .hbm, ⟨4, _⟩ => ⟨S_, .f32⟩
  | .hbm, ⟨5, _⟩ => ⟨S1024x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | .hbm, ⟨10, _⟩ => ⟨S1024x4x1024, .bf16⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel3.lean ====
abbrev S4096x1024 : Shape := ⟨2, ![4096, 1024]⟩
abbrev S4096x6144 : Shape := ⟨2, ![4096, 6144]⟩
abbrev S4x1024x1536 : Shape := ⟨3, ![4, 1024, 1536]⟩
abbrev S2048x1024 : Shape := ⟨2, ![2048, 1024]⟩
abbrev S2048x1536 : Shape := ⟨2, ![2048, 1536]⟩
abbrev S1x1024x1536 : Shape := ⟨3, ![1, 1024, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4x1024x1536, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1024x1536, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x6144 : Shape := ⟨2, ![4096, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S4096x6144, .f32⟩
  | .hbm, ⟨4, _⟩ => ⟨S_, .f32⟩
  | .hbm, ⟨5, _⟩ => ⟨S1024x6144, .f32⟩
  | .hbm, ⟨6, _⟩ => ⟨S4096x6144, .f32⟩
  | .hbm, ⟨7, _⟩ => ⟨S6144x1024, .f32⟩
  | .hbm, ⟨8, _⟩ => ⟨S1024x6144, .f32⟩
  | .hbm, ⟨9, _⟩ => ⟨S1024x6144, .bf16⟩
  | .hbm, ⟨10, _⟩ => ⟨S1024x4x1536, .bf16⟩
  | .hbm, ⟨11, _⟩ => ⟨S4x1024x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S1024x1024 : Shape := ⟨2, ![1024, 1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def k0_cond3 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_6 : BitVec 32 := 0#32
  let v11 : BitVec 1 := Scalar.cmpi .ne v10 c0_i32_6
  v11

def k0_cond6 (i : grid0.Coords) : BitVec 1 :=
  let arg0 : BitVec 32 := BitVec.ofNat 32 (i 0).val
  let c3_i32_16 : BitVec 32 := 3#32
  let v21 : BitVec 1 := Scalar.cmpi .eq arg0 c3_i32_16
  let v22 : BitVec 32 := Scalar.extui v21
  let c0_i32_17 : BitVec 32 := 0#32
  let v23 : BitVec 1 := Scalar.cmpi .ne v22 c0_i32_17
  v23

def k0_cond9 (i : grid0.Coords) : BitVec 1 :=
  let arg0 : BitVec 32 := BitVec.ofNat 32 (i 0).val
  let c3_i32_27 : BitVec 32 := 3#32
  let v33 : BitVec 1 := Scalar.cmpi .eq arg0 c3_i32_27
  let v34 : BitVec 32 := Scalar.extui v33
  let c0_i32_28 : BitVec 32 := 0#32
  let v35 : BitVec 1 := Scalar.cmpi .ne v34 c0_i32_28
  v35

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference4Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S1024x1024, .f32⟩
  | .hbm, ⟨10, _⟩ => ⟨S4096x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S1024x1024, .f32⟩
  | .hbm, ⟨18, _⟩ => ⟨S4096x1024, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024x1024, .f32⟩
  | .hbm, ⟨26, _⟩ => ⟨S4096x1024, .f32⟩
  | .hbm, ⟨27, _⟩ => ⟨S1024x1024, .f32⟩
  | .hbm, ⟨28, _⟩ => ⟨S1024x1024, .f32⟩
  | .hbm, ⟨29, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S4096x6144 : Shape := ⟨2, ![4096, 6144]⟩
abbrev S4096x1024 : Shape := ⟨2, ![4096, 1024]⟩
abbrev S1024x6144 : Shape := ⟨2, ![1024, 6144]⟩
abbrev S1x1024 : Shape := ⟨2, ![1, 1024]⟩
abbrev S1024x4x1536 : Shape := ⟨3, ![1024, 4, 1536]⟩
abbrev S4x1024x1536 : Shape := ⟨3, ![4, 1024, 1536]⟩
abbrev S512x6144 : Shape := ⟨2, ![512, 6144]⟩
abbrev S512x1024 : Shape := ⟨2, ![512, 1024]⟩
abbrev S512x1536 : Shape := ⟨2, ![512, 1536]⟩
abbrev S1x1024x1536 : Shape := ⟨3, ![1, 1024, 1536]⟩
abbrev S1024x1536 : Shape := ⟨2, ![1024, 1536]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .f32⟩
  | .hbm, ⟨2, _⟩ => ⟨S4096x1024, .f32⟩
  | .hbm, ⟨3, _⟩ => ⟨S1024x6144, .bf16⟩
  | .hbm, ⟨4, _⟩ => ⟨S1x1024, .f32⟩
  | .hbm, ⟨5, _⟩ => ⟨S1024x4x1536, .bf16⟩
  | .hbm, ⟨6, _⟩ => ⟨S4x1024x1536, .bf16⟩
  | .hbm, ⟨7, _⟩ => ⟨S4096x1024, .f32⟩
  | .hbm, ⟨8, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S4x1024x1536, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S4096x6144 : Shape := ⟨2, ![4096, 6144]⟩
abbrev S4096x1024 : Shape := ⟨2, ![4096, 1024]⟩
abbrev S1024x6144 : Shape := ⟨2, ![1024, 6144]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .f32⟩
  | .hbm, ⟨2, _⟩ => ⟨S4096x1024, .f32⟩
  | .hbm, ⟨3, _⟩ => ⟨S1024x6144, .bf16⟩
  | .hbm, ⟨4, _⟩ => ⟨S1x1024, .f32⟩
  | .hbm, ⟨5, _⟩ => ⟨S1024x6144, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x6144, .f32⟩
  | .hbm, ⟨26, _⟩ => ⟨S4096x6144, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel6.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S8x128 : Shape := ⟨2, ![8, 128]⟩
abbrev S256x1024 : Shape := ⟨2, ![256, 1024]⟩
abbrev S256x4096 : Shape := ⟨2, ![256, 4096]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 31
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x4096, .bf16⟩
  | .hbm, ⟨3, _⟩ => ⟨S4096x1024, .bf16⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S1024x4x1024, .bf16⟩
  | .hbm, ⟨23, _⟩ => ⟨S4x1024x1024, .bf16⟩
  | .hbm, ⟨24, _⟩ => ⟨S4096x4096, .bf16⟩
  | .hbm, ⟨25, _⟩ => ⟨S4096x4096, .bf16⟩
  | .hbm, ⟨26, _⟩ => ⟨S4096x1024, .bf16⟩
  | .hbm, ⟨27, _⟩ => ⟨S4096x1024, .f32⟩
  | .hbm, ⟨28, _⟩ => ⟨S8x128, .f32⟩
  | .hbm, ⟨29, _⟩ => ⟨S1x1024, .f32⟩
  | .hbm, ⟨30, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4x1024x1024, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S256x4096, .bf16⟩
  | .local _ .vmem, ⟨11, _⟩ => ⟨S256x4096, .bf16⟩
  | .local _ .vmem, ⟨12, _⟩ => ⟨S256x4096, .bf16⟩
  | .local _ .vmem, ⟨13, _⟩ => ⟨S256x4096, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .f32⟩
  | .local _ .vmem, ⟨17, _⟩ => ⟨S256x1024, .f32⟩
  | .local _ .vmem, ⟨18, _⟩ => ⟨S8x128, .f32⟩
  | .local _ .vmem, ⟨19, _⟩ => ⟨S1x1024, .f32⟩
  | .local _ .vmem, ⟨20, _⟩ => ⟨S1x1024, .f32⟩
  | .local _ .vmem, ⟨21, _⟩ => ⟨S256x4096, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v15_2 : Ref sig .tc := ⟨.hbm, 26, rfl⟩
abbrev main_v15_3 : Ref sig .tc := ⟨.hbm, 27, rfl⟩
abbrev main_v15_4 : Ref sig .tc := ⟨.hbm, 28, rfl⟩
abbrev main_v15_5 : Ref sig .tc := ⟨.hbm, 29, rfl⟩
abbrev main_v15_6 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference6Ideal.lean ====
abbrev S4096x1024 : Shape := ⟨2, ![4096, 1024]⟩
abbrev S1024x4096 : Shape := ⟨2, ![1024, 4096]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S8x128 : Shape := ⟨2, ![8, 128]⟩

abbrev nBuf : Space → Nat
  | .hbm => 145
  | .vmem => 0
  | .smem => 0
  | _ => 0

abbrev hbmTy0_0 (i : Nat) : BufTy := match i % 128 with
  | 0 => ⟨S4096x1024, .f32⟩
  | 1 => ⟨S4096x1024, .f32⟩
  | 2 => ⟨S1024x4096, .bf16⟩
  | 3 => ⟨S4096x1024, .bf16⟩
  | 4 => ⟨S1x1024, .f32⟩
  | 5 => ⟨S1x1024, .f32⟩
  | 6 => ⟨S1024x4096, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x4096, .f32⟩
  | 28 => ⟨S_, .f32⟩
  | 29 => ⟨S4096x4096, .f32⟩
  | 30 => ⟨S4096x4096, .f32⟩
  | 31 => ⟨S_, .f32⟩
  | 32 => ⟨S4096x4096, .f32⟩
  | 33 => ⟨S4096x4096, .i1⟩
  | 34 => ⟨S_, .f32⟩
  | 35 => ⟨S4096x4096, .f32⟩
  | 36 => ⟨S4096x4096, .f32⟩
  | 37 => ⟨S_, .f32⟩
  | 38 => ⟨S4096x4096, .f32⟩
  | 39 => ⟨S4096x4096, .f32⟩
  | 40 => ⟨S4096x1024, .f32⟩
  | 41 => ⟨S4096x1024, .f32⟩
  | 42 => ⟨S4096x1024, .f32⟩
  | 43 => ⟨S_, .f32⟩
  | 44 => ⟨S4096, .f32⟩
  | 45 => ⟨S4096x1, .f32⟩
  | 46 => ⟨S_, .f32⟩
  | 47 => ⟨S4096x1, .f32⟩
  | 48 => ⟨S4096x1, .f32⟩
  | 49 => ⟨S_, .f32⟩
  | 50 => ⟨S4096x1, .f32⟩
  | 51 => ⟨S4096x1, .f32⟩
  | 52 => ⟨S4096x1, .f32⟩
  | 53 => ⟨S4096x1, .f32⟩
  | 54 => ⟨S_, .f32⟩
  | 55 => ⟨S4096x1, .f32⟩
  | 56 => ⟨S4096x1, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S_, .f32⟩
  | 64 => ⟨S4096x1024, .f32⟩
  | 65 => ⟨S4096x1024, .f32⟩
  | 66 => ⟨S_, .f32⟩
  | 67 => ⟨S4096, .f32⟩
  | 68 => ⟨S_, .f32⟩
  | 69 => ⟨S4096, .f32⟩
  | 70 => ⟨S4096, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S4096, .f32⟩
  | 79 => ⟨S_, .f32⟩
  | 80 => ⟨S4096, .f32⟩
  | 81 => ⟨S4096, .f32⟩
  | 82 => ⟨S4096x1024, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S4096x1024, .f32⟩
  | 89 => ⟨S4096x1024, .f32⟩
  | 90 => ⟨S4096x1024, .f32⟩
  | 91 => ⟨S_, .f32⟩
  | 92 => ⟨S4096, .f32⟩
  | 93 => ⟨S4096x1, .f32⟩
  | 94 => ⟨S4096x1024, .f32⟩
  | 95 => ⟨S4096x1024, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x4096, .f32⟩
  | 108 => ⟨S4096x4096, .f32⟩
  | 109 => ⟨S_, .f32⟩
  | 110 => ⟨S4096x4096, .f32⟩
  | 111 => ⟨S4096x4096, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S4096x1024, .f32⟩
  | 120 => ⟨S_, .f32⟩
  | 121 => ⟨S4096, .f32⟩
  | 122 => ⟨S4096x1, .f32⟩
  | 123 => ⟨S4096x1024, .f32⟩
  | 124 => ⟨S4096x1024, .f32⟩
  | 125 => ⟨S4096x1, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S_, .f32⟩
  | 2 => ⟨S4096, .f32⟩
  | 3 => ⟨S4096x1024, .f32⟩
  | 4 => ⟨S4096x1024, .f32⟩
  | 5 => ⟨S4096x1024, .f32⟩
  | 6 => ⟨S4096x1024, .f32⟩
  | 7 => ⟨S4096x1024, .f32⟩
  | 8 => ⟨S_, .f32⟩
  | 9 => ⟨S4096x4096, .f32⟩
  | 10 => ⟨S4096x4096, .f32⟩
  | 11 => ⟨S4096x4096, .f32⟩
  | 12 => ⟨S4096x4096, .bf16⟩
  | 13 => ⟨S4096x4096, .bf16⟩
  | 14 => ⟨S4096x1024, .bf16⟩
  | 15 => ⟨S4096x1024, .f32⟩
  | 16 => ⟨S8x128, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_cst_7 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_9 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_cst_14 : Ref sig .tc := ⟨.hbm, 73, rfl⟩
abbrev main_v50 : Ref sig .tc := ⟨.hbm, 74, rfl⟩
abbrev main_cst_15 : Ref sig .tc := ⟨.hbm, 75, rfl⟩
abbrev main_cst_16 : Ref sig .tc := ⟨.hbm, 76, rfl⟩
abbrev main_v51 : Ref sig .tc := ⟨.hbm, 77, rfl⟩
abbrev main_v52 : Ref sig .tc := ⟨.hbm, 78, rfl⟩
abbrev main_cst_17 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_18 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_19 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_cst_20 : Ref sig .tc := ⟨.hbm, 97, rfl⟩
abbrev main_v68 : Ref sig .tc := ⟨.hbm, 98, rfl⟩
abbrev main_v69 : Ref sig .tc := ⟨.hbm, 99, rfl⟩
abbrev main_cst_21 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_cst_22 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_23 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_24 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_25 : Ref sig .tc := ⟨.hbm, 126, rfl⟩
abbrev main_v92 : Ref sig .tc := ⟨.hbm, 127, rfl⟩
abbrev main_v93 : Ref sig .tc := ⟨.hbm, 128, rfl⟩
abbrev main_cst_26 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_call1_cst : Ref sig .tc := ⟨.hbm, 136, rfl⟩
abbrev main_call1_v0 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩

abbrev nD : Nat := 1
abbrev τ : Topo := Topo.v7x

variable {F : FTy → Type} [FloatOps F]
-- ==== Kernel7.lean ====
abbrev S4096x1024 : Shape := ⟨2, ![4096, 1024]⟩
abbrev S4096x6144 : Shape := ⟨2, ![4096, 6144]⟩
abbrev S1x1024 : Shape := ⟨2, ![1, 1024]⟩
abbrev S4x128x128 : Shape := ⟨3, ![4, 128, 128]⟩
abbrev S4x128 : Shape := ⟨2, ![4, 128]⟩
abbrev S1024x1024 : Shape := ⟨2, ![1024, 1024]⟩
abbrev S128x4 : Shape := ⟨2, ![128, 4]⟩
abbrev S128x4x1 : Shape := ⟨3, ![128, 4, 1]⟩
abbrev S128x4x256 : Shape := ⟨3, ![128, 4, 256]⟩
abbrev S128x1024 : Shape := ⟨2, ![128, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 20
  | .vmem => 28
  | .smem => 0
  | _ => 0

abbrev bufTy : (tb : Table) → Fin (tcTables nBuf tb) → BufTy
  | .hbm, ⟨0, _⟩ => ⟨S4096x1024, .bf16⟩
  | .hbm, ⟨1, _⟩ => ⟨S4096x6144, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4x128x128, .f32⟩
  | .hbm, ⟨6, _⟩ => ⟨S4x128, .f32⟩
  | .hbm, ⟨7, _⟩ => ⟨S1024x1024, .bf16⟩
  | .hbm, ⟨8, _⟩ => ⟨S1024x1024, .bf16⟩
  | .hbm, ⟨9, _⟩ => ⟨S1024x1024, .bf16⟩
  | .hbm, ⟨10, _⟩ => ⟨S1x1024, .f32⟩
  | .hbm, ⟨11, _⟩ => ⟨S128x4, .f32⟩
  | .hbm, ⟨12, _⟩ => ⟨S128x4x1, .f32⟩
  | .hbm, ⟨13, _⟩ => ⟨S128x4x256, .f32⟩
  | .hbm, ⟨14, _⟩ => ⟨S128x1024, .f32⟩
  | .hbm, ⟨15, _⟩ => ⟨S4096x1024, .bf16⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x2048, .bf16⟩
  | .local _ .vmem, ⟨7, _⟩ => ⟨S256x2048, .bf16⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S4x128x128, .f32⟩
  | .local _ .vmem, ⟨13, _⟩ => ⟨S128x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev main_v4_3 : Ref sig .tc := ⟨.hbm, 18, rfl⟩
abbrev main_v4_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference7Ideal.lean ====
abbrev S4096x1024 : Shape := ⟨2, ![4096, 1024]⟩
abbrev S4096x6144 : Shape := ⟨2, ![4096, 6144]⟩
abbrev S1x1024 : Shape := ⟨2, ![1, 1024]⟩
abbrev S4x128x128 : Shape := ⟨3, ![4, 128, 128]⟩
abbrev S4x128 : Shape := ⟨2, ![4, 128]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S32x128x4x256 : Shape := ⟨4, ![32, 128, 4, 256]⟩
abbrev S128x128 : Shape := ⟨2, ![128, 128]⟩
abbrev S1x128x128 : Shape := ⟨3, ![1, 128, 128]⟩
abbrev S4x32x256x128 : Shape := ⟨4, ![4, 32, 256, 128]⟩
abbrev S128x4 : Shape := ⟨2, ![128, 4]⟩
abbrev S128x4x1 : Shape := ⟨3, ![128, 4, 1]⟩
abbrev S1x128x4x1 : Shape := ⟨4, ![1, 128, 4, 1]⟩

abbrev nBuf : Space → Nat
  | .hbm => 145
  | .vmem => 0
  | .smem => 0
  | _ => 0

abbrev hbmTy0_0 (i : Nat) : BufTy := match i % 128 with
  | 0 => ⟨S4096x1024, .bf16⟩
  | 1 => ⟨S4096x6144, .bf16⟩
  | 2 => ⟨S4096x1024, .f32⟩
  | 3 => ⟨S1x1024, .f32⟩
  | 4 => ⟨S1x1024, .f32⟩
  | 5 => ⟨S4x128x128, .f32⟩
  | 6 => ⟨S4x128, .f32⟩
  | 7 => ⟨S1024x1024, .bf16⟩
  | 8 => ⟨S1024x1024, .bf16⟩
  | 9 => ⟨S1024x1024, .bf16⟩
  | 10 => ⟨S1x1024, .f32⟩
  | 11 => ⟨S4096x1024, .f32⟩
  | 12 => ⟨S4096x6144, .f32⟩
  | 13 => ⟨S1024x1024, .f32⟩
  | 14 => ⟨S1024x1024, .f32⟩
  | 15 => ⟨S1024x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S4096x1024, .f32⟩
  | 22 => ⟨S_, .f32⟩
  | 23 => ⟨S4096x1024, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S_, .f32⟩
  | 49 => ⟨S4096x1024, .f32⟩
  | 50 => ⟨S4096x1024, .f32⟩
  | 51 => ⟨S4096x1024, .f32⟩
  | 52 => ⟨S_, .f32⟩
  | 53 => ⟨S4096, .f32⟩
  | 54 => ⟨S4096x1, .f32⟩
  | 55 => ⟨S_, .f32⟩
  | 56 => ⟨S4096x1, .f32⟩
  | 57 => ⟨S4096x1, .f32⟩
  | 58 => ⟨S4096x1024, .f32⟩
  | 59 => ⟨S4096x1024, .f32⟩
  | 60 => ⟨S4096x1024, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S4096x1024, .f32⟩
  | 68 => ⟨S4096x1024, .f32⟩
  | 69 => ⟨S_, .f32⟩
  | 70 => ⟨S4096x1, .f32⟩
  | 71 => ⟨S4096x1, .f32⟩
  | 72 => ⟨S4096x1, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S32x128x4x256, .f32⟩
  | 80 => ⟨S_, .f32⟩
  | 81 => ⟨S128x128, .f32⟩
  | 82 => ⟨S128x128, .i32⟩
  | 83 => ⟨S_, .i32⟩
  | 84 => ⟨S128x128, .i32⟩
  | 85 => ⟨S128x128, .i32⟩
  | 86 => ⟨S128x128, .i32⟩
  | 87 => ⟨S128x128, .i1⟩
  | 88 => ⟨S_, .f32⟩
  | 89 => ⟨S128x128, .f32⟩
  | 90 => ⟨S128x128, .f32⟩
  | 91 => ⟨S1x128x128, .f32⟩
  | 92 => ⟨S4x128x128, .f32⟩
  | 93 => ⟨S4x128x128, .f32⟩
  | 94 => ⟨S4x32x256x128, .f32⟩
  | 95 => ⟨S32x128x4x256, .f32⟩
  | 96 => ⟨S128x4, .f32⟩
  | 97 => ⟨S128x4x1, .f32⟩
  | 98 => ⟨S1x128x4x1, .f32⟩
  | 99 => ⟨S32x128x4x256, .f32⟩
  | 100 => ⟨S32x128x4x256, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S_, .f32⟩
  | 109 => ⟨S4096x1024, .f32⟩
  | 110 => ⟨S4096x1024, .f32⟩
  | 111 => ⟨S_, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S_, .f32⟩
  | 119 => ⟨S4096x1024, .f32⟩
  | 120 => ⟨S4096x1024, .f32⟩
  | 121 => ⟨S_, .f32⟩
  | 122 => ⟨S4096x1024, .f32⟩
  | 123 => ⟨S4096x1024, .f32⟩
  | 124 => ⟨S4096x1024, .f32⟩
  | 125 => ⟨S4096x1024, .f32⟩
  | 126 => ⟨S4096x1024, .f32⟩
  | 127 => ⟨S4096x1024, .f32⟩
  | _ => ⟨S4096x1024, .bf16⟩

abbrev hbmTy0_1 (i : Nat) : BufTy := match i % 128 with
  | 0 => ⟨S4096x1024, .bf16⟩
  | 1 => ⟨S4096x1024, .f32⟩
  | 2 => ⟨S_, .f32⟩
  | 3 => ⟨S4096, .f32⟩
  | 4 => ⟨S4096x1, .f32⟩
  | 5 => ⟨S_, .f32⟩
  | 6 => ⟨S4096x1, .f32⟩
  | 7 => ⟨S4096x1, .f32⟩
  | 8 => ⟨S_, .f32⟩
  | 9 => ⟨S4096x1, .f32⟩
  | 10 => ⟨S4096x1, .f32⟩
  | 11 => ⟨S4096x1, .f32⟩
  | 12 => ⟨S4096x1024, .f32⟩
  | 13 => ⟨S4096x1024, .f32⟩
  | 14 => ⟨S4096x1024, .f32⟩
  | 15 => ⟨S4096x1024, .f32⟩
  | 16 => ⟨S4096x1024, .bf16⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_5 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_cst_10 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_cst : Ref sig .tc := ⟨.hbm, 88, rfl⟩
abbrev main_call0_v5 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_v76 : Ref sig .tc := ⟨.hbm, 110, rfl⟩
abbrev main_cst_14 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_15 : Ref sig .tc := ⟨.hbm, 118, rfl⟩
abbrev main_v83 : Ref sig .tc := ⟨.hbm, 119, rfl⟩
abbrev main_v84 : Ref sig .tc := ⟨.hbm, 120, rfl⟩
abbrev main_cst_16 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_17 : Ref sig .tc := ⟨.hbm, 130, rfl⟩
abbrev main_v93 : Ref sig .tc := ⟨.hbm, 131, rfl⟩
abbrev main_v94 : Ref sig .tc := ⟨.hbm, 132, rfl⟩
abbrev main_cst_18 : Ref sig .tc := ⟨.hbm, 133, rfl⟩
abbrev main_v95 : Ref sig .tc := ⟨.hbm, 134, rfl⟩
abbrev main_v96 : Ref sig .tc := ⟨.hbm, 135, rfl⟩
abbrev main_cst_19 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩

abbrev nD : Nat := 1
abbrev τ : Topo := Topo.v7x

variable {F : FTy → Type} [FloatOps F]
-- ==== Kernel8.lean ====
abbrev S1x1024x1024 : Shape := ⟨3, ![1, 1024, 1024]⟩
abbrev S1024x1024 : Shape := ⟨2, ![1024, 1024]⟩
abbrev S256x1024 : Shape := ⟨2, ![256, 1024]⟩

abbrev nBuf : Space → Nat
  | .hbm => 24
  | .vmem => 32
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel8Ideal.lean ====
abbrev S1x1024x1024 : Shape := ⟨3, ![1, 1024, 1024]⟩
abbrev S1024x1024 : Shape := ⟨2, ![1024, 1024]⟩
abbrev S256x1024 : Shape := ⟨2, ![256, 1024]⟩

abbrev nBuf : Space → Nat
  | .hbm => 24
  | .vmem => 32
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x1024, .f32⟩
  | .local _ .vmem, ⟨31, _⟩ => ⟨S256x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v8_5 : Ref sig .tc := ⟨.hbm, 21, rfl⟩
abbrev main_v8_6 : Ref sig .tc := ⟨.hbm, 22, rfl⟩
abbrev main_v8_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference8Ideal.lean ====
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 80
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1x1024x1024, .f32⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .hbm, ⟨8, _⟩ => ⟨S_, .f32⟩
  | .hbm, ⟨9, _⟩ => ⟨S1x1024x1024, .f32⟩
  | .hbm, ⟨10, _⟩ => ⟨S1x1024x1024, .f32⟩
  | .hbm, ⟨11, _⟩ => ⟨S_, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S_, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S_, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S_, .f32⟩
  | .hbm, ⟨24, _⟩ => ⟨S1x1024x1024, .f32⟩
  | .hbm, ⟨25, _⟩ => ⟨S1x1024x1024, .f32⟩
  | .hbm, ⟨26, _⟩ => ⟨S_, .f32⟩
  | .hbm, ⟨27, _⟩ => ⟨S1x1024x1024, .f32⟩
  | .hbm, ⟨28, _⟩ => ⟨S1x1024x1024, .f32⟩
  | .hbm, ⟨29, _⟩ => ⟨S1x1024x1024, .f32⟩
  | .hbm, ⟨30, _⟩ => ⟨S_, .f32⟩
  | .hbm, ⟨31, _⟩ => ⟨S1x1024x1024, .f32⟩
  | .hbm, ⟨32, _⟩ => ⟨S1x1024x1024, .f32⟩
  | .hbm, ⟨33, _⟩ => ⟨S1x1024x1024, .f32⟩
  | .hbm, ⟨34, _⟩ => ⟨S_, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S_, .f32⟩
  | .hbm, ⟨39, _⟩ => ⟨S1x1024x1024, .f32⟩
  | .hbm, ⟨40, _⟩ => ⟨S1x1024x1024, .f32⟩
  | .hbm, ⟨41, _⟩ => ⟨S1024x1024, .f32⟩
  | .hbm, ⟨42, _⟩ => ⟨S1024x1024, .f32⟩
  | .hbm, ⟨43, _⟩ => ⟨S1024x1024, .f32⟩
  | .hbm, ⟨44, _⟩ => ⟨S_, .f32⟩
  | .hbm, ⟨45, _⟩ => ⟨S1x1024x1024, .f32⟩
  | .hbm, ⟨46, _⟩ => ⟨S1x1024x1024, .f32⟩
  | .hbm, ⟨47, _⟩ => ⟨S_, .f32⟩
  | .hbm, ⟨48, _⟩ => ⟨S1x1024x1024, .f32⟩
  | .hbm, ⟨49, _⟩ => ⟨S1x1024x1024, .f32⟩
  | .hbm, ⟨50, _⟩ => ⟨S1x1024x1024, .f32⟩
  | .hbm, ⟨51, _⟩ => ⟨S_, .f32⟩
  | .hbm, ⟨52, _⟩ => ⟨S1x1024x1024, .f32⟩
  | .hbm, ⟨53, _⟩ => ⟨S1x1024x1024, .f32⟩
  | .hbm, ⟨54, _⟩ => ⟨S1x1024x1024, .f32⟩
  | .hbm, ⟨55, _⟩ => ⟨S_, .f32⟩
  | .hbm, ⟨56, _⟩ => ⟨S1x1024x1024, .f32⟩
  | .hbm, ⟨57, _⟩ => ⟨S1x1024x1024, .f32⟩
  | .hbm, ⟨58, _⟩ => ⟨S1x1024x1024, .f32⟩
  | .hbm, ⟨59, _⟩ => ⟨S_, .f32⟩
  | .hbm, ⟨60, _⟩ => ⟨S1x1024x1024, .f32⟩
  | .hbm, ⟨61, _⟩ => ⟨S1x1024x1024, .f32⟩
  | .hbm, ⟨62, _⟩ => ⟨S_, .f32⟩
  | .hbm, ⟨63, _⟩ => ⟨S1x1024x1024, .f32⟩
  | .hbm, ⟨64, _⟩ => ⟨S1x1024x1024, .f32⟩
  | .hbm, ⟨65, _⟩ => ⟨S1x1024x1024, .f32⟩
  | .hbm, ⟨66, _⟩ => ⟨S_, .f32⟩
  | .hbm, ⟨67, _⟩ => ⟨S1x1024x1024, .f32⟩
  | .hbm, ⟨68, _⟩ => ⟨S1x1024x1024, .f32⟩
  | .hbm, ⟨69, _⟩ => ⟨S1x1024x1024, .f32⟩
  | .hbm, ⟨70, _⟩ => ⟨S_, .f32⟩
  | .hbm, ⟨71, _⟩ => ⟨S1x1024x1024, .f32⟩
  | .hbm, ⟨72, _⟩ => ⟨S1x1024x1024, .f32⟩
  | .hbm, ⟨73, _⟩ => ⟨S1x1024x1024, .f32⟩
  | .hbm, ⟨74, _⟩ => ⟨S_, .f32⟩
  | .hbm, ⟨75, _⟩ => ⟨S1x1024x1024, .f32⟩
  | .hbm, ⟨76, _⟩ => ⟨S1x1024x1024, .f32⟩
  | .hbm, ⟨77, _⟩ => ⟨S1024x1024, .f32⟩
  | .hbm, ⟨78, _⟩ => ⟨S1024x1024, .f32⟩
  | .hbm, ⟨79, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_7 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_cst_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩
abbrev main_v39 : Ref sig .tc := ⟨.hbm, 61, rfl⟩
abbrev main_cst_13 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_14 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_15 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_16 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩

abbrev nD : Nat := 1
abbrev τ : Topo := Topo.v7x

variable {F : FTy → Type} [FloatOps F]
-- ==== Kernel9.lean ====
abbrev S1x256x1024 : Shape := ⟨3, ![1, 256, 1024]⟩
abbrev S256x1024 : Shape := ⟨2, ![256, 1024]⟩
abbrev S64x1024 : Shape := ⟨2, ![64, 1024]⟩

abbrev nBuf : Space → Nat
  | .hbm => 36
  | .vmem => 48
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev main_v12_9 : Ref sig .tc := ⟨.hbm, 33, rfl⟩
abbrev main_v12_10 : Ref sig .tc := ⟨.hbm, 34, rfl⟩
abbrev main_v12_11 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Kernel9Ideal.lean ====
abbrev S1x256x1024 : Shape := ⟨3, ![1, 256, 1024]⟩
abbrev S256x1024 : Shape := ⟨2, ![256, 1024]⟩
abbrev S64x1024 : Shape := ⟨2, ![64, 1024]⟩

abbrev nBuf : Space → Nat
  | .hbm => 36
  | .vmem => 48
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | .local _ .vmem, ⟨24, _⟩ => ⟨S64x1024, .f32⟩
  | .local _ .vmem, ⟨25, _⟩ => ⟨S64x1024, .f32⟩
  | .local _ .vmem, ⟨26, _⟩ => ⟨S64x1024, .f32⟩
  | .local _ .vmem, ⟨27, _⟩ => ⟨S64x1024, .f32⟩
  | .local _ .vmem, ⟨28, _⟩ => ⟨S64x1024, .f32⟩
  | .local _ .vmem, ⟨29, _⟩ => ⟨S64x1024, .f32⟩
  | .local _ .vmem, ⟨30, _⟩ => ⟨S64x1024, .f32⟩
  | .local _ .vmem, ⟨31, _⟩ => ⟨S64x1024, .f32⟩
  | .local _ .vmem, ⟨32, _⟩ => ⟨S64x1024, .f32⟩
  | .local _ .vmem, ⟨33, _⟩ => ⟨S64x1024, .f32⟩
  | .local _ .vmem, ⟨34, _⟩ => ⟨S64x1024, .f32⟩
  | .local _ .vmem, ⟨35, _⟩ => ⟨S64x1024, .f32⟩
  | .local _ .vmem, ⟨36, _⟩ => ⟨S64x1024, .f32⟩
  | .local _ .vmem, ⟨37, _⟩ => ⟨S64x1024, .f32⟩
  | .local _ .vmem, ⟨38, _⟩ => ⟨S64x1024, .f32⟩
  | .local _ .vmem, ⟨39, _⟩ => ⟨S64x1024, .f32⟩
  | .local _ .vmem, ⟨40, _⟩ => ⟨S64x1024, .f32⟩
  | .local _ .vmem, ⟨41, _⟩ => ⟨S64x1024, .f32⟩
  | .local _ .vmem, ⟨42, _⟩ => ⟨S64x1024, .f32⟩
  | .local _ .vmem, ⟨43, _⟩ => ⟨S64x1024, .f32⟩
  | .local _ .vmem, ⟨44, _⟩ => ⟨S64x1024, .f32⟩
  | .local _ .vmem, ⟨45, _⟩ => ⟨S64x1024, .f32⟩
  | .local _ .vmem, ⟨46, _⟩ => ⟨S64x1024, .f32⟩
  | .local _ .vmem, ⟨47, _⟩ => ⟨S64x1024, .f32⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev main_v12_9 : Ref sig .tc := ⟨.hbm, 33, rfl⟩
abbrev main_v12_10 : Ref sig .tc := ⟨.hbm, 34, rfl⟩
abbrev main_v12_11 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference9Ideal.lean ====
abbrev S1x256x1024 : Shape := ⟨3, ![1, 256, 1024]⟩
abbrev S_ : Shape := ⟨0, ![]⟩
abbrev S256x1024 : Shape := ⟨2, ![256, 1024]⟩

abbrev nBuf : Space → Nat
  | .hbm => 120
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1x256x1024, .f32⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S1x256x1024, .f32⟩
  | .hbm, ⟨12, _⟩ => ⟨S_, .f32⟩
  | .hbm, ⟨13, _⟩ => ⟨S1x256x1024, .f32⟩
  | .hbm, ⟨14, _⟩ => ⟨S1x256x1024, .f32⟩
  | .hbm, ⟨15, _⟩ => ⟨S_, .f32⟩
  | .hbm, ⟨16, _⟩ => ⟨S1x256x1024, .f32⟩
  | .hbm, ⟨17, _⟩ => ⟨S1x256x1024, .f32⟩
  | .hbm, ⟨18, _⟩ => ⟨S1x256x1024, .f32⟩
  | .hbm, ⟨19, _⟩ => ⟨S_, .f32⟩
  | .hbm, ⟨20, _⟩ => ⟨S1x256x1024, .f32⟩
  | .hbm, ⟨21, _⟩ => ⟨S1x256x1024, .f32⟩
  | .hbm, ⟨22, _⟩ => ⟨S1x256x1024, .f32⟩
  | .hbm, ⟨23, _⟩ => ⟨S_, .f32⟩
  | .hbm, ⟨24, _⟩ => ⟨S1x256x1024, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S_, .f32⟩
  | .hbm, ⟨31, _⟩ => ⟨S1x256x1024, .f32⟩
  | .hbm, ⟨32, _⟩ => ⟨S1x256x1024, .f32⟩
  | .hbm, ⟨33, _⟩ => ⟨S1x256x1024, .f32⟩
  | .hbm, ⟨34, _⟩ => ⟨S_, .f32⟩
  | .hbm, ⟨35, _⟩ => ⟨S1x256x1024, .f32⟩
  | .hbm, ⟨36, _⟩ => ⟨S1x256x1024, .f32⟩
  | .hbm, ⟨37, _⟩ => ⟨S1x256x1024, .f32⟩
  | .hbm, ⟨38, _⟩ => ⟨S_, .f32⟩
  | .hbm, ⟨39, _⟩ => ⟨S1x256x1024, .f32⟩
  | .hbm, ⟨40, _⟩ => ⟨S1x256x1024, .f32⟩
  | .hbm, ⟨41, _⟩ => ⟨S1x256x1024, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S_, .f32⟩
  | .hbm, ⟨49, _⟩ => ⟨S1x256x1024, .f32⟩
  | .hbm, ⟨50, _⟩ => ⟨S1x256x1024, .f32⟩
  | .hbm, ⟨51, _⟩ => ⟨S_, .f32⟩
  | .hbm, ⟨52, _⟩ => ⟨S1x256x1024, .f32⟩
  | .hbm, ⟨53, _⟩ => ⟨S1x256x1024, .f32⟩
  | .hbm, ⟨54, _⟩ => ⟨S1x256x1024, .f32⟩
  | .hbm, ⟨55, _⟩ => ⟨S_, .f32⟩
  | .hbm, ⟨56, _⟩ => ⟨S1x256x1024, .f32⟩
  | .hbm, ⟨57, _⟩ => ⟨S1x256x1024, .f32⟩
  | .hbm, ⟨58, _⟩ => ⟨S1x256x1024, .f32⟩
  | .hbm, ⟨59, _⟩ => ⟨S_, .f32⟩
  | .hbm, ⟨60, _⟩ => ⟨S1x256x1024, .f32⟩
  | .hbm, ⟨61, _⟩ => ⟨S1x256x1024, .f32⟩
  | .hbm, ⟨62, _⟩ => ⟨S1x256x1024, .f32⟩
  | .hbm, ⟨63, _⟩ => ⟨S_, .f32⟩
  | .hbm, ⟨64, _⟩ => ⟨S1x256x1024, .f32⟩
  | .hbm, ⟨65, _⟩ => ⟨S1x256x1024, .f32⟩
  | .hbm, ⟨66, _⟩ => ⟨S_, .f32⟩
  | .hbm, ⟨67, _⟩ => ⟨S1x256x1024, .f32⟩
  | .hbm, ⟨68, _⟩ => ⟨S1x256x1024, .f32⟩
  | .hbm, ⟨69, _⟩ => ⟨S1x256x1024, .f32⟩
  | .hbm, ⟨70, _⟩ => ⟨S_, .f32⟩
  | .hbm, ⟨71, _⟩ => ⟨S1x256x1024, .f32⟩
  | .hbm, ⟨72, _⟩ => ⟨S1x256x1024, .f32⟩
  | .hbm, ⟨73, _⟩ => ⟨S1x256x1024, .f32⟩
  | .hbm, ⟨74, _⟩ => ⟨S_, .f32⟩
  | .hbm, ⟨75, _⟩ => ⟨S1x256x1024, .f32⟩
  | .hbm, ⟨76, _⟩ => ⟨S1x256x1024, .f32⟩
  | .hbm, ⟨77, _⟩ => ⟨S1x256x1024, .f32⟩
  | .hbm, ⟨78, _⟩ => ⟨S_, .f32⟩
  | .hbm, ⟨79, _⟩ => ⟨S1x256x1024, .f32⟩
  | .hbm, ⟨80, _⟩ => ⟨S1x256x1024, .f32⟩
  | .hbm, ⟨81, _⟩ => ⟨S256x1024, .f32⟩
  | .hbm, ⟨82, _⟩ => ⟨S256x1024, .f32⟩
  | .hbm, ⟨83, _⟩ => ⟨S256x1024, .f32⟩
  | .hbm, ⟨84, _⟩ => ⟨S_, .f32⟩
  | .hbm, ⟨85, _⟩ => ⟨S1x256x1024, .f32⟩
  | .hbm, ⟨86, _⟩ => ⟨S1x256x1024, .f32⟩
  | .hbm, ⟨87, _⟩ => ⟨S_, .f32⟩
  | .hbm, ⟨88, _⟩ => ⟨S1x256x1024, .f32⟩
  | .hbm, ⟨89, _⟩ => ⟨S1x256x1024, .f32⟩
  | .hbm, ⟨90, _⟩ => ⟨S1x256x1024, .f32⟩
  | .hbm, ⟨91, _⟩ => ⟨S_, .f32⟩
  | .hbm, ⟨92, _⟩ => ⟨S1x256x1024, .f32⟩
  | .hbm, ⟨93, _⟩ => ⟨S1x256x1024, .f32⟩
  | .hbm, ⟨94, _⟩ => ⟨S1x256x1024, .f32⟩
  | .hbm, ⟨95, _⟩ => ⟨S_, .f32⟩
  | .hbm, ⟨96, _⟩ => ⟨S1x256x1024, .f32⟩
  | .hbm, ⟨97, _⟩ => ⟨S1x256x1024, .f32⟩
  | .hbm, ⟨98, _⟩ => ⟨S1x256x1024, .f32⟩
  | .hbm, ⟨99, _⟩ => ⟨S_, .f32⟩
  | .hbm, ⟨100, _⟩ => ⟨S1x256x1024, .f32⟩
  | .hbm, ⟨101, _⟩ => ⟨S1x256x1024, .f32⟩
  | .hbm, ⟨102, _⟩ => ⟨S_, .f32⟩
  | .hbm, ⟨103, _⟩ => ⟨S1x256x1024, .f32⟩
  | .hbm, ⟨104, _⟩ => ⟨S1x256x1024, .f32⟩
  | .hbm, ⟨105, _⟩ => ⟨S1x256x1024, .f32⟩
  | .hbm, ⟨106, _⟩ => ⟨S_, .f32⟩
  | .hbm, ⟨107, _⟩ => ⟨S1x256x1024, .f32⟩
  | .hbm, ⟨108, _⟩ => ⟨S1x256x1024, .f32⟩
  | .hbm, ⟨109, _⟩ => ⟨S1x256x1024, .f32⟩
  | .hbm, ⟨110, _⟩ => ⟨S_, .f32⟩
  | .hbm, ⟨111, _⟩ => ⟨S1x256x1024, .f32⟩
  | .hbm, ⟨112, _⟩ => ⟨S1x256x1024, .f32⟩
  | .hbm, ⟨113, _⟩ => ⟨S1x256x1024, .f32⟩
  | .hbm, ⟨114, _⟩ => ⟨S_, .f32⟩
  | .hbm, ⟨115, _⟩ => ⟨S1x256x1024, .f32⟩
  | .hbm, ⟨116, _⟩ => ⟨S1x256x1024, .f32⟩
  | .hbm, ⟨117, _⟩ => ⟨S256x1024, .f32⟩
  | .hbm, ⟨118, _⟩ => ⟨S256x1024, .f32⟩
  | .hbm, ⟨119, _⟩ => ⟨S256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_10 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_cst_13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_14 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_15 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_16 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_17 : Ref sig .tc := ⟨.hbm, 84, rfl⟩
abbrev main_v54 : Ref sig .tc := ⟨.hbm, 85, rfl⟩
abbrev main_v55 : Ref sig .tc := ⟨.hbm, 86, rfl⟩
abbrev main_cst_18 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_19 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_20 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_21 : Ref sig .tc := ⟨.hbm, 99, rfl⟩
abbrev main_v65 : Ref sig .tc := ⟨.hbm, 100, rfl⟩
abbrev main_v66 : Ref sig .tc := ⟨.hbm, 101, rfl⟩
abbrev main_cst_22 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_23 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_24 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_25 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== Kernel10.lean ====
abbrev S1x1024x1536 : Shape := ⟨3, ![1, 1024, 1536]⟩
abbrev S1x4x64x256 : Shape := ⟨4, ![1, 4, 64, 256]⟩
abbrev S1024x1536 : Shape := ⟨2, ![1024, 1536]⟩
abbrev S256x256 : Shape := ⟨2, ![256, 256]⟩
abbrev S256x1536 : Shape := ⟨2, ![256, 1536]⟩
abbrev S64x256 : Shape := ⟨2, ![64, 256]⟩

abbrev nBuf : Space → Nat
  | .hbm => 36
  | .vmem => 48
  | .smem => 0
  | _ => 0

abbrev bufTy : (tb : Table) → Fin (tcTables nBuf tb) → BufTy
  | .hbm, ⟨0, _⟩ => ⟨S1x1024x1536, .f32⟩
  | .hbm, ⟨1, _⟩ => ⟨S1x4x64x256, .f32⟩
  | .hbm, ⟨2, _⟩ => ⟨S1x4x64x256, .f32⟩
  | .hbm, ⟨3, _⟩ => ⟨S1x1024x1536, .f32⟩
  | .hbm, ⟨4, _⟩ => ⟨S1x4x64x256, .f32⟩
  | .hbm, ⟨5, _⟩ => ⟨S1x4x64x256, .f32⟩
  | .hbm, ⟨6, _⟩ => ⟨S1x1024x1536, .f32⟩
  | .hbm, ⟨7, _⟩ => ⟨S1x4x64x256, .f32⟩
  | .hbm, ⟨8, _⟩ => ⟨S1x4x64x256, .f32⟩
  | .hbm, ⟨9, _⟩ => ⟨S1x1024x1536, .f32⟩
  | .hbm, ⟨10, _⟩ => ⟨S1x4x64x256, .f32⟩
  | .hbm, ⟨11, _⟩ => ⟨S1x4x64x256, .f32⟩
  | .hbm, ⟨12, _⟩ => ⟨S1024x1536, .f32⟩
  | .hbm, ⟨13, _⟩ => ⟨S256x256, .f32⟩
  | .hbm, ⟨14, _⟩ => ⟨S256x256, .f32⟩
  | .hbm, ⟨15, _⟩ => ⟨S1024x1536, .f32⟩
  | .hbm, ⟨16, _⟩ => ⟨S256x256, .f32⟩
  | .hbm, ⟨17, _⟩ => ⟨S256x256, .f32⟩
  | .hbm, ⟨18, _⟩ => ⟨S1024x1536, .f32⟩
  | .hbm, ⟨19, _⟩ => ⟨S256x256, .f32⟩
  | .hbm, ⟨20, _⟩ => ⟨S256x256, .f32⟩
  | .hbm, ⟨21, _⟩ => ⟨S1024x1536, .f32⟩
  | .hbm, ⟨22, _⟩ => ⟨S256x256, .f32⟩
  | .hbm, ⟨23, _⟩ => ⟨S256x256, .f32⟩
  | .hbm, ⟨24, _⟩ => ⟨S1024x1536, .f32⟩
  | .hbm, ⟨25, _⟩ => ⟨S1024x1536, .f32⟩
  | .hbm, ⟨26, _⟩ => ⟨S1024x1536, .f32⟩
  | .hbm, ⟨27, _⟩ => ⟨S1024x1536, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .local _ .vmem, ⟨0, _⟩ => ⟨S256x1536, .f32⟩
  | .local _ .vmem, ⟨1, _⟩ => ⟨S256x1536, .f32⟩
  | .local _ .vmem, ⟨2, _⟩ => ⟨S64x256, .f32⟩
  | .local _ .vmem, ⟨3, _⟩ => ⟨S64x256, .f32⟩
  | .local _ .vmem, ⟨4, _⟩ => ⟨S64x256, .f32⟩
  | .local _ .vmem, ⟨5, _⟩ => ⟨S64x256, .f32⟩
  | .local _ .vmem, ⟨6, _⟩ => ⟨S256x1536, .f32⟩
  | .local _ .vmem, ⟨7, _⟩ => ⟨S256x1536, .f32⟩
  | .local _ .vmem, ⟨8, _⟩ => ⟨S64x256, .f32⟩
  | .local _ .vmem, ⟨9, _⟩ => ⟨S64x256, .f32⟩
  | .local _ .vmem, ⟨10, _⟩ => ⟨S64x256, .f32⟩
  | .local _ .vmem, ⟨11, _⟩ => ⟨S64x256, .f32⟩
  | .local _ .vmem, ⟨12, _⟩ => ⟨S256x1536, .f32⟩
  | .local _ .vmem, ⟨13, _⟩ => ⟨S256x1536, .f32⟩
  | .local _ .vmem, ⟨14, _⟩ => ⟨S64x256, .f32⟩
  | .local _ .vmem, ⟨15, _⟩ => ⟨S64x256, .f32⟩
  | .local _ .vmem, ⟨16, _⟩ => ⟨S64x256, .f32⟩
  | .local _ .vmem, ⟨17, _⟩ => ⟨S64x256, .f32⟩
  | .local _ .vmem, ⟨18, _⟩ => ⟨S256x1536, .f32⟩
  | .local _ .vmem, ⟨19, _⟩ => ⟨S256x1536, .f32⟩
  | .local _ .vmem, ⟨20, _⟩ => ⟨S64x256, .f32⟩
  | .local _ .vmem, ⟨21, _⟩ => ⟨S64x256, .f32⟩
  | .local _ .vmem, ⟨22, _⟩ => ⟨S64x256, .f32⟩
  | .local _ .vmem, ⟨23, _⟩ => ⟨S64x256, .f32⟩
  | .local _ .vmem, ⟨24, _⟩ => ⟨S256x1536, .f32⟩
  | .local _ .vmem, ⟨25, _⟩ => ⟨S256x1536, .f32⟩
  | .local _ .vmem, ⟨26, _⟩ => ⟨S256x1536, .f32⟩
  | .local _ .vmem, ⟨27, _⟩ => ⟨S256x1536, .f32⟩
  | .local _ .vmem, ⟨28, _⟩ => ⟨S256x1536, .f32⟩
  | .local _ .vmem, ⟨29, _⟩ => ⟨S256x1536, .f32⟩
  | .local _ .vmem, ⟨30, _⟩ => ⟨S256x1536, .f32⟩
  | .local _ .vmem, ⟨31, _⟩ => ⟨S256x1536, .f32⟩
  | .local _ .vmem, ⟨32, _⟩ => ⟨S64x256, .f32⟩
  | .local _ .vmem, ⟨33, _⟩ => ⟨S64x256, .f32⟩
  | .local _ .vmem, ⟨34, _⟩ => ⟨S64x256, .f32⟩
  | .local _ .vmem, ⟨35, _⟩ => ⟨S64x256, .f32⟩
  | .local _ .vmem, ⟨36, _⟩ => ⟨S64x256, .f32⟩
  | .local _ .vmem, ⟨37, _⟩ => ⟨S64x256, .f32⟩
  | .local _ .vmem, ⟨38, _⟩ => ⟨S64x256, .f32⟩
  | .local _ .vmem, ⟨39, _⟩ => ⟨S64x256, .f32⟩
  | .local _ .vmem, ⟨40, _⟩ => ⟨S64x256, .f32⟩
  | .local _ .vmem, ⟨41, _⟩ => ⟨S64x256, .f32⟩
  | .local _ .vmem, ⟨42, _⟩ => ⟨S64x256, .f32⟩
  | .local _ .vmem, ⟨43, _⟩ => ⟨S64x256, .f32⟩
  | .local _ .vmem, ⟨44, _⟩ => ⟨S64x256, .f32⟩
  | .local _ .vmem, ⟨45, _⟩ => ⟨S64x256, .f32⟩
  | .local _ .vmem, ⟨46, _⟩ => ⟨S64x256, .f32⟩
  | .local _ .vmem, ⟨47, _⟩ => ⟨S64x256, .f32⟩
  | _, _ => ⟨S1x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev main_v12_9 : Ref sig .tc := ⟨.hbm, 33, rfl⟩
abbrev main_v12_10 : Ref sig .tc := ⟨.hbm, 34, rfl⟩
abbrev main_v12_11 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1536 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1536 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S64x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S64x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S64x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S64x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S64x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S64x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S64x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S64x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference10Ideal.lean ====
abbrev S1x1024x1536 : Shape := ⟨3, ![1, 1024, 1536]⟩
abbrev S1x4x64x256 : Shape := ⟨4, ![1, 4, 64, 256]⟩
abbrev S_ : Shape := ⟨0, ![]⟩
abbrev S1024x1536 : Shape := ⟨2, ![1024, 1536]⟩
abbrev S256x256 : Shape := ⟨2, ![256, 256]⟩

abbrev nBuf : Space → Nat
  | .hbm => 120
  | .vmem => 0
  | .smem => 0
  | _ => 0

abbrev bufTy : (tb : Table) → Fin (tcTables nBuf tb) → BufTy
  | .hbm, ⟨0, _⟩ => ⟨S1x1024x1536, .f32⟩
  | .hbm, ⟨1, _⟩ => ⟨S1x4x64x256, .f32⟩
  | .hbm, ⟨2, _⟩ => ⟨S1x4x64x256, .f32⟩
  | .hbm, ⟨3, _⟩ => ⟨S1x1024x1536, .f32⟩
  | .hbm, ⟨4, _⟩ => ⟨S1x4x64x256, .f32⟩
  | .hbm, ⟨5, _⟩ => ⟨S1x4x64x256, .f32⟩
  | .hbm, ⟨6, _⟩ => ⟨S1x1024x1536, .f32⟩
  | .hbm, ⟨7, _⟩ => ⟨S1x4x64x256, .f32⟩
  | .hbm, ⟨8, _⟩ => ⟨S1x4x64x256, .f32⟩
  | .hbm, ⟨9, _⟩ => ⟨S1x1024x1536, .f32⟩
  | .hbm, ⟨10, _⟩ => ⟨S1x4x64x256, .f32⟩
  | .hbm, ⟨11, _⟩ => ⟨S1x4x64x256, .f32⟩
  | .hbm, ⟨12, _⟩ => ⟨S_, .f32⟩
  | .hbm, ⟨13, _⟩ => ⟨S1x1024x1536, .f32⟩
  | .hbm, ⟨14, _⟩ => ⟨S1x1024x1536, .f32⟩
  | .hbm, ⟨15, _⟩ => ⟨S_, .f32⟩
  | .hbm, ⟨16, _⟩ => ⟨S1x1024x1536, .f32⟩
  | .hbm, ⟨17, _⟩ => ⟨S1x1024x1536, .f32⟩
  | .hbm, ⟨18, _⟩ => ⟨S1x1024x1536, .f32⟩
  | .hbm, ⟨19, _⟩ => ⟨S_, .f32⟩
  | .hbm, ⟨20, _⟩ => ⟨S1x1024x1536, .f32⟩
  | .hbm, ⟨21, _⟩ => ⟨S1x1024x1536, .f32⟩
  | .hbm, ⟨22, _⟩ => ⟨S1x1024x1536, .f32⟩
  | .hbm, ⟨23, _⟩ => ⟨S_, .f32⟩
  | .hbm, ⟨24, _⟩ => ⟨S1x1024x1536, .f32⟩
  | .hbm, ⟨25, _⟩ => ⟨S1x1024x1536, .f32⟩
  | .hbm, ⟨26, _⟩ => ⟨S1x1024x1536, .f32⟩
  | .hbm, ⟨27, _⟩ => ⟨S_, .f32⟩
  | .hbm, ⟨28, _⟩ => ⟨S1x1024x1536, .f32⟩
  | .hbm, ⟨29, _⟩ => ⟨S1x1024x1536, .f32⟩
  | .hbm, ⟨30, _⟩ => ⟨S_, .f32⟩
  | .hbm, ⟨31, _⟩ => ⟨S1x1024x1536, .f32⟩
  | .hbm, ⟨32, _⟩ => ⟨S1x1024x1536, .f32⟩
  | .hbm, ⟨33, _⟩ => ⟨S1x1024x1536, .f32⟩
  | .hbm, ⟨34, _⟩ => ⟨S_, .f32⟩
  | .hbm, ⟨35, _⟩ => ⟨S1x1024x1536, .f32⟩
  | .hbm, ⟨36, _⟩ => ⟨S1x1024x1536, .f32⟩
  | .hbm, ⟨37, _⟩ => ⟨S1x1024x1536, .f32⟩
  | .hbm, ⟨38, _⟩ => ⟨S_, .f32⟩
  | .hbm, ⟨39, _⟩ => ⟨S1x1024x1536, .f32⟩
  | .hbm, ⟨40, _⟩ => ⟨S1x1024x1536, .f32⟩
  | .hbm, ⟨41, _⟩ => ⟨S1x1024x1536, .f32⟩
  | .hbm, ⟨42, _⟩ => ⟨S_, .f32⟩
  | .hbm, ⟨43, _⟩ => ⟨S1x1024x1536, .f32⟩
  | .hbm, ⟨44, _⟩ => ⟨S1x1024x1536, .f32⟩
  | .hbm, ⟨45, _⟩ => ⟨S1024x1536, .f32⟩
  | .hbm, ⟨46, _⟩ => ⟨S1024x1536, .f32⟩
  | .hbm, ⟨47, _⟩ => ⟨S1024x1536, .f32⟩
  | .hbm, ⟨48, _⟩ => ⟨S_, .f32⟩
  | .hbm, ⟨49, _⟩ => ⟨S1x4x64x256, .f32⟩
  | .hbm, ⟨50, _⟩ => ⟨S1x4x64x256, .f32⟩
  | .hbm, ⟨51, _⟩ => ⟨S_, .f32⟩
  | .hbm, ⟨52, _⟩ => ⟨S1x4x64x256, .f32⟩
  | .hbm, ⟨53, _⟩ => ⟨S1x4x64x256, .f32⟩
  | .hbm, ⟨54, _⟩ => ⟨S1x4x64x256, .f32⟩
  | .hbm, ⟨55, _⟩ => ⟨S_, .f32⟩
  | .hbm, ⟨56, _⟩ => ⟨S1x4x64x256, .f32⟩
  | .hbm, ⟨57, _⟩ => ⟨S1x4x64x256, .f32⟩
  | .hbm, ⟨58, _⟩ => ⟨S1x4x64x256, .f32⟩
  | .hbm, ⟨59, _⟩ => ⟨S_, .f32⟩
  | .hbm, ⟨60, _⟩ => ⟨S1x4x64x256, .f32⟩
  | .hbm, ⟨61, _⟩ => ⟨S1x4x64x256, .f32⟩
  | .hbm, ⟨62, _⟩ => ⟨S1x4x64x256, .f32⟩
  | .hbm, ⟨63, _⟩ => ⟨S_, .f32⟩
  | .hbm, ⟨64, _⟩ => ⟨S1x4x64x256, .f32⟩
  | .hbm, ⟨65, _⟩ => ⟨S1x4x64x256, .f32⟩
  | .hbm, ⟨66, _⟩ => ⟨S_, .f32⟩
  | .hbm, ⟨67, _⟩ => ⟨S1x4x64x256, .f32⟩
  | .hbm, ⟨68, _⟩ => ⟨S1x4x64x256, .f32⟩
  | .hbm, ⟨69, _⟩ => ⟨S1x4x64x256, .f32⟩
  | .hbm, ⟨70, _⟩ => ⟨S_, .f32⟩
  | .hbm, ⟨71, _⟩ => ⟨S1x4x64x256, .f32⟩
  | .hbm, ⟨72, _⟩ => ⟨S1x4x64x256, .f32⟩
  | .hbm, ⟨73, _⟩ => ⟨S1x4x64x256, .f32⟩
  | .hbm, ⟨74, _⟩ => ⟨S_, .f32⟩
  | .hbm, ⟨75, _⟩ => ⟨S1x4x64x256, .f32⟩
  | .hbm, ⟨76, _⟩ => ⟨S1x4x64x256, .f32⟩
  | .hbm, ⟨77, _⟩ => ⟨S1x4x64x256, .f32⟩
  | .hbm, ⟨78, _⟩ => ⟨S_, .f32⟩
  | .hbm, ⟨79, _⟩ => ⟨S1x4x64x256, .f32⟩
  | .hbm, ⟨80, _⟩ => ⟨S1x4x64x256, .f32⟩
  | .hbm, ⟨81, _⟩ => ⟨S256x256, .f32⟩
  | .hbm, ⟨82, _⟩ => ⟨S256x256, .f32⟩
  | .hbm, ⟨83, _⟩ => ⟨S256x256, .f32⟩
  | .hbm, ⟨84, _⟩ => ⟨S_, .f32⟩
  | .hbm, ⟨85, _⟩ => ⟨S1x4x64x256, .f32⟩
  | .hbm, ⟨86, _⟩ => ⟨S1x4x64x256, .f32⟩
  | .hbm, ⟨87, _⟩ => ⟨S_, .f32⟩
  | .hbm, ⟨88, _⟩ => ⟨S1x4x64x256, .f32⟩
  | .hbm, ⟨89, _⟩ => ⟨S1x4x64x256, .f32⟩
  | .hbm, ⟨90, _⟩ => ⟨S1x4x64x256, .f32⟩
  | .hbm, ⟨91, _⟩ => ⟨S_, .f32⟩
  | .hbm, ⟨92, _⟩ => ⟨S1x4x64x256, .f32⟩
  | .hbm, ⟨93, _⟩ => ⟨S1x4x64x256, .f32⟩
  | .hbm, ⟨94, _⟩ => ⟨S1x4x64x256, .f32⟩
  | .hbm, ⟨95, _⟩ => ⟨S_, .f32⟩
  | .hbm, ⟨96, _⟩ => ⟨S1x4x64x256, .f32⟩
  | .hbm, ⟨97, _⟩ => ⟨S1x4x64x256, .f32⟩
  | .hbm, ⟨98, _⟩ => ⟨S1x4x64x256, .f32⟩
  | .hbm, ⟨99, _⟩ => ⟨S_, .f32⟩
  | .hbm, ⟨100, _⟩ => ⟨S1x4x64x256, .f32⟩
  | .hbm, ⟨101, _⟩ => ⟨S1x4x64x256, .f32⟩
  | .hbm, ⟨102, _⟩ => ⟨S_, .f32⟩
  | .hbm, ⟨103, _⟩ => ⟨S1x4x64x256, .f32⟩
  | .hbm, ⟨104, _⟩ => ⟨S1x4x64x256, .f32⟩
  | .hbm, ⟨105, _⟩ => ⟨S1x4x64x256, .f32⟩
  | .hbm, ⟨106, _⟩ => ⟨S_, .f32⟩
  | .hbm, ⟨107, _⟩ => ⟨S1x4x64x256, .f32⟩
  | .hbm, ⟨108, _⟩ => ⟨S1x4x64x256, .f32⟩
  | .hbm, ⟨109, _⟩ => ⟨S1x4x64x256, .f32⟩
  | .hbm, ⟨110, _⟩ => ⟨S_, .f32⟩
  | .hbm, ⟨111, _⟩ => ⟨S1x4x64x256, .f32⟩
  | .hbm, ⟨112, _⟩ => ⟨S1x4x64x256, .f32⟩
  | .hbm, ⟨113, _⟩ => ⟨S1x4x64x256, .f32⟩
  | .hbm, ⟨114, _⟩ => ⟨S_, .f32⟩
  | .hbm, ⟨115, _⟩ => ⟨S1x4x64x256, .f32⟩
  | .hbm, ⟨116, _⟩ => ⟨S1x4x64x256, .f32⟩
  | .hbm, ⟨117, _⟩ => ⟨S256x256, .f32⟩
  | .hbm, ⟨118, _⟩ => ⟨S256x256, .f32⟩
  | .hbm, ⟨119, _⟩ => ⟨S256x256, .f32⟩
  | _, _ => ⟨S1x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_8 : Ref sig .tc := ⟨.hbm, 48, rfl⟩
abbrev main_v27 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_10 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_12 : Ref sig .tc := ⟨.hbm, 63, rfl⟩
abbrev main_v38 : Ref sig .tc := ⟨.hbm, 64, rfl⟩
abbrev main_v39 : Ref sig .tc := ⟨.hbm, 65, rfl⟩
abbrev main_cst_13 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_14 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_15 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_16 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_17 : Ref sig .tc := ⟨.hbm, 84, rfl⟩
abbrev main_v54 : Ref sig .tc := ⟨.hbm, 85, rfl⟩
abbrev main_v55 : Ref sig .tc := ⟨.hbm, 86, rfl⟩
abbrev main_cst_18 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_19 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_cst_20 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_21 : Ref sig .tc := ⟨.hbm, 99, rfl⟩
abbrev main_v65 : Ref sig .tc := ⟨.hbm, 100, rfl⟩
abbrev main_v66 : Ref sig .tc := ⟨.hbm, 101, rfl⟩
abbrev main_cst_22 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_23 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_24 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_25 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩

abbrev nD : Nat := 1
abbrev τ : Topo := Topo.v7x

variable {F : FTy → Type} [FloatOps F]
-- ==== Kernel11.lean ====
abbrev S8x24x1024 : Shape := ⟨3, ![8, 24, 1024]⟩
abbrev S8x128x512 : Shape := ⟨3, ![8, 128, 512]⟩
abbrev S8x1x1024 : Shape := ⟨3, ![8, 1, 1024]⟩
abbrev S24x1024 : Shape := ⟨2, ![24, 1024]⟩
abbrev S128x512 : Shape := ⟨2, ![128, 512]⟩
abbrev S1x24x1024 : Shape := ⟨3, ![1, 24, 1024]⟩
abbrev S1x128x512 : Shape := ⟨3, ![1, 128, 512]⟩
abbrev S1x1x1024 : Shape := ⟨3, ![1, 1, 1024]⟩
abbrev S1x1024 : Shape := ⟨2, ![1, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8x24x1024, .f32⟩
  | .hbm, ⟨1, _⟩ => ⟨S8x128x512, .f32⟩
  | .hbm, ⟨2, _⟩ => ⟨S8x1x1024, .f32⟩
  | .hbm, ⟨3, _⟩ => ⟨S24x1024, .f32⟩
  | .hbm, ⟨4, _⟩ => ⟨S128x512, .f32⟩
  | .local _ .vmem, ⟨0, _⟩ => ⟨S8x24x1024, .f32⟩
  | .local _ .vmem, ⟨1, _⟩ => ⟨S8x128x512, .f32⟩
  | .local _ .vmem, ⟨2, _⟩ => ⟨S8x1x1024, .f32⟩
  | .local _ .vmem, ⟨3, _⟩ => ⟨S24x1024, .f32⟩
  | .local _ .vmem, ⟨4, _⟩ => ⟨S128x512, .f32⟩
  | _, _ => ⟨S8x24x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference11Ideal.lean ====
abbrev S8x24x1024 : Shape := ⟨3, ![8, 24, 1024]⟩
abbrev S8x128x512 : Shape := ⟨3, ![8, 128, 512]⟩
abbrev S8x1x1024 : Shape := ⟨3, ![8, 1, 1024]⟩
abbrev S_ : Shape := ⟨0, ![]⟩
abbrev S24x1024 : Shape := ⟨2, ![24, 1024]⟩
abbrev S1x1024 : Shape := ⟨2, ![1, 1024]⟩
abbrev S23x1024 : Shape := ⟨2, ![23, 1024]⟩
abbrev S128x512 : Shape := ⟨2, ![128, 512]⟩

abbrev nBuf : Space → Nat
  | .hbm => 11
  | .vmem => 0
  | .smem => 0
  | _ => 0

abbrev bufTy : (tb : Table) → Fin (tcTables nBuf tb) → BufTy
  | .hbm, ⟨0, _⟩ => ⟨S8x24x1024, .f32⟩
  | .hbm, ⟨1, _⟩ => ⟨S8x128x512, .f32⟩
  | .hbm, ⟨2, _⟩ => ⟨S8x1x1024, .f32⟩
  | .hbm, ⟨3, _⟩ => ⟨S_, .f32⟩
  | .hbm, ⟨4, _⟩ => ⟨S24x1024, .f32⟩
  | .hbm, ⟨5, _⟩ => ⟨S_, .f32⟩
  | .hbm, ⟨6, _⟩ => ⟨S1x1024, .f32⟩
  | .hbm, ⟨7, _⟩ => ⟨S23x1024, .f32⟩
  | .hbm, ⟨8, _⟩ => ⟨S24x1024, .f32⟩
  | .hbm, ⟨9, _⟩ => ⟨S_, .f32⟩
  | .hbm, ⟨10, _⟩ => ⟨S128x512, .f32⟩
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Proof.Halves.lean ====
/- A product over all tokens is the sum of the products over equal runs of tokens. -/
module

public import Mathlib.Data.EReal.Operations
public import Mathlib.Algebra.BigOperators.Fin

@[expose] public section

namespace Cert

/-- A sum of products over 4096 tokens is the sum over the first half plus the sum over the second, the factors exchanged. -/
theorem sum_halves (f g : Fin 4096 → EReal) :
    ∑ k : Fin 4096, f k * g k = ∑ k : Fin 2048, g ⟨k.val, by omega⟩ * f ⟨k.val, by omega⟩
      + ∑ k : Fin 2048, g ⟨2048 + k.val, by omega⟩ * f ⟨2048 + k.val, by omega⟩ := by
  simp only [fun k => EReal.mul_comm (f k) (g k)]
  exact Fin.sum_univ_add (a := 2048) (b := 2048) fun k => g k * f k

/-- A sum of products over 4096 tokens is the sum over its four quarters, the factors exchanged. -/
theorem sum_quarters (f g : Fin 4096 → EReal) :
    ∑ k : Fin 4096, f k * g k = ∑ k : Fin 1024, g ⟨k.val, by omega⟩ * f ⟨k.val, by omega⟩
      + ∑ k : Fin 1024, g ⟨1024 + k.val, by omega⟩ * f ⟨1024 + k.val, by omega⟩
      + ∑ k : Fin 1024, g ⟨2048 + k.val, by omega⟩ * f ⟨2048 + k.val, by omega⟩
      + ∑ k : Fin 1024, g ⟨3072 + k.val, by omega⟩ * f ⟨3072 + k.val, by omega⟩ := by
  simp only [fun k => EReal.mul_comm (f k) (g k)]
  have h := Fin.sum_univ_add (a := 3072) (b := 1024) fun k => g k * f k
  have h' := Fin.sum_univ_add (a := 2048) (b := 1024) fun k : Fin 3072 => g (k.castAdd 1024) * f (k.castAdd 1024)
  have h'' := Fin.sum_univ_add (a := 1024) (b := 1024) fun k : Fin 2048 => g ((k.castAdd 1024).castAdd 1024) * f ((k.castAdd 1024).castAdd 1024)
  exact (h.trans (congrArg (· + _) (h'.trans (congrArg (· + _) h''))))

end Cert

end
-- ==== Proof.Down.lean ====
/- The weight gradient of the down projection: two token halves accumulated are one product over all tokens. -/
module

public import proofs.«01_k».proof.Defs
public import proofs.«01_k».proof.Proof.Gen.KernelIdeal.Frame
public import proofs.«01_k».proof.Proof.Gen.KernelIdeal.Value
public import proofs.«01_k».proof.Proof.Gen.ReferenceIdeal.Run
public import proofs.«01_k».proof.Proof.Halves
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K1

open Cert.KernelIdeal Cert.KernelIdeal.Gen

variable (m : (ℓ : Loc nD τ sig) → Buf (Elt Ideal) ℓ)

/-- The reference's product of the whole arrays, in four row blocks. -/
abbrev REF (X : FVec Ideal S4096x4096 .bf16) (D : FVec Ideal S4096x1024 .bf16) : FVec Ideal S4x1024x1024 .bf16 :=
  shapeCast _ (truncf .bf16 (transpose S4096x1024 [1, 0] (Host.dotGeneral Cert.ReferenceIdeal.dot_S4096x1024_S4096x4096_S1024x4096_0_0_1_1_n_n none
    (extf .f32 D Cert.ReferenceIdeal.Gen.bitsLt_bf16_f32) (extf .f32 X Cert.ReferenceIdeal.Gen.bitsLt_bf16_f32))
    Cert.ReferenceIdeal.Gen.transposes_S1024x4096_S4096x1024_1_0) Cert.ReferenceIdeal.Gen.bitsLt_bf16_f32)
    Cert.ReferenceIdeal.Gen.shapeCasts_S4096x1024_S4x1024x1024

theorem idx : ∀ t : Fin cfg0.N, win0_0.index t = ![t.val % 2, t.val / 2] ∧ win0_1.index t = ![t.val % 2, 0]
    ∧ win0_2.index t = ![t.val / 2, 0, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have h0 : ¬ t.val % 2 = 0 := by omega
  rw [after0_2, outsAt0_B m c t h0 h1 h1]
  frame_out
  have hN : t.val < 8 := lt_of_lt_of_eq t.isLt N_0
  rw [outsAt0_A m c ⟨t.val - 1, lt_of_le_of_lt (Nat.sub_le _ _) t.isLt⟩ (by show (t.val - 1) % 2 = 0; omega) (by show ¬ (t.val - 1) % 2 = 1; omega) (by show ¬ (t.val - 1) % 2 = 1; omega)]
  frame_out
  rw [read_unread_whole]
  pointwise [k0_pay4, k0_pay3, k0_pay2, k0_pay1, REF]
  have hp := idx ⟨t.val - 1, lt_of_le_of_lt (Nat.sub_le _ _) t.isLt⟩
  have e0 : (t.val - 1) % 2 = 0 := by omega
  have e1 : (t.val - 1) / 2 = t.val / 2 := by omega
  simp only [e0, e1] at hp
  have ht := idx t
  rw [h1] at ht
  refine Eq.trans ?_ (sum_halves _ _).symm
  blk_point [iblk, V, ht, hp]

/-- The kernel and the reference end with the same four row blocks. -/
theorem algebraic : Cert.algebraic_KernelIdeal_ReferenceIdeal (hKernelIdeal := facts) (hReferenceIdeal := Cert.ReferenceIdeal.Gen.facts) := by
  intro m g m' g' hpre hargs
  refine ⟨fun c => REF (m ((c : Thread nD τ).loc main_arg0)) (m ((c : Thread nD τ).loc main_arg1)), ?_, ?_⟩
  · exact (θ_run _ _ _).mono (fun r h c => ⟨(h c).1.trans (final m c), (h c).2⟩) (Cert.KernelIdeal.Value.run_blocks m g)
  · refine (θ_run _ _ _).mono (fun r h c => ⟨(h c).1.trans ?_, (h c).2⟩) (Cert.ReferenceIdeal.Value.run m' g')
    rw [(hargs c).1, (hargs c).2]

/-- The reference's run leaves its arguments as they were; it has no semaphore. -/
theorem frame_reference : Cert.quiescent_ReferenceIdeal (hReferenceIdeal := Cert.ReferenceIdeal.Gen.facts) := by
  intro m ρ _
  exact (θ_run _ _ _).mono (fun r h => ⟨fun c => (h c).2, Idealize.ShloMosaic.sem_eq_zero_of_no_sems (by decide) r.2⟩)
    (Cert.ReferenceIdeal.Value.run m ρ)

end Cert.K1

end
-- ==== Proof.Up.lean ====
/- The weight gradient of the up projection: two token halves accumulated are one product over all tokens. -/
module

public import proofs.«01_k».proof.Defs
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Halves
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K2

open Cert.Kernel2Ideal Cert.Kernel2Ideal.Gen

variable (m : (ℓ : Loc nD τ sig) → Buf (Elt Ideal) ℓ)

/-- The reference's product of the whole arrays, in four column blocks. -/
abbrev REF (X : FVec Ideal S4096x1024 .bf16) (D : FVec Ideal S4096x4096 .bf16) : FVec Ideal S4x1024x1024 .bf16 :=
  transpose S4x1024x1024 [1, 0, 2] (shapeCast _ (truncf .bf16 (transpose Cert.Reference2Ideal.S1024x4096 [1, 0]
    (Host.dotGeneral Cert.Reference2Ideal.dot_S4096x4096_S4096x1024_S4096x1024_0_0_1_1_n_n none
      (extf .f32 D Cert.Reference2Ideal.Gen.bitsLt_bf16_f32) (extf .f32 X Cert.Reference2Ideal.Gen.bitsLt_bf16_f32))
    Cert.Reference2Ideal.Gen.transposes_S4096x1024_S1024x4096_1_0) Cert.Reference2Ideal.Gen.bitsLt_bf16_f32)
    Cert.Reference2Ideal.Gen.shapeCasts_S1024x4096_S1024x4x1024) Cert.Reference2Ideal.Gen.transposes_S1024x4x1024_S4x1024x1024_1_0_2

theorem idx : ∀ t : Fin cfg0.N, win0_0.index t = ![t.val % 2, 0] ∧ win0_1.index t = ![t.val % 2, t.val / 2]
    ∧ win0_2.index t = ![t.val / 2, 0, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have h0 : ¬ t.val % 2 = 0 := by omega
  rw [after0_2, outsAt0_B m c t h0 h1 h1]
  frame_out
  have hN : t.val < 8 := lt_of_lt_of_eq t.isLt N_0
  rw [outsAt0_A m c ⟨t.val - 1, lt_of_le_of_lt (Nat.sub_le _ _) t.isLt⟩ (by show (t.val - 1) % 2 = 0; omega) (by show ¬ (t.val - 1) % 2 = 1; omega) (by show ¬ (t.val - 1) % 2 = 1; omega)]
  frame_out
  rw [read_unread_whole]
  pointwise [k0_pay4, k0_pay3, k0_pay2, k0_pay1, REF]
  have hp := idx ⟨t.val - 1, lt_of_le_of_lt (Nat.sub_le _ _) t.isLt⟩
  have e0 : (t.val - 1) % 2 = 0 := by omega
  have e1 : (t.val - 1) / 2 = t.val / 2 := by omega
  simp only [e0, e1] at hp
  have ht := idx t
  rw [h1] at ht
  refine Eq.trans ?_ (sum_halves _ _).symm
  blk_point [iblk, V, ht, hp]

/-- The kernel and the reference end with the same four column blocks. -/
theorem algebraic : Cert.algebraic_Kernel2Ideal_Reference2Ideal (hKernel2Ideal := facts) (hReference2Ideal := Cert.Reference2Ideal.Gen.facts) := by
  intro m g m' g' hpre hargs
  refine ⟨fun c => REF (m ((c : Thread nD τ).loc main_arg0)) (m ((c : Thread nD τ).loc main_arg1)), ?_, ?_⟩
  · exact (θ_run _ _ _).mono (fun r h c => ⟨(h c).1.trans (final m c), (h c).2⟩) (Cert.Kernel2Ideal.Value.run_blocks m g)
  · refine (θ_run _ _ _).mono (fun r h c => ⟨(h c).1.trans ?_, (h c).2⟩) (Cert.Reference2Ideal.Value.run m' g')
    rw [(hargs c).1, (hargs c).2]

/-- The reference's run leaves its arguments as they were; it has no semaphore. -/
theorem frame_reference : Cert.quiescent_Reference2Ideal (hReference2Ideal := Cert.Reference2Ideal.Gen.facts) := by
  intro m ρ _
  exact (θ_run _ _ _).mono (fun r h => ⟨fun c => (h c).2, Idealize.ShloMosaic.sem_eq_zero_of_no_sems (by decide) r.2⟩)
    (Cert.Reference2Ideal.Value.run m ρ)

end Cert.K2

end
-- ==== Proof.In.lean ====
/- The weight gradient of the input projection: two token halves accumulated are one product over all tokens. -/
module

public import proofs.«01_k».proof.Defs
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Halves
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K3

open Cert.Kernel3Ideal Cert.Kernel3Ideal.Gen

variable (m : (ℓ : Loc nD τ sig) → Buf (Elt Ideal) ℓ)

/-- The reference's product of the whole arrays, in four column blocks. -/
abbrev REF (X : FVec Ideal S4096x1024 .bf16) (D : FVec Ideal S4096x6144 .bf16) : FVec Ideal S4x1024x1536 .bf16 :=
  transpose S4x1024x1536 [1, 0, 2] (shapeCast _ (truncf .bf16 (transpose Cert.Reference3Ideal.S1024x6144 [1, 0]
    (Host.dotGeneral Cert.Reference3Ideal.dot_S4096x6144_S4096x1024_S6144x1024_0_0_1_1_n_n none
      (extf .f32 D Cert.Reference3Ideal.Gen.bitsLt_bf16_f32) (extf .f32 X Cert.Reference3Ideal.Gen.bitsLt_bf16_f32))
    Cert.Reference3Ideal.Gen.transposes_S6144x1024_S1024x6144_1_0) Cert.Reference3Ideal.Gen.bitsLt_bf16_f32)
    Cert.Reference3Ideal.Gen.shapeCasts_S1024x6144_S1024x4x1536) Cert.Reference3Ideal.Gen.transposes_S1024x4x1536_S4x1024x1536_1_0_2

theorem idx : ∀ t : Fin cfg0.N, win0_0.index t = ![t.val % 2, 0] ∧ win0_1.index t = ![t.val % 2, t.val / 2]
    ∧ win0_2.index t = ![t.val / 2, 0, 0] :=
  (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  have h1 : t.val % 2 = 1 := (flush0_2 t).mp hf
  have h0 : ¬ t.val % 2 = 0 := by omega
  rw [after0_2, outsAt0_B m c t h0 h1 h1]
  frame_out
  have hN : t.val < 8 := lt_of_lt_of_eq t.isLt N_0
  rw [outsAt0_A m c ⟨t.val - 1, lt_of_le_of_lt (Nat.sub_le _ _) t.isLt⟩ (by show (t.val - 1) % 2 = 0; omega) (by show ¬ (t.val - 1) % 2 = 1; omega) (by show ¬ (t.val - 1) % 2 = 1; omega)]
  frame_out
  rw [read_unread_whole]
  pointwise [k0_pay4, k0_pay3, k0_pay2, k0_pay1, REF]
  have hp := idx ⟨t.val - 1, lt_of_le_of_lt (Nat.sub_le _ _) t.isLt⟩
  have e0 : (t.val - 1) % 2 = 0 := by omega
  have e1 : (t.val - 1) / 2 = t.val / 2 := by omega
  simp only [e0, e1] at hp
  have ht := idx t
  rw [h1] at ht
  refine Eq.trans ?_ (sum_halves _ _).symm
  blk_point [iblk, V, ht, hp]

/-- The kernel and the reference end with the same four column blocks. -/
theorem algebraic : Cert.algebraic_Kernel3Ideal_Reference3Ideal (hKernel3Ideal := facts) (hReference3Ideal := Cert.Reference3Ideal.Gen.facts) := by
  intro m g m' g' hpre hargs
  refine ⟨fun c => REF (m ((c : Thread nD τ).loc main_arg0)) (m ((c : Thread nD τ).loc main_arg1)), ?_, ?_⟩
  · exact (θ_run _ _ _).mono (fun r h c => ⟨(h c).1.trans (final m c), (h c).2⟩) (Cert.Kernel3Ideal.Value.run_blocks m g)
  · refine (θ_run _ _ _).mono (fun r h c => ⟨(h c).1.trans ?_, (h c).2⟩) (Cert.Reference3Ideal.Value.run m' g')
    rw [(hargs c).1, (hargs c).2]

/-- The reference's run leaves its arguments as they were; it has no semaphore. -/
theorem frame_reference : Cert.quiescent_Reference3Ideal (hReference3Ideal := Cert.Reference3Ideal.Gen.facts) := by
  intro m ρ _
  exact (θ_run _ _ _).mono (fun r h => ⟨fun c => (h c).2, Idealize.ShloMosaic.sem_eq_zero_of_no_sems (by decide) r.2⟩)
    (Cert.Reference3Ideal.Value.run m ρ)

end Cert.K3

end
-- ==== Proof.Projections.lean ====
/- The weight gradients of the three square projections: four token quarters accumulated are one product over all tokens. -/
module

public import proofs.«01_k».proof.Defs
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Halves
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K4

open Cert.Kernel4Ideal Cert.Kernel4Ideal.Gen

variable (m : (ℓ : Loc nD τ sig) → Buf (Elt Ideal) ℓ)

/-- The reference's product of two whole arrays. -/
abbrev REF (X D : FVec Ideal S4096x1024 .bf16) : FVec Ideal S1024x1024 .bf16 :=
  truncf .bf16 (transpose S1024x1024 [1, 0] (Host.dotGeneral Cert.Reference4Ideal.dot_S4096x1024_S4096x1024_S1024x1024_0_0_1_1_n_n none
    (extf .f32 D Cert.Reference4Ideal.Gen.bitsLt_bf16_f32) (extf .f32 X Cert.Reference4Ideal.Gen.bitsLt_bf16_f32))
    Cert.Reference4Ideal.Gen.transposes_S1024x1024_S1024x1024_1_0) Cert.Reference4Ideal.Gen.bitsLt_bf16_f32

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![0, 0] ∧ win0_8.index t = ![0, 0] :=
  (by decide +kernel : ∀ t : Fin grid0.N, _)

theorem final6 (c : Dev nD) : (dats m 0 c).arrAt 6 (cfgs 0).N
    = REF (m ((c : Thread nD τ).loc main_arg0)) (m ((c : Thread nD τ).loc main_arg1)) := by
  refine (dats m 0 c).arrAt_eq_of_covers 6 _ (by decide +kernel) fun t hf y => ?_
  blk_simp
  have h3 : t.val % 4 = 3 := (flush0_6 t).mp hf
  have hN : t.val < 4 := lt_of_lt_of_eq t.isLt N_0
  have e : t.val = 3 := by omega
  have h0 : ¬ t.val % 4 = 0 := by omega
  have h1 : 1 ≤ t.val := by omega
  rw [after0_6, outsAt0_C m c t h0 h1 h3 h0 h1 h3 h0 h1 h3]
  frame_out
  have b2 : t.val - 1 < cfg0.N := lt_of_le_of_lt (Nat.sub_le _ _) t.isLt
  have b1 : t.val - 1 - 1 < cfg0.N := lt_of_le_of_lt (Nat.sub_le _ _) b2
  have b0 : t.val - 1 - 1 - 1 < cfg0.N := lt_of_le_of_lt (Nat.sub_le _ _) b1
  have p2 : ¬ (⟨t.val - 1, b2⟩ : Fin cfg0.N).val % 4 = 0 ∧ 1 ≤ (⟨t.val - 1, b2⟩ : Fin cfg0.N).val ∧ ¬ (⟨t.val - 1, b2⟩ : Fin cfg0.N).val % 4 = 3 := by
    dsimp only; omega
  have p1 : ¬ (⟨t.val - 1 - 1, b1⟩ : Fin cfg0.N).val % 4 = 0 ∧ 1 ≤ (⟨t.val - 1 - 1, b1⟩ : Fin cfg0.N).val ∧ ¬ (⟨t.val - 1 - 1, b1⟩ : Fin cfg0.N).val % 4 = 3 := by
    dsimp only; omega
  have p0 : (⟨t.val - 1 - 1 - 1, b0⟩ : Fin cfg0.N).val % 4 = 0 ∧ ¬ 1 ≤ (⟨t.val - 1 - 1 - 1, b0⟩ : Fin cfg0.N).val ∧ ¬ (⟨t.val - 1 - 1 - 1, b0⟩ : Fin cfg0.N).val % 4 = 3 := by
    dsimp only; omega
  rw [outsAt0_B m c ⟨t.val - 1, b2⟩ p2.1 p2.2.1 p2.2.2 p2.1 p2.2.1 p2.2.2 p2.1 p2.2.1 p2.2.2]
  frame_out
  rw [outsAt0_B m c ⟨t.val - 1 - 1, b1⟩ p1.1 p1.2.1 p1.2.2 p1.1 p1.2.1 p1.2.2 p1.1 p1.2.1 p1.2.2]
  frame_out
  rw [outsAt0_A m c ⟨t.val - 1 - 1 - 1, b0⟩ p0.1 p0.2.1 p0.2.2 p0.1 p0.2.1 p0.2.2 p0.1 p0.2.1 p0.2.2]
  frame_out
  rw [read_unread_whole, read_unread_whole, read_unread_whole]
  pointwise [k0_pay8, k0_pay7, k0_pay6, k0_pay5, REF]
  have i3 := idx t
  have i2 := idx ⟨t.val - 1, b2⟩
  have i1 := idx ⟨t.val - 1 - 1, b1⟩
  have i0 := idx ⟨t.val - 1 - 1 - 1, b0⟩
  rw [e] at i3
  rw [show (⟨t.val - 1, b2⟩ : Fin cfg0.N).val = 2 by dsimp only; omega] at i2
  rw [show (⟨t.val - 1 - 1, b1⟩ : Fin cfg0.N).val = 1 by dsimp only; omega] at i1
  rw [show (⟨t.val - 1 - 1 - 1, b0⟩ : Fin cfg0.N).val = 0 by dsimp only; omega] at i0
  refine Eq.trans ?_ (sum_quarters _ _).symm
  blk_point [iblk, V, i3, i2, i1, i0]

theorem final7 (c : Dev nD) : (dats m 0 c).arrAt 7 (cfgs 0).N
    = REF (m ((c : Thread nD τ).loc main_arg2)) (m ((c : Thread nD τ).loc main_arg3)) := by
  refine (dats m 0 c).arrAt_eq_of_covers 7 _ (by decide +kernel) fun t hf y => ?_
  blk_simp
  have h3 : t.val % 4 = 3 := (flush0_7 t).mp hf
  have hN : t.val < 4 := lt_of_lt_of_eq t.isLt N_0
  have e : t.val = 3 := by omega
  have h0 : ¬ t.val % 4 = 0 := by omega
  have h1 : 1 ≤ t.val := by omega
  rw [after0_7, outsAt0_C m c t h0 h1 h3 h0 h1 h3 h0 h1 h3]
  frame_out
  have b2 : t.val - 1 < cfg0.N := lt_of_le_of_lt (Nat.sub_le _ _) t.isLt
  have b1 : t.val - 1 - 1 < cfg0.N := lt_of_le_of_lt (Nat.sub_le _ _) b2
  have b0 : t.val - 1 - 1 - 1 < cfg0.N := lt_of_le_of_lt (Nat.sub_le _ _) b1
  have p2 : ¬ (⟨t.val - 1, b2⟩ : Fin cfg0.N).val % 4 = 0 ∧ 1 ≤ (⟨t.val - 1, b2⟩ : Fin cfg0.N).val ∧ ¬ (⟨t.val - 1, b2⟩ : Fin cfg0.N).val % 4 = 3 := by
    dsimp only; omega
  have p1 : ¬ (⟨t.val - 1 - 1, b1⟩ : Fin cfg0.N).val % 4 = 0 ∧ 1 ≤ (⟨t.val - 1 - 1, b1⟩ : Fin cfg0.N).val ∧ ¬ (⟨t.val - 1 - 1, b1⟩ : Fin cfg0.N).val % 4 = 3 := by
    dsimp only; omega
  have p0 : (⟨t.val - 1 - 1 - 1, b0⟩ : Fin cfg0.N).val % 4 = 0 ∧ ¬ 1 ≤ (⟨t.val - 1 - 1 - 1, b0⟩ : Fin cfg0.N).val ∧ ¬ (⟨t.val - 1 - 1 - 1, b0⟩ : Fin cfg0.N).val % 4 = 3 := by
    dsimp only; omega
  rw [outsAt0_B m c ⟨t.val - 1, b2⟩ p2.1 p2.2.1 p2.2.2 p2.1 p2.2.1 p2.2.2 p2.1 p2.2.1 p2.2.2]
  frame_out
  rw [outsAt0_B m c ⟨t.val - 1 - 1, b1⟩ p1.1 p1.2.1 p1.2.2 p1.1 p1.2.1 p1.2.2 p1.1 p1.2.1 p1.2.2]
  frame_out
  rw [outsAt0_A m c ⟨t.val - 1 - 1 - 1, b0⟩ p0.1 p0.2.1 p0.2.2 p0.1 p0.2.1 p0.2.2 p0.1 p0.2.1 p0.2.2]
  frame_out
  rw [read_unread_whole, read_unread_whole, read_unread_whole]
  pointwise [k0_pay12, k0_pay11, k0_pay10, k0_pay9, REF]
  have i3 := idx t
  have i2 := idx ⟨t.val - 1, b2⟩
  have i1 := idx ⟨t.val - 1 - 1, b1⟩
  have i0 := idx ⟨t.val - 1 - 1 - 1, b0⟩
  rw [e] at i3
  rw [show (⟨t.val - 1, b2⟩ : Fin cfg0.N).val = 2 by dsimp only; omega] at i2
  rw [show (⟨t.val - 1 - 1, b1⟩ : Fin cfg0.N).val = 1 by dsimp only; omega] at i1
  rw [show (⟨t.val - 1 - 1 - 1, b0⟩ : Fin cfg0.N).val = 0 by dsimp only; omega] at i0
  refine Eq.trans ?_ (sum_quarters _ _).symm
  blk_point [iblk, V, i3, i2, i1, i0]

theorem final8 (c : Dev nD) : (dats m 0 c).arrAt 8 (cfgs 0).N
    = REF (m ((c : Thread nD τ).loc main_arg4)) (m ((c : Thread nD τ).loc main_arg5)) := by
  refine (dats m 0 c).arrAt_eq_of_covers 8 _ (by decide +kernel) fun t hf y => ?_
  blk_simp
  have h3 : t.val % 4 = 3 := (flush0_8 t).mp hf
  have hN : t.val < 4 := lt_of_lt_of_eq t.isLt N_0
  have e : t.val = 3 := by omega
  have h0 : ¬ t.val % 4 = 0 := by omega
  have h1 : 1 ≤ t.val := by omega
  rw [after0_8, outsAt0_C m c t h0 h1 h3 h0 h1 h3 h0 h1 h3]
  frame_out
  have b2 : t.val - 1 < cfg0.N := lt_of_le_of_lt (Nat.sub_le _ _) t.isLt
  have b1 : t.val - 1 - 1 < cfg0.N := lt_of_le_of_lt (Nat.sub_le _ _) b2
  have b0 : t.val - 1 - 1 - 1 < cfg0.N := lt_of_le_of_lt (Nat.sub_le _ _) b1
  have p2 : ¬ (⟨t.val - 1, b2⟩ : Fin cfg0.N).val % 4 = 0 ∧ 1 ≤ (⟨t.val - 1, b2⟩ : Fin cfg0.N).val ∧ ¬ (⟨t.val - 1, b2⟩ : Fin cfg0.N).val % 4 = 3 := by
    dsimp only; omega
  have p1 : ¬ (⟨t.val - 1 - 1, b1⟩ : Fin cfg0.N).val % 4 = 0 ∧ 1 ≤ (⟨t.val - 1 - 1, b1⟩ : Fin cfg0.N).val ∧ ¬ (⟨t.val - 1 - 1, b1⟩ : Fin cfg0.N).val % 4 = 3 := by
    dsimp only; omega
  have p0 : (⟨t.val - 1 - 1 - 1, b0⟩ : Fin cfg0.N).val % 4 = 0 ∧ ¬ 1 ≤ (⟨t.val - 1 - 1 - 1, b0⟩ : Fin cfg0.N).val ∧ ¬ (⟨t.val - 1 - 1 - 1, b0⟩ : Fin cfg0.N).val % 4 = 3 := by
    dsimp only; omega
  rw [outsAt0_B m c ⟨t.val - 1, b2⟩ p2.1 p2.2.1 p2.2.2 p2.1 p2.2.1 p2.2.2 p2.1 p2.2.1 p2.2.2]
  frame_out
  rw [outsAt0_B m c ⟨t.val - 1 - 1, b1⟩ p1.1 p1.2.1 p1.2.2 p1.1 p1.2.1 p1.2.2 p1.1 p1.2.1 p1.2.2]
  frame_out
  rw [outsAt0_A m c ⟨t.val - 1 - 1 - 1, b0⟩ p0.1 p0.2.1 p0.2.2 p0.1 p0.2.1 p0.2.2 p0.1 p0.2.1 p0.2.2]
  frame_out
  rw [read_unread_whole, read_unread_whole, read_unread_whole]
  pointwise [k0_pay4, k0_pay3, k0_pay2, k0_pay1, REF]
  have i3 := idx t
  have i2 := idx ⟨t.val - 1, b2⟩
  have i1 := idx ⟨t.val - 1 - 1, b1⟩
  have i0 := idx ⟨t.val - 1 - 1 - 1, b0⟩
  rw [e] at i3
  rw [show (⟨t.val - 1, b2⟩ : Fin cfg0.N).val = 2 by dsimp only; omega] at i2
  rw [show (⟨t.val - 1 - 1, b1⟩ : Fin cfg0.N).val = 1 by dsimp only; omega] at i1
  rw [show (⟨t.val - 1 - 1 - 1, b0⟩ : Fin cfg0.N).val = 0 by dsimp only; omega] at i0
  refine Eq.trans ?_ (sum_quarters _ _).symm
  blk_point [iblk, V, i3, i2, i1, i0]

/-- The kernel and the reference end with the same three products. -/
theorem algebraic : Cert.algebraic_Kernel4Ideal_Reference4Ideal (hKernel4Ideal := facts) (hReference4Ideal := Cert.Reference4Ideal.Gen.facts) := by
  intro m g m' g' hpre hargs
  refine ⟨fun c => REF (m ((c : Thread nD τ).loc main_arg0)) (m ((c : Thread nD τ).loc main_arg1)),
    fun c => REF (m ((c : Thread nD τ).loc main_arg2)) (m ((c : Thread nD τ).loc main_arg3)),
    fun c => REF (m ((c : Thread nD τ).loc main_arg4)) (m ((c : Thread nD τ).loc main_arg5)), ?_, ?_⟩
  · exact (θ_run _ _ _).mono (fun r h c => ⟨(h c).1.trans (final6 m c), (h c).2.1.trans (final7 m c),
      (h c).2.2.1.trans (final8 m c), (h c).2.2.2⟩) (Cert.Kernel4Ideal.Value.run_blocks m g)
  · refine (θ_run _ _ _).mono (fun r h c => ⟨(h c).1.trans ?_, (h c).2.1.trans ?_, (h c).2.2.1.trans ?_, (h c).2.2.2⟩)
      (Cert.Reference4Ideal.Value.run m' g')
    · rw [(hargs c).1, (hargs c).2.1]
    · rw [(hargs c).2.2.1, (hargs c).2.2.2.1]
    · rw [(hargs c).2.2.2.2.1, (hargs c).2.2.2.2.2]

/-- The reference's run leaves its arguments as they were; it has no semaphore. -/
theorem frame_reference : Cert.quiescent_Reference4Ideal (hReference4Ideal := Cert.Reference4Ideal.Gen.facts) := by
  intro m ρ _
  exact (θ_run _ _ _).mono (fun r h => ⟨fun c => (h c).2.2.2, Idealize.ShloMosaic.sem_eq_zero_of_no_sems (by decide) r.2⟩)
    (Cert.Reference4Ideal.Value.run m ρ)

end Cert.K4

end
-- ==== Proof.Reals.lean ====
/- Finite arrays as arrays of reals: sums, quotients and reciprocal roots of finite extended reals are the reals' own. -/
module

public import Idealize.ShloMosaic.PureOps.Ideal
public import Idealize.ShloMosaic.Lib.Pipeline.Value
public import Mathlib.Tactic.Positivity
public import Mathlib.Tactic.FieldSimp
public import Mathlib.Tactic.Ring

@[expose] public section

noncomputable section

namespace Cert.Reals

open Idealize.ShloMosaic

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem div_coe {a b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

theorem rsqrt_coe {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

theorem max_coe (a b : ℝ) : max (a : EReal) (b : EReal) = ((max a b : ℝ) : EReal) :=
  (EReal.coe_strictMono.monotone.map_max (a := a) (b := b)).symm

/-- The array whose entry at `(p, q)` is the real `f p q`. -/
def real2 {a b : ℕ} (f : ℕ → ℕ → ℝ) : (⟨2, ![a, b]⟩ : Shape).Idx → EReal :=
  fun i => ((f (i 0).val (i 1).val : ℝ) : EReal)

/-- An array with no infinite entry is an array of reals. -/
theorem exists_real2 {a b : ℕ} (x : (⟨2, ![a, b]⟩ : Shape).Idx → EReal) (h : ∀ i, max (x i : EReal) (-(x i : EReal)) < ⊤) :
    ∃ f : ℕ → ℕ → ℝ, x = real2 f := by
  classical
  refine ⟨fun p q => if h : ∃ i : (⟨2, ![a, b]⟩ : Shape).Idx, (i 0).val = p ∧ (i 1).val = q then EReal.toReal (x h.choose) else 0, ?_⟩
  funext i
  have hi : ∃ j : (⟨2, ![a, b]⟩ : Shape).Idx, (j 0).val = (i 0).val ∧ (j 1).val = (i 1).val := ⟨i, rfl, rfl⟩
  have e : hi.choose = i := Shape.idx_ext₂ hi.choose_spec.1 hi.choose_spec.2
  have ht := h i
  simp only [real2]
  rw [dif_pos hi, e]
  refine (EReal.coe_toReal ?_ ?_).symm
  · intro t; rw [t] at ht; simp at ht
  · intro t; rw [t] at ht; simp at ht

end Cert.Reals

end
-- ==== Proof.Finite.lean ====
/- A precondition that every entry of an array is finite makes it an array of reals. -/
module

public import proofs.«01_k».proof.Proof.Reals
public import Idealize.ShloMosaic.Lib.ReduceAll
public import Idealize.ShloMosaic.Lib.Pipeline.ValueKit

@[expose] public section

noncomputable section

namespace Cert.Reals

open Idealize.ShloMosaic

theorem both_ones (x y : BitVec 1) (h : IntOp.andi x y = 1#1) : x = 1#1 ∧ y = 1#1 := by
  revert x y; decide

theorem ofBits_inf : Ideal.ofBits .f32 0x7F800000#32 = ⊤ := by
  simp [Ideal.ofBits, Ideal.ieee]

/-- The array whose entries' absolute values all compare below infinity is an array of reals. -/
theorem real2_of_all {a b : ℕ} {u : Shape} {axes : List (Fin 2)} (x : FVec Ideal ⟨2, ![a, b]⟩ .f32) (init : IVec u 1) (B : (⟨0, ![]⟩ : Shape).BroadcastsInDim ⟨2, ![a, b]⟩ ![])
    (hr : (⟨2, ![a, b]⟩ : Shape).ReducesTo axes ⟨0, ![]⟩) (hu : 0 < u.numel) (j : (⟨0, ![]⟩ : Shape).Idx)
    (h : Host.reduce IntOp.andi (cmpf .olt (Host.absf x) (broadcastInDim ⟨2, ![a, b]⟩ ![] B (constant (F := Ideal) ⟨0, ![]⟩ .f32 0x7F800000#32))) init hr hu j = 1#1) :
    ∃ f : ℕ → ℕ → ℝ, x = real2 f := by
  refine exists_real2 x fun i => ?_
  have e := Host.reduce_andi_all _ init hr hu j h i
  have e' : BitVec.ofBool (decide (max (x i : EReal) (-(x i : EReal)) < Ideal.ofBits .f32 0x7F800000#32)) = 1#1 := e
  rw [ofBits_inf] at e'
  by_contra hn
  rw [decide_eq_false hn] at e'
  exact absurd e' (by decide)

end Cert.Reals

end
-- ==== Proof.Norm.lean ====
/- The gradient of the root-mean-square norm over the reals, in its two spellings, and the float constants it names. -/
module

public import proofs.«01_k».proof.Proof.Reals
public import Mathlib.Tactic.NormNum
public import Mathlib.Tactic.Linarith
public import Mathlib.Algebra.Order.BigOperators.Group.Finset
public import Mathlib.Algebra.BigOperators.Fin
public import Mathlib.Analysis.SpecialFunctions.Pow.Real

@[expose] public section

noncomputable section

namespace Cert.Reals

open Idealize.ShloMosaic

theorem ofBits_1024 : Ideal.ofBits .f32 0x44800000#32 = ((1024 : ℝ) : EReal) := by
  simp [Ideal.ofBits, Ideal.ieee, -EReal.coe_mul]; norm_num

/-- The norm's small constant, a little over a millionth. -/
theorem ofBits_eps : Ideal.ofBits .f32 0x358637BD#32 = ((8796093 / 8796093022208 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_zero : Ideal.ofBits .f32 0x00000000#32 = ((0 : ℝ) : EReal) := by
  simp [Ideal.ofBits, Ideal.ieee, -EReal.coe_mul]

/-- The mean square of row `p`, with the small constant added. -/
def ms (x : ℕ → ℕ → ℝ) (p : ℕ) : ℝ := (∑ k : Fin 1024, x p k * x p k) / 1024 + 8796093 / 8796093022208

theorem ms_pos (x : ℕ → ℕ → ℝ) (p : ℕ) : 0 < ms x p := by
  unfold ms
  have : 0 ≤ ∑ k : Fin 1024, x p k * x p k := Finset.sum_nonneg fun k _ => mul_self_nonneg _
  positivity

/-- The reciprocal root of the mean square of row `p`. -/
def rr (x : ℕ → ℕ → ℝ) (p : ℕ) : ℝ := (Real.sqrt (ms x p))⁻¹

theorem div_1024 (a : ℝ) : Ideal.div (a : EReal) (Ideal.ofBits .f32 0x44800000#32) = ((a / 1024 : ℝ) : EReal) := by
  rw [ofBits_1024, div_coe (by norm_num)]

/-- The mean square of a row of reals, in the extended reals. -/
theorem ms_coe (x : ℕ → ℕ → ℝ) (p : ℕ) : (((∑ k : Fin 1024, x p k * x p k) / 1024 : ℝ) : EReal)
    + Ideal.ofBits .f32 0x358637BD#32 = ((ms x p : ℝ) : EReal) := by
  rw [ofBits_eps, ← EReal.coe_add]; rfl

/-- A sum over `J * n` rows is the sum over `J` tiles of `n` rows. -/
theorem sum_tiles (J n : ℕ) (f : ℕ → ℝ) : ∑ p : Fin (J * n), f p = ∑ t : Fin J, ∑ p : Fin n, f (n * t + p) := by
  rw [← Fintype.sum_prod_type']
  refine (Fintype.sum_equiv finProdFinEquiv _ _ fun z => ?_).symm
  rw [finProdFinEquiv_apply_val, Nat.add_comm]

theorem rsqrt_ms (x : ℕ → ℕ → ℝ) (p : ℕ) : Ideal.rsqrt ((ms x p : ℝ) : EReal) = ((rr x p : ℝ) : EReal) := rsqrt_coe (ms_pos x p)

theorem div_ms (x : ℕ → ℕ → ℝ) (p : ℕ) (a : ℝ) : Ideal.div (a : EReal) ((ms x p : ℝ) : EReal) = ((a / ms x p : ℝ) : EReal) :=
  div_coe (ms_pos x p).ne'

/-- The square of the reciprocal root is the reciprocal. -/
theorem rr_sq (x : ℕ → ℕ → ℝ) (p : ℕ) : rr x p / ms x p = rr x p * rr x p * rr x p := by
  have h := ms_pos x p
  have e : rr x p * rr x p = (ms x p)⁻¹ := by
    unfold rr
    rw [← mul_inv, Real.mul_self_sqrt h.le]
  rw [e, div_eq_mul_inv, mul_comm]

/-- The gradient through the norm of row `p` at column `q`, from the gradient `d` of the normalised row. -/
def normBwd (x d : ℕ → ℕ → ℝ) (p q : ℕ) : ℝ :=
  rr x p * (d p q - x p q * rr x p * ((∑ k : Fin 1024, d p k * (x p k * rr x p)) / 1024))

/-- The same gradient as the chain rule through mean, reciprocal root and square gives it. -/
theorem normBwd_eq (x d : ℕ → ℕ → ℝ) (p q : ℕ) :
    normBwd x d p q = d p q * rr x p + (x p q * ((∑ k : Fin 1024, x p k * d p k) * (-(1 / 2) * (rr x p / ms x p)) / 1024)
      + (∑ k : Fin 1024, x p k * d p k) * (-(1 / 2) * (rr x p / ms x p)) / 1024 * x p q) := by
  have e : ∑ k : Fin 1024, d p k * (x p k * rr x p) = (∑ k : Fin 1024, x p k * d p k) * rr x p := by
    rw [Finset.sum_mul]
    exact Finset.sum_congr rfl fun k _ => by ring
  unfold normBwd
  rw [rr_sq, e]
  ring

end Cert.Reals

end
-- ==== Proof.BwdIn.lean ====
/- The gradient through the input projection and its norm: four column runs make the product, and the norm's gradient agrees with the chain rule. -/
module

public import proofs.«01_k».proof.Defs
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Pre_bwd_in_finite
public import proofs.«01_k».proof.Proof.Finite
public import proofs.«01_k».proof.Proof.Norm
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K5

open Cert.Kernel5Ideal Cert.Kernel5Ideal.Gen Cert.Reals

/-- The gradient of the normalised input: a product against all 6144 columns. -/
def dn (dz w : ℕ → ℕ → ℝ) (p q : ℕ) : ℝ := ∑ k : Fin 6144, dz p k * w q k

/-- The product in four runs of 1536 columns. -/
theorem dn_eq (dz w : ℕ → ℕ → ℝ) (p q : ℕ) : dn dz w p q
    = ∑ k : Fin 1536, dz p k * w q k + ∑ k : Fin 1536, dz p (1536 + k) * w q (1536 + k)
      + ∑ k : Fin 1536, dz p (3072 + k) * w q (3072 + k) + ∑ k : Fin 1536, dz p (4608 + k) * w q (4608 + k) := by
  have h := Fin.sum_univ_add (a := 4608) (b := 1536) fun k => dz p k * w q k
  have h' := Fin.sum_univ_add (a := 3072) (b := 1536) fun k : Fin 4608 => dz p k * w q k
  have h'' := Fin.sum_univ_add (a := 1536) (b := 1536) fun k : Fin 3072 => dz p k * w q k
  exact h.trans (congrArg (· + _) (h'.trans (congrArg (· + _) h'')))

/-- The gradient of the block's input. -/
def dx (dz x dh w g : ℕ → ℕ → ℝ) (p q : ℕ) : ℝ := dh p q + normBwd x (fun p q => dn dz w p q * g 0 q) p q

/-- The gradient of the norm's scale. -/
def dg (dz x w : ℕ → ℕ → ℝ) (_ q : ℕ) : ℝ := ∑ p : Fin 4096, dn dz w p q * (x p q * rr x p)

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![t.val, 0] ∧ win0_6.index t = ![0, 0] :=
  (by decide +kernel : ∀ t : Fin grid0.N, _)

variable (m : (ℓ : Loc nD τ sig) → Buf (Elt Ideal) ℓ) (c : Dev nD) (dz x dh w g : ℕ → ℕ → ℝ)

/-- The arguments are arrays of reals. -/
structure Args : Prop where
  h0 : m ((c : Thread nD τ).loc main_arg0) = real2 dz
  h1 : m ((c : Thread nD τ).loc main_arg1) = real2 x
  h2 : m ((c : Thread nD τ).loc main_arg2) = real2 dh
  h3 : m ((c : Thread nD τ).loc main_arg3) = real2 w
  h4 : m ((c : Thread nD τ).loc main_arg4) = real2 g

variable {m c dz x dh w g}

/-- The entries of the body's blocks, in the arguments. -/
theorem blk0 (H : Args m c dz x dh w g) (t : Fin cfg0.N) (a : Fin 512) (b : Fin 6144) :
    iblk m c 0 t (ix2 a b) = ((dz (512 * t.val + a.val) b.val : ℝ) : EReal) := by
  have hN : t.val < 8 := lt_of_lt_of_eq t.isLt N_0
  have e : iblk m c 0 t (ix2 a b) = m ((c : Thread nD τ).loc main_arg0) (ix2 ⟨512 * t.val + a.val, by omega⟩ b) := by
    blk_ext [iblk, V, idx t]
  rw [e, H.h0]; rfl

theorem blk1 (H : Args m c dz x dh w g) (t : Fin cfg0.N) (a : Fin 512) (b : Fin 1024) :
    iblk m c 1 t (ix2 a b) = ((x (512 * t.val + a.val) b.val : ℝ) : EReal) := by
  have hN : t.val < 8 := lt_of_lt_of_eq t.isLt N_0
  have e : iblk m c 1 t (ix2 a b) = m ((c : Thread nD τ).loc main_arg1) (ix2 ⟨512 * t.val + a.val, by omega⟩ b) := by
    blk_ext [iblk, V, idx t]
  rw [e, H.h1]; rfl

theorem blk2 (H : Args m c dz x dh w g) (t : Fin cfg0.N) (a : Fin 512) (b : Fin 1024) :
    iblk m c 2 t (ix2 a b) = ((dh (512 * t.val + a.val) b.val : ℝ) : EReal) := by
  have hN : t.val < 8 := lt_of_lt_of_eq t.isLt N_0
  have e : iblk m c 2 t (ix2 a b) = m ((c : Thread nD τ).loc main_arg2) (ix2 ⟨512 * t.val + a.val, by omega⟩ b) := by
    blk_ext [iblk, V, idx t]
  rw [e, H.h2]; rfl

theorem blk3 (H : Args m c dz x dh w g) (t : Fin cfg0.N) (s : Fin 4) (a : Fin 1024) (b : Fin 1536) :
    iblk m c 3 t (ix3 s a b) = ((w a.val (1536 * s.val + b.val) : ℝ) : EReal) := by
  have e : iblk m c 3 t (ix3 s a b) = m ((c : Thread nD τ).loc main_arg3) (ix2 a ⟨1536 * s.val + b.val, by omega⟩) := by
    blk_ext! [iblk, V, idx t]
  rw [e, H.h3]; rfl

theorem blk3_0 (H : Args m c dz x dh w g) (t : Fin cfg0.N) (a : Fin 1024) (b : Fin 1536) :
    iblk m c 3 t (ix3 0 a b) = ((w a.val b.val : ℝ) : EReal) := by
  rw [blk3 H]; simp

theorem blk3_1 (H : Args m c dz x dh w g) (t : Fin cfg0.N) (a : Fin 1024) (b : Fin 1536) :
    iblk m c 3 t (ix3 1 a b) = ((w a.val (1536 + b.val) : ℝ) : EReal) := blk3 H t 1 a b

theorem blk3_2 (H : Args m c dz x dh w g) (t : Fin cfg0.N) (a : Fin 1024) (b : Fin 1536) :
    iblk m c 3 t (ix3 2 a b) = ((w a.val (3072 + b.val) : ℝ) : EReal) := blk3 H t 2 a b

theorem blk3_3 (H : Args m c dz x dh w g) (t : Fin cfg0.N) (a : Fin 1024) (b : Fin 1536) :
    iblk m c 3 t (ix3 3 a b) = ((w a.val (4608 + b.val) : ℝ) : EReal) := blk3 H t 3 a b

theorem blk4 (H : Args m c dz x dh w g) (t : Fin cfg0.N) (a : Fin 1) (b : Fin 1024) :
    iblk m c 4 t (ix2 a b) = ((g 0 b.val : ℝ) : EReal) := by
  have e : iblk m c 4 t (ix2 a b) = m ((c : Thread nD τ).loc main_arg4) (ix2 0 b) := by
    blk_ext [iblk, V, idx t]
  rw [e, H.h4]; rfl

set_option maxHeartbeats 1000000 in
/-- What the body leaves in the tile of the input's gradient. -/
theorem after5 (H : Args m c dz x dh w g) (t : Fin cfg0.N) (p : Fin 512) (q : Fin 1024) :
    ((dats m 0 c).after 5 t : S512x1024.Idx → EReal) (ix2 p q) = ((dx dz x dh w g (512 * t.val + p.val) q.val : ℝ) : EReal) := by
  by_cases h0 : t.val % 8 = 0
  · rw [after0_5, outsAt0_A m c t h0]
    frame_out
    pointwise [k0_pay4, k0_pay6, k0_pay7, k0_pay2, k0_pay1]
    simp only [blk0 H, blk1 H, blk2 H, blk3_0 H, blk3_1 H, blk3_2 H, blk3_3 H, blk4 H]
    simp only [← EReal.coe_mul, ← EReal.coe_add, ← EReal.coe_sub, coe_sum, ms_coe x, rsqrt_ms x, div_1024, ← dn_eq]
    rfl
  · rw [after0_5, outsAt0_B m c t h0]
    frame_out
    pointwise [k0_pay4, k0_pay6, k0_pay7, k0_pay2, k0_pay1]
    simp only [blk0 H, blk1 H, blk2 H, blk3_0 H, blk3_1 H, blk3_2 H, blk3_3 H, blk4 H]
    simp only [← EReal.coe_mul, ← EReal.coe_add, ← EReal.coe_sub, coe_sum, ms_coe x, rsqrt_ms x, div_1024, ← dn_eq]
    rfl

theorem final5 (H : Args m c dz x dh w g) : (dats m 0 c).arrAt 5 (cfgs 0).N = real2 (dx dz x dh w g) := by
  refine (dats m 0 c).arrAt_eq_of_covers 5 _ (by decide +kernel) fun t hf y => ?_
  blk_simp
  rw [show y = ix2 (y 0) (y 1) from eq_ix2 y]
  refine (after5 H t (y 0) (y 1)).trans ?_
  blk_simp [real2, idx t]
  rw [Nat.mul_comm]

theorem final6 (H : Args m c dz x dh w g) : (dats m 0 c).arrAt 6 (cfgs 0).N = real2 (dg dz x w) := by
  refine (dats m 0 c).arrAt_eq_of_after_last 6 t0_7 (by decide +kernel) _ fun j => ?_
  obtain ⟨a, q, rfl⟩ : ∃ (a : Fin 1) (q : Fin 1024), j = ix2 a q := ⟨j 0, j 1, eq_ix2 j⟩
  rw [after0_6, Pipeline.eq_sum_fin_of_reset_step_apply_last (fun n h => (outsAt0 m c n h).2) 8 (fun _ => 0)
    (fun t i => ((∑ p : Fin 512, dn dz w (512 * t.val + p.val) (i 1).val * (x (512 * t.val + p.val) (i 1).val * rr x (512 * t.val + p.val)) : ℝ) : EReal))
    (fun t h0 i => ?_) (fun t h0 i => ?_) (le_of_eq N_0) t0_7 rfl]
  · simp only [zero_add, coe_sum]
    blk_simp [real2]
    show (((∑ t : Fin 8, ∑ p : Fin 512, dn dz w (512 * t + p) q * (x (512 * t + p) q * rr x (512 * t + p)) : ℝ)) : EReal) = ((dg dz x w a q : ℝ) : EReal)
    rw [← sum_tiles 8 512 fun p => dn dz w p q * (x p q * rr x p)]
    rfl
  · obtain ⟨a, q, rfl⟩ : ∃ (a : Fin 1) (q : Fin 1024), i = ix2 a q := ⟨i 0, i 1, eq_ix2 i⟩
    rw [outsAt0_A m c t h0]
    frame_out
    pointwise [k0_pay3, k0_pay5, k0_pay6, k0_pay7, k0_pay2, k0_pay1]
    simp only [blk0 H, blk1 H, blk2 H, blk3_0 H, blk3_1 H, blk3_2 H, blk3_3 H, blk4 H]
    simp only [← EReal.coe_mul, ← EReal.coe_add, ← EReal.coe_sub, coe_sum, ms_coe x, rsqrt_ms x, div_1024, ← dn_eq]
  · obtain ⟨a, q, rfl⟩ : ∃ (a : Fin 1) (q : Fin 1024), i = ix2 a q := ⟨i 0, i 1, eq_ix2 i⟩
    rw [outsAt0_B m c t h0]
    frame_out
    pointwise [k0_pay3, k0_pay5, k0_pay6, k0_pay7, k0_pay2, k0_pay1]
    simp only [blk0 H, blk1 H, blk2 H, blk3_0 H, blk3_1 H, blk3_2 H, blk3_3 H, blk4 H]
    simp only [← EReal.coe_mul, ← EReal.coe_add, ← EReal.coe_sub, coe_sum, ms_coe x, rsqrt_ms x, div_1024, ← dn_eq]

/-- The reference's gradient of the block's input, over the reals. -/
theorem ref0 (m : (ℓ : Loc Cert.Reference5Ideal.nD Cert.Reference5Ideal.τ Cert.Reference5Ideal.sig) → Buf (Elt Ideal) ℓ) (c : Dev Cert.Reference5Ideal.nD)
   (h0 : m ((c.tc : Thread _ Cert.Reference5Ideal.τ).loc Cert.Reference5Ideal.main_arg0) = real2 dz)
   (h1 : m ((c.tc : Thread _ Cert.Reference5Ideal.τ).loc Cert.Reference5Ideal.main_arg1) = real2 x)
   (h2 : m ((c.tc : Thread _ Cert.Reference5Ideal.τ).loc Cert.Reference5Ideal.main_arg2) = real2 dh)
   (h3 : m ((c.tc : Thread _ Cert.Reference5Ideal.τ).loc Cert.Reference5Ideal.main_arg3) = real2 w)
   (h4 : m ((c.tc : Thread _ Cert.Reference5Ideal.τ).loc Cert.Reference5Ideal.main_arg4) = real2 g) :
   Cert.Reference5Ideal.Value.res_out0 m c = real2 (dx dz x dh w g) := by
  show Cert.Reference5Ideal.Value.res_main_v38 m c = _
  unfold Cert.Reference5Ideal.Value.res_main_v38
  rw [h0, h1, h2, h3, h4]
  funext y
  obtain ⟨p, q, rfl⟩ : ∃ (p : Fin 4096) (q : Fin 1024), y = ix2 p q := ⟨y 0, y 1, eq_ix2 y⟩
  show _ = ((dx dz x dh w g p q : ℝ) : EReal)
  rw [dx, normBwd_eq]
  pointwise [real2]
  simp only [← EReal.coe_mul, ← EReal.coe_add, ← EReal.coe_sub, coe_sum, ms_coe x, rsqrt_ms x, div_ms x, ofBits_neg_half, div_1024]
  simp only [Finset.sum_const, Finset.card_univ, Fintype.card_fin, one_smul, add_assoc, dn]

/-- The precondition makes every argument an array of reals. -/
theorem args_of_pre {m : (ℓ : Loc nD τ sig) → Buf (Elt Ideal) ℓ} (hP : Cert.Pre_Kernel5Ideal_bwd_in_finite (hPre_bwd_in_finite := Cert.Pre_bwd_in_finite.Gen.facts) m)
    (c : Dev nD) : ∃ dz x dh w g, Args m c dz x dh w g := by
  have h := congrFun (hP c) ix0
  obtain ⟨h, e4⟩ := both_ones _ _ h
  obtain ⟨h, e3⟩ := both_ones _ _ h
  obtain ⟨h, e2⟩ := both_ones _ _ h
  obtain ⟨e0, e1⟩ := both_ones _ _ h
  obtain ⟨dz, h0⟩ := real2_of_all _ _ _ _ _ _ e0
  obtain ⟨x, h1⟩ := real2_of_all _ _ _ _ _ _ e1
  obtain ⟨dh, h2⟩ := real2_of_all _ _ _ _ _ _ e2
  obtain ⟨w, h3⟩ := real2_of_all _ _ _ _ _ _ e3
  obtain ⟨g, h4⟩ := real2_of_all _ _ _ _ _ _ e4
  exact ⟨dz, x, dh, w, g, h0, h1, h2, h3, h4⟩

/-- On finite arguments the kernel and the reference end with the same two gradients. -/
theorem algebraic : Cert.algebraic_Kernel5Ideal_Reference5Ideal_pre_bwd_in_finite (hKernel5Ideal := facts)
    (hReference5Ideal := Cert.Reference5Ideal.Gen.facts) (hPre_bwd_in_finite := Cert.Pre_bwd_in_finite.Gen.facts) := by
  intro m ρ m' ρ' hpre hargs
  choose dz x dh w g H using args_of_pre hpre
  refine ⟨fun c => real2 (dx (dz c) (x c) (dh c) (w c) (g c)), fun c => real2 (dg (dz c) (x c) (w c)), ?_, ?_⟩
  · exact (θ_run _ _ _).mono (fun r h c => ⟨(h c).1.trans (final5 (H c)), (h c).2.1.trans (final6 (H c)), (h c).2.2⟩)
      (Cert.Kernel5Ideal.Value.run_blocks m ρ)
  · refine (θ_run _ _ _).mono (fun r h c => ?_) (Cert.Reference5Ideal.Value.run m' ρ')
    have h0 := (hargs c).1.trans (H c).h0
    have h1 := (hargs c).2.1.trans (H c).h1
    have h2 := (hargs c).2.2.1.trans (H c).h2
    have h3 := (hargs c).2.2.2.1.trans (H c).h3
    have h4 := (hargs c).2.2.2.2.trans (H c).h4
    refine ⟨(h c).1.trans (ref0 m' c h0 h1 h2 h3 h4), (h c).2.1.trans ?_, (h c).2.2⟩
    rw [h0, h1, h3]
    funext y
    obtain ⟨p, q, rfl⟩ : ∃ (p : Fin 1) (q : Fin 1024), y = ix2 p q := ⟨y 0, y 1, eq_ix2 y⟩
    show _ = ((dg (dz c) (x c) (w c) p q : ℝ) : EReal)
    pointwise [real2]
    simp only [← EReal.coe_mul, ← EReal.coe_add, coe_sum, ms_coe (x c), rsqrt_ms (x c), div_1024]
    refine congrArg _ (Finset.sum_congr rfl fun k _ => ?_)
    rw [dn]
    ring

/-- The reference's run leaves its arguments as they were; it has no semaphore. -/
theorem frame_reference : Cert.quiescent_Reference5Ideal (hReference5Ideal := Cert.Reference5Ideal.Gen.facts) := by
  intro m ρ _
  exact (θ_run _ _ _).mono (fun r h => ⟨fun c => (h c).2.2, Idealize.ShloMosaic.sem_eq_zero_of_no_sems (by decide) r.2⟩)
    (Cert.Reference5Ideal.Value.run m ρ)

end Cert.K5

end
-- ==== Proof.MlpReal.lean ====
/- The fused feed-forward step over the reals: forward, loss and gradients, and the sums the kernel takes in four runs of columns. -/
module

public import proofs.«01_k».proof.Proof.Norm

@[expose] public section

noncomputable section

namespace Cert.K6

open Idealize.ShloMosaic Cert.Reals

/-- The step's arguments: residual stream, target, up and down weights, and the two norms' scales. -/
structure In where
  h1 : ℕ → ℕ → ℝ
  tg : ℕ → ℕ → ℝ
  wu : ℕ → ℕ → ℝ
  wd : ℕ → ℕ → ℝ
  g2 : ℕ → ℕ → ℝ
  g3 : ℕ → ℕ → ℝ

namespace In

variable (I : In)

/-- The normalised residual stream, before and after its scale. -/
def xh1 (p q : ℕ) : ℝ := I.h1 p q * rr I.h1 p
def n2 (p q : ℕ) : ℝ := I.xh1 p q * I.g2 0 q

/-- The up projection, its positive part, and the square of that. -/
def up (p f : ℕ) : ℝ := ∑ k : Fin 1024, I.n2 p k * I.wu k f
def u (p f : ℕ) : ℝ := max (I.up p f) 0
def act (p f : ℕ) : ℝ := I.u p f * I.u p f

/-- The block's output, its normalised rows, and the difference from the target. -/
def h2 (p q : ℕ) : ℝ := I.h1 p q + ∑ f : Fin 4096, I.act p f * I.wd f q
def xh (p q : ℕ) : ℝ := I.h2 p q * rr I.h2 p
def df (p q : ℕ) : ℝ := I.xh p q * I.g3 0 q - I.tg p q

/-- The loss, the gradient of the normalised output, and of the last norm's scale. -/
def loss (_ _ : ℕ) : ℝ := ∑ p : Fin 4096, 1 / 2048 * ∑ q : Fin 1024, I.df p q * I.df p q
def dy (p q : ℕ) : ℝ := I.df p q * (1 / 1024)
def dg3 (_ q : ℕ) : ℝ := ∑ p : Fin 4096, I.dy p q * I.xh p q

/-- The gradient of the block's output, of the up projection, and of its normalised input. -/
def dh2 (p q : ℕ) : ℝ := normBwd I.h2 (fun p q => I.dy p q * I.g3 0 q) p q
def dw (p f : ℕ) : ℝ := ∑ k : Fin 1024, I.dh2 p k * I.wd f k
def dup (p f : ℕ) : ℝ := I.dw p f * (2 * I.u p f)
def dn2 (p q : ℕ) : ℝ := ∑ f : Fin 4096, I.dup p f * I.wu q f

/-- The gradients of the norm's scale and of the residual stream. -/
def dg2 (_ q : ℕ) : ℝ := ∑ p : Fin 4096, I.dn2 p q * I.xh1 p q
def dh1 (p q : ℕ) : ℝ := I.dh2 p q + normBwd I.h1 (fun p q => I.dn2 p q * I.g2 0 q) p q

end In

/-- A sum over 4096 columns in four runs of 1024. -/
theorem sum_runs (f : ℕ → ℝ) : ∑ k : Fin 4096, f k = ∑ k : Fin 1024, f (0 + k) + ∑ k : Fin 1024, f (1024 + k)
    + ∑ k : Fin 1024, f (2048 + k) + ∑ k : Fin 1024, f (3072 + k) := by
  have h := Fin.sum_univ_add (a := 3072) (b := 1024) fun k => f k
  have h' := Fin.sum_univ_add (a := 2048) (b := 1024) fun k : Fin 3072 => f k
  have h'' := Fin.sum_univ_add (a := 1024) (b := 1024) fun k : Fin 2048 => f k
  simp only [Nat.zero_add]
  exact h.trans (congrArg (· + _) (h'.trans (congrArg (· + _) h'')))

namespace In

variable (I : In)

/-- The block's output after one and after three of the four runs. -/
def h2a (p q : ℕ) : ℝ := I.h1 p q + ∑ k : Fin 1024, I.act p (0 + k) * I.wd (0 + k) q
def h2b (p q : ℕ) : ℝ := I.h2a p q + ∑ k : Fin 1024, I.act p (1024 + k) * I.wd (1024 + k) q
  + ∑ k : Fin 1024, I.act p (2048 + k) * I.wd (2048 + k) q

theorem h2_eq (p q : ℕ) : I.h2b p q + ∑ k : Fin 1024, I.act p (3072 + k) * I.wd (3072 + k) q = I.h2 p q := by
  unfold h2 h2b h2a
  rw [sum_runs fun f => I.act p f * I.wd f q]
  ring

/-- The gradient of the normalised input after one and after three of the four runs. -/
def dn2a (p q : ℕ) : ℝ := ∑ k : Fin 1024, I.dup p (0 + k) * I.wu q (0 + k)
def dn2b (p q : ℕ) : ℝ := I.dn2a p q + ∑ k : Fin 1024, I.dup p (1024 + k) * I.wu q (1024 + k)
  + ∑ k : Fin 1024, I.dup p (2048 + k) * I.wu q (2048 + k)

theorem dn2_eq (p q : ℕ) : I.dn2b p q + ∑ k : Fin 1024, I.dup p (3072 + k) * I.wu q (3072 + k) = I.dn2 p q := by
  unfold dn2 dn2b dn2a
  rw [sum_runs fun f => I.dup p f * I.wu q f]

end In

/-- Rows `P, P+1, …` of an array of reals. -/
def rows {a b : ℕ} (P : ℕ) (f : ℕ → ℕ → ℝ) : (⟨2, ![a, b]⟩ : Shape).Idx → EReal :=
  fun i => ((f (P + (i 0).val) (i 1).val : ℝ) : EReal)

/-- Rows `P, P+1, …` and columns `Q, Q+1, …` of an array of reals. -/
def tile {a b : ℕ} (P Q : ℕ) (f : ℕ → ℕ → ℝ) : (⟨2, ![a, b]⟩ : Shape).Idx → EReal :=
  fun i => ((f (P + (i 0).val) (Q + (i 1).val) : ℝ) : EReal)

/-- Columns `Q, Q+1, …` of an array of reals, as a block of a stack. -/
def cols {a b : ℕ} (Q : ℕ) (f : ℕ → ℕ → ℝ) : (⟨3, ![1, a, b]⟩ : Shape).Idx → EReal :=
  fun i => ((f (i 1).val (Q + (i 2).val) : ℝ) : EReal)

/-- The one row of an array of reals. -/
def row {b : ℕ} (f : ℕ → ℕ → ℝ) : (⟨2, ![1, b]⟩ : Shape).Idx → EReal :=
  fun i => ((f 0 (i 1).val : ℝ) : EReal)

theorem max_zero_coe (a : ℝ) : max (a : EReal) 0 = ((max a 0 : ℝ) : EReal) := by
  rw [← EReal.coe_zero, max_coe]

theorem ofBits_two : Ideal.ofBits .f32 0x40000000#32 = ((2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_inv_1024 : Ideal.ofBits .f32 0x3A800000#32 = ((1 / 1024 : ℝ) : EReal) := by
  simp [Ideal.ofBits, Ideal.ieee, -EReal.coe_mul]; norm_num

theorem ofBits_inv_2048 : Ideal.ofBits .f32 0x3A000000#32 = ((1 / 2048 : ℝ) : EReal) := by
  simp [Ideal.ofBits, Ideal.ieee, -EReal.coe_mul]; norm_num

end Cert.K6

end
-- ==== Proof.MlpBody.lean ====
/- The values the fused feed-forward kernel's body computes from one tile of 256 rows, over the reals. -/
module

public import proofs.«01_k».proof.Proof.Gen.Kernel6Ideal.Frame
public import proofs.«01_k».proof.Proof.MlpReal
public import Idealize.ShloMosaic.Lib.Pipeline.ValueKit

@[expose] public section

set_option maxRecDepth 16384

noncomputable section

open Idealize.ShloMosaic

namespace Cert.K6

open Cert.Kernel6Ideal Cert.Kernel6Ideal.Gen Cert.Reals

variable (I : In) (P Q : ℕ)

/-- The tile itself. -/
theorem pay4 : k0_pay4 (F := Ideal) (rows (a := 256) (b := 1024) P I.n2)
    = rows (a := 256) (b := 1024) P I.n2 := by
  funext y
  obtain ⟨p, q, rfl⟩ : ∃ (p : Fin 256) (q : Fin 1024), y = ix2 p q := ⟨y 0, y 1, eq_ix2 y⟩
  pointwise [k0_pay4, rows, cols, tile, row]

/-- The positive part of a run of the up projection. -/
theorem pay6 : k0_pay6 (F := Ideal) (rows (a := 256) (b := 1024) P I.n2) (cols (a := 1024) (b := 1024) Q I.wu)
    = tile (a := 256) (b := 1024) P Q I.u := by
  funext y
  obtain ⟨p, q, rfl⟩ : ∃ (p : Fin 256) (q : Fin 1024), y = ix2 p q := ⟨y 0, y 1, eq_ix2 y⟩
  pointwise [k0_pay6, k0_pay5, k0_pay4, rows, cols, tile, row]
  simp only [← EReal.coe_mul, ← EReal.coe_add, ← EReal.coe_sub, coe_sum, max_zero_coe, ofBits_two, ofBits_inv_1024, div_1024]
  rfl

/-- Its square. -/
theorem pay7 : k0_pay7 (F := Ideal) (rows (a := 256) (b := 1024) P I.n2) (cols (a := 1024) (b := 1024) Q I.wu)
    = tile (a := 256) (b := 1024) P Q I.act := by
  funext y
  obtain ⟨p, q, rfl⟩ : ∃ (p : Fin 256) (q : Fin 1024), y = ix2 p q := ⟨y 0, y 1, eq_ix2 y⟩
  pointwise [k0_pay7, k0_pay5, k0_pay4, rows, cols, tile, row]
  simp only [← EReal.coe_mul, ← EReal.coe_add, ← EReal.coe_sub, coe_sum, max_zero_coe, ofBits_two, ofBits_inv_1024, div_1024]
  rfl

/-- The positive part of a run of the up projection. -/
theorem pay10 : k0_pay10 (F := Ideal) (rows (a := 256) (b := 1024) P I.n2) (cols (a := 1024) (b := 1024) Q I.wu)
    = tile (a := 256) (b := 1024) P Q I.u := by
  funext y
  obtain ⟨p, q, rfl⟩ : ∃ (p : Fin 256) (q : Fin 1024), y = ix2 p q := ⟨y 0, y 1, eq_ix2 y⟩
  pointwise [k0_pay10, k0_pay9, k0_pay4, rows, cols, tile, row]
  simp only [← EReal.coe_mul, ← EReal.coe_add, ← EReal.coe_sub, coe_sum, max_zero_coe, ofBits_two, ofBits_inv_1024, div_1024]
  rfl

/-- Its square. -/
theorem pay11 : k0_pay11 (F := Ideal) (rows (a := 256) (b := 1024) P I.n2) (cols (a := 1024) (b := 1024) Q I.wu)
    = tile (a := 256) (b := 1024) P Q I.act := by
  funext y
  obtain ⟨p, q, rfl⟩ : ∃ (p : Fin 256) (q : Fin 1024), y = ix2 p q := ⟨y 0, y 1, eq_ix2 y⟩
  pointwise [k0_pay11, k0_pay9, k0_pay4, rows, cols, tile, row]
  simp only [← EReal.coe_mul, ← EReal.coe_add, ← EReal.coe_sub, coe_sum, max_zero_coe, ofBits_two, ofBits_inv_1024, div_1024]
  rfl

/-- The positive part of a run of the up projection. -/
theorem pay13 : k0_pay13 (F := Ideal) (rows (a := 256) (b := 1024) P I.n2) (cols (a := 1024) (b := 1024) Q I.wu)
    = tile (a := 256) (b := 1024) P Q I.u := by
  funext y
  obtain ⟨p, q, rfl⟩ : ∃ (p : Fin 256) (q : Fin 1024), y = ix2 p q := ⟨y 0, y 1, eq_ix2 y⟩
  pointwise [k0_pay13, k0_pay12, rows, cols, tile, row]
  simp only [← EReal.coe_mul, ← EReal.coe_add, ← EReal.coe_sub, coe_sum, max_zero_coe, ofBits_two, ofBits_inv_1024, div_1024]
  rfl

/-- Its square. -/
theorem pay14 : k0_pay14 (F := Ideal) (rows (a := 256) (b := 1024) P I.n2) (cols (a := 1024) (b := 1024) Q I.wu)
    = tile (a := 256) (b := 1024) P Q I.act := by
  funext y
  obtain ⟨p, q, rfl⟩ : ∃ (p : Fin 256) (q : Fin 1024), y = ix2 p q := ⟨y 0, y 1, eq_ix2 y⟩
  pointwise [k0_pay14, k0_pay12, rows, cols, tile, row]
  simp only [← EReal.coe_mul, ← EReal.coe_add, ← EReal.coe_sub, coe_sum, max_zero_coe, ofBits_two, ofBits_inv_1024, div_1024]
  rfl

/-- The positive part of a run of the up projection. -/
theorem pay17 : k0_pay17 (F := Ideal) (rows (a := 256) (b := 1024) P I.n2) (cols (a := 1024) (b := 1024) Q I.wu)
    = tile (a := 256) (b := 1024) P Q I.u := by
  funext y
  obtain ⟨p, q, rfl⟩ : ∃ (p : Fin 256) (q : Fin 1024), y = ix2 p q := ⟨y 0, y 1, eq_ix2 y⟩
  pointwise [k0_pay17, k0_pay16, rows, cols, tile, row]
  simp only [← EReal.coe_mul, ← EReal.coe_add, ← EReal.coe_sub, coe_sum, max_zero_coe, ofBits_two, ofBits_inv_1024, div_1024]
  rfl

/-- Its square. -/
theorem pay18 : k0_pay18 (F := Ideal) (rows (a := 256) (b := 1024) P I.n2) (cols (a := 1024) (b := 1024) Q I.wu)
    = tile (a := 256) (b := 1024) P Q I.act := by
  funext y
  obtain ⟨p, q, rfl⟩ : ∃ (p : Fin 256) (q : Fin 1024), y = ix2 p q := ⟨y 0, y 1, eq_ix2 y⟩
  pointwise [k0_pay18, k0_pay16, rows, cols, tile, row]
  simp only [← EReal.coe_mul, ← EReal.coe_add, ← EReal.coe_sub, coe_sum, max_zero_coe, ofBits_two, ofBits_inv_1024, div_1024]
  rfl

/-- The output after the first run. -/
theorem pay8 : k0_pay8 (F := Ideal) (rows (a := 256) (b := 1024) P I.n2) (rows (a := 256) (b := 1024) P I.h1) (cols (a := 1024) (b := 1024) 0 I.wu) (rows (a := 1024) (b := 1024) 0 I.wd)
    = rows (a := 256) (b := 1024) P I.h2a := by
  unfold k0_pay8
  rw [pay7]
  funext y
  obtain ⟨p, q, rfl⟩ : ∃ (p : Fin 256) (q : Fin 1024), y = ix2 p q := ⟨y 0, y 1, eq_ix2 y⟩
  pointwise [k0_pay8, rows, cols, tile, row]
  simp only [← EReal.coe_mul, ← EReal.coe_add, ← EReal.coe_sub, coe_sum, max_zero_coe, ofBits_two, ofBits_inv_1024, div_1024]
  rfl

/-- The output after three runs. -/
theorem pay15 : k0_pay15 (F := Ideal) (rows (a := 256) (b := 1024) P I.n2) (rows (a := 256) (b := 1024) P I.h2a) (tile (a := 256) (b := 1024) P 1024 I.act) (rows (a := 1024) (b := 1024) 1024 I.wd) (cols (a := 1024) (b := 1024) 2048 I.wu) (rows (a := 1024) (b := 1024) 2048 I.wd)
    = rows (a := 256) (b := 1024) P I.h2b := by
  unfold k0_pay15
  rw [pay14]
  funext y
  obtain ⟨p, q, rfl⟩ : ∃ (p : Fin 256) (q : Fin 1024), y = ix2 p q := ⟨y 0, y 1, eq_ix2 y⟩
  pointwise [k0_pay15, rows, cols, tile, row]
  simp only [← EReal.coe_mul, ← EReal.coe_add, ← EReal.coe_sub, coe_sum, max_zero_coe, ofBits_two, ofBits_inv_1024, div_1024]
  rfl

/-- The output. -/
theorem pay19 : k0_pay19 (F := Ideal) (rows (a := 256) (b := 1024) P I.h2b) (tile (a := 256) (b := 1024) P 3072 I.act) (rows (a := 1024) (b := 1024) 3072 I.wd)
    = rows (a := 256) (b := 1024) P I.h2 := by
  funext y
  obtain ⟨p, q, rfl⟩ : ∃ (p : Fin 256) (q : Fin 1024), y = ix2 p q := ⟨y 0, y 1, eq_ix2 y⟩
  pointwise [k0_pay19, rows, cols, tile, row]
  simp only [← EReal.coe_mul, ← EReal.coe_add, ← EReal.coe_sub, coe_sum, max_zero_coe, ofBits_two, ofBits_inv_1024, div_1024]
  exact congrArg _ (I.h2_eq _ _)

/-- The reciprocal root of each row's mean square. -/
theorem pay20 : k0_pay20 (F := Ideal) (rows (a := 256) (b := 1024) P I.h2b) (tile (a := 256) (b := 1024) P 3072 I.act) (rows (a := 1024) (b := 1024) 3072 I.wd)
    = rows (a := 256) (b := 1) P (fun p _ => rr I.h2 p) := by
  unfold k0_pay20
  rw [pay19]
  funext y
  obtain ⟨p, q, rfl⟩ : ∃ (p : Fin 256) (q : Fin 1), y = ix2 p q := ⟨y 0, y 1, eq_ix2 y⟩
  pointwise [k0_pay20, rows, cols, tile, row]
  simp only [← EReal.coe_mul, ← EReal.coe_add, ← EReal.coe_sub, coe_sum, max_zero_coe, ofBits_two, ofBits_inv_1024, div_1024, ms_coe I.h2, rsqrt_ms I.h2]

/-- The normalised output. -/
theorem pay21 : k0_pay21 (F := Ideal) (rows (a := 256) (b := 1024) P I.h2b) (tile (a := 256) (b := 1024) P 3072 I.act) (rows (a := 1024) (b := 1024) 3072 I.wd)
    = rows (a := 256) (b := 1024) P I.xh := by
  unfold k0_pay21
  rw [pay19, pay20]
  funext y
  obtain ⟨p, q, rfl⟩ : ∃ (p : Fin 256) (q : Fin 1024), y = ix2 p q := ⟨y 0, y 1, eq_ix2 y⟩
  pointwise [k0_pay21, rows, cols, tile, row]
  simp only [← EReal.coe_mul, ← EReal.coe_add, ← EReal.coe_sub, coe_sum, max_zero_coe, ofBits_two, ofBits_inv_1024, div_1024]
  rfl

/-- The difference from the target. -/
theorem pay22 : k0_pay22 (F := Ideal) (rows (a := 256) (b := 1024) P I.h2b) (tile (a := 256) (b := 1024) P 3072 I.act) (rows (a := 1024) (b := 1024) 3072 I.wd) (row (b := 1024) I.g3) (rows (a := 256) (b := 1024) P I.tg)
    = rows (a := 256) (b := 1024) P I.df := by
  unfold k0_pay22
  rw [pay21]
  funext y
  obtain ⟨p, q, rfl⟩ : ∃ (p : Fin 256) (q : Fin 1024), y = ix2 p q := ⟨y 0, y 1, eq_ix2 y⟩
  pointwise [k0_pay22, rows, cols, tile, row]
  simp only [← EReal.coe_mul, ← EReal.coe_add, ← EReal.coe_sub, coe_sum, max_zero_coe, ofBits_two, ofBits_inv_1024, div_1024]
  rfl

/-- The gradient of the scaled normalised output. -/
theorem pay24 : k0_pay24 (F := Ideal) (rows (a := 256) (b := 1024) P I.h2b) (tile (a := 256) (b := 1024) P 3072 I.act) (rows (a := 1024) (b := 1024) 3072 I.wd) (row (b := 1024) I.g3) (rows (a := 256) (b := 1024) P I.tg)
    = rows (a := 256) (b := 1024) P I.dy := by
  unfold k0_pay24
  rw [pay22]
  funext y
  obtain ⟨p, q, rfl⟩ : ∃ (p : Fin 256) (q : Fin 1024), y = ix2 p q := ⟨y 0, y 1, eq_ix2 y⟩
  pointwise [k0_pay24, rows, cols, tile, row]
  simp only [← EReal.coe_mul, ← EReal.coe_add, ← EReal.coe_sub, coe_sum, max_zero_coe, ofBits_two, ofBits_inv_1024, div_1024]
  rfl

/-- The gradient of the output. -/
theorem pay26 : k0_pay26 (F := Ideal) (rows (a := 256) (b := 1) P (fun p _ => rr I.h2 p)) (rows (a := 256) (b := 1024) P I.xh) (rows (a := 256) (b := 1024) P I.dy) (row (b := 1024) I.g3)
    = rows (a := 256) (b := 1024) P I.dh2 := by
  funext y
  obtain ⟨p, q, rfl⟩ : ∃ (p : Fin 256) (q : Fin 1024), y = ix2 p q := ⟨y 0, y 1, eq_ix2 y⟩
  pointwise [k0_pay26, rows, cols, tile, row]
  simp only [← EReal.coe_mul, ← EReal.coe_add, ← EReal.coe_sub, coe_sum, max_zero_coe, ofBits_two, ofBits_inv_1024, div_1024]
  rfl

/-- The gradient of the output. -/
theorem pay27 : k0_pay27 (F := Ideal) (rows (a := 256) (b := 1) P (fun p _ => rr I.h2 p)) (rows (a := 256) (b := 1024) P I.xh) (rows (a := 256) (b := 1024) P I.dy) (row (b := 1024) I.g3)
    = rows (a := 256) (b := 1024) P I.dh2 := by
  unfold k0_pay27
  rw [pay26]
  funext y
  obtain ⟨p, q, rfl⟩ : ∃ (p : Fin 256) (q : Fin 1024), y = ix2 p q := ⟨y 0, y 1, eq_ix2 y⟩
  pointwise [k0_pay27, rows, cols, tile, row]

/-- The gradient of a run of the up projection. -/
theorem pay28 : k0_pay28 (F := Ideal) (rows (a := 256) (b := 1) P (fun p _ => rr I.h2 p)) (rows (a := 256) (b := 1024) P I.xh) (rows (a := 256) (b := 1024) P I.dy) (row (b := 1024) I.g3) (rows (a := 1024) (b := 1024) Q I.wd) (tile (a := 256) (b := 1024) P Q I.u)
    = tile (a := 256) (b := 1024) P Q I.dup := by
  unfold k0_pay28
  rw [pay27]
  funext y
  obtain ⟨p, q, rfl⟩ : ∃ (p : Fin 256) (q : Fin 1024), y = ix2 p q := ⟨y 0, y 1, eq_ix2 y⟩
  pointwise [k0_pay28, rows, cols, tile, row]
  simp only [← EReal.coe_mul, ← EReal.coe_add, ← EReal.coe_sub, coe_sum, max_zero_coe, ofBits_two, ofBits_inv_1024, div_1024]
  rfl

/-- The normalised input's gradient after the first run. -/
theorem pay29 : k0_pay29 (F := Ideal) (rows (a := 256) (b := 1) P (fun p _ => rr I.h2 p)) (rows (a := 256) (b := 1024) P I.xh) (rows (a := 256) (b := 1024) P I.dy) (row (b := 1024) I.g3) (rows (a := 1024) (b := 1024) 0 I.wd) (tile (a := 256) (b := 1024) P 0 I.u) (cols (a := 1024) (b := 1024) 0 I.wu)
    = rows (a := 256) (b := 1024) P I.dn2a := by
  unfold k0_pay29
  rw [pay28]
  funext y
  obtain ⟨p, q, rfl⟩ : ∃ (p : Fin 256) (q : Fin 1024), y = ix2 p q := ⟨y 0, y 1, eq_ix2 y⟩
  pointwise [k0_pay29, rows, cols, tile, row]
  simp only [← EReal.coe_mul, ← EReal.coe_add, ← EReal.coe_sub, coe_sum, max_zero_coe, ofBits_two, ofBits_inv_1024, div_1024]
  rfl

/-- A run of the product against the down weight. -/
theorem pay30 : k0_pay30 (F := Ideal) (rows (a := 256) (b := 1) P (fun p _ => rr I.h2 p)) (rows (a := 256) (b := 1024) P I.xh) (rows (a := 256) (b := 1024) P I.dy) (row (b := 1024) I.g3) (rows (a := 1024) (b := 1024) Q I.wd)
    = tile (a := 256) (b := 1024) P Q I.dw := by
  unfold k0_pay30
  rw [pay27]
  funext y
  obtain ⟨p, q, rfl⟩ : ∃ (p : Fin 256) (q : Fin 1024), y = ix2 p q := ⟨y 0, y 1, eq_ix2 y⟩
  pointwise [k0_pay30, rows, cols, tile, row]
  simp only [← EReal.coe_mul, ← EReal.coe_add, ← EReal.coe_sub, coe_sum, max_zero_coe, ofBits_two, ofBits_inv_1024, div_1024]
  rfl

/-- The gradient of a run of the up projection. -/
theorem pay31 : k0_pay31 (F := Ideal) (tile (a := 256) (b := 1024) P Q I.dw) (tile (a := 256) (b := 1024) P Q I.u)
    = tile (a := 256) (b := 1024) P Q I.dup := by
  funext y
  obtain ⟨p, q, rfl⟩ : ∃ (p : Fin 256) (q : Fin 1024), y = ix2 p q := ⟨y 0, y 1, eq_ix2 y⟩
  pointwise [k0_pay31, rows, cols, tile, row]
  simp only [← EReal.coe_mul, ← EReal.coe_add, ← EReal.coe_sub, coe_sum, max_zero_coe, ofBits_two, ofBits_inv_1024, div_1024]
  rfl

/-- The gradient of a run of the up projection. -/
theorem pay32 : k0_pay32 (F := Ideal) (rows (a := 256) (b := 1024) P I.dh2) (rows (a := 1024) (b := 1024) Q I.wd) (tile (a := 256) (b := 1024) P Q I.u)
    = tile (a := 256) (b := 1024) P Q I.dup := by
  funext y
  obtain ⟨p, q, rfl⟩ : ∃ (p : Fin 256) (q : Fin 1024), y = ix2 p q := ⟨y 0, y 1, eq_ix2 y⟩
  pointwise [k0_pay32, rows, cols, tile, row]
  simp only [← EReal.coe_mul, ← EReal.coe_add, ← EReal.coe_sub, coe_sum, max_zero_coe, ofBits_two, ofBits_inv_1024, div_1024]
  rfl

/-- The gradient of a run of the up projection. -/
theorem pay34 : k0_pay34 (F := Ideal) (rows (a := 256) (b := 1024) P I.dh2) (rows (a := 1024) (b := 1024) Q I.wd) (tile (a := 256) (b := 1024) P Q I.u)
    = tile (a := 256) (b := 1024) P Q I.dup := by
  funext y
  obtain ⟨p, q, rfl⟩ : ∃ (p : Fin 256) (q : Fin 1024), y = ix2 p q := ⟨y 0, y 1, eq_ix2 y⟩
  pointwise [k0_pay34, rows, cols, tile, row]
  simp only [← EReal.coe_mul, ← EReal.coe_add, ← EReal.coe_sub, coe_sum, max_zero_coe, ofBits_two, ofBits_inv_1024, div_1024]
  rfl

/-- The normalised input's gradient after three runs. -/
theorem pay33 : k0_pay33 (F := Ideal) (rows (a := 256) (b := 1024) P I.dh2) (rows (a := 256) (b := 1024) P I.dn2a) (tile (a := 256) (b := 1024) P 1024 I.dw) (tile (a := 256) (b := 1024) P 1024 I.u) (cols (a := 1024) (b := 1024) 1024 I.wu) (rows (a := 1024) (b := 1024) 2048 I.wd) (tile (a := 256) (b := 1024) P 2048 I.u) (cols (a := 1024) (b := 1024) 2048 I.wu)
    = rows (a := 256) (b := 1024) P I.dn2b := by
  unfold k0_pay33
  rw [pay31, pay32]
  funext y
  obtain ⟨p, q, rfl⟩ : ∃ (p : Fin 256) (q : Fin 1024), y = ix2 p q := ⟨y 0, y 1, eq_ix2 y⟩
  pointwise [k0_pay33, rows, cols, tile, row]
  simp only [← EReal.coe_mul, ← EReal.coe_add, ← EReal.coe_sub, coe_sum, max_zero_coe, ofBits_two, ofBits_inv_1024, div_1024]
  rfl

/-- The normalised input's gradient. -/
theorem pay35 : k0_pay35 (F := Ideal) (rows (a := 256) (b := 1024) P I.dn2b) (tile (a := 256) (b := 1024) P 3072 I.dup) (cols (a := 1024) (b := 1024) 3072 I.wu)
    = rows (a := 256) (b := 1024) P I.dn2 := by
  funext y
  obtain ⟨p, q, rfl⟩ : ∃ (p : Fin 256) (q : Fin 1024), y = ix2 p q := ⟨y 0, y 1, eq_ix2 y⟩
  pointwise [k0_pay35, rows, cols, tile, row]
  simp only [← EReal.coe_mul, ← EReal.coe_add, ← EReal.coe_sub, coe_sum, max_zero_coe, ofBits_two, ofBits_inv_1024, div_1024]
  exact congrArg _ (I.dn2_eq _ _)

/-- The reciprocal root of each row's mean square. -/
theorem pay36 : k0_pay36 (F := Ideal) (rows (a := 256) (b := 1024) P I.h1)
    = rows (a := 256) (b := 1) P (fun p _ => rr I.h1 p) := by
  funext y
  obtain ⟨p, q, rfl⟩ : ∃ (p : Fin 256) (q : Fin 1), y = ix2 p q := ⟨y 0, y 1, eq_ix2 y⟩
  pointwise [k0_pay36, rows, cols, tile, row]
  simp only [← EReal.coe_mul, ← EReal.coe_add, ← EReal.coe_sub, coe_sum, max_zero_coe, ofBits_two, ofBits_inv_1024, div_1024, ms_coe I.h1, rsqrt_ms I.h1]

/-- The normalised residual stream. -/
theorem pay37 : k0_pay37 (F := Ideal) (rows (a := 256) (b := 1024) P I.h1)
    = rows (a := 256) (b := 1024) P I.xh1 := by
  unfold k0_pay37
  rw [pay36]
  funext y
  obtain ⟨p, q, rfl⟩ : ∃ (p : Fin 256) (q : Fin 1024), y = ix2 p q := ⟨y 0, y 1, eq_ix2 y⟩
  pointwise [k0_pay37, rows, cols, tile, row]
  simp only [← EReal.coe_mul, ← EReal.coe_add, ← EReal.coe_sub, coe_sum, max_zero_coe, ofBits_two, ofBits_inv_1024, div_1024]
  rfl

/-- The gradient of the residual stream. -/
theorem pay39 : k0_pay39 (F := Ideal) (rows (a := 256) (b := 1024) P I.h1) (rows (a := 256) (b := 1024) P I.dh2) (rows (a := 256) (b := 1024) P I.dn2b) (tile (a := 256) (b := 1024) P 3072 I.dup) (cols (a := 1024) (b := 1024) 3072 I.wu) (row (b := 1024) I.g2)
    = rows (a := 256) (b := 1024) P I.dh1 := by
  unfold k0_pay39
  rw [pay35, pay36, pay37]
  funext y
  obtain ⟨p, q, rfl⟩ : ∃ (p : Fin 256) (q : Fin 1024), y = ix2 p q := ⟨y 0, y 1, eq_ix2 y⟩
  pointwise [k0_pay39, rows, cols, tile, row]
  simp only [← EReal.coe_mul, ← EReal.coe_add, ← EReal.coe_sub, coe_sum, max_zero_coe, ofBits_two, ofBits_inv_1024, div_1024]
  rfl

/-- Half the mean square of a tile's entries, added to every entry of the loss's block. -/
theorem loss_tail (w : FVec Ideal S256x1024 .f32) (v : Vec Ideal S8x128 .f32) (p : Fin 8) (q : Fin 128) :
    (addf (F := Ideal) (shapeCast S8x128 v shapeCasts_S8x128_S8x128)
      (broadcastTo S8x128 (mulf (F := Ideal) (broadcast S1x1 (Scalar.ofBits .f32 0x3A000000#32))
        (shapeCast S1x1 (multiReduction (F := Ideal) .add [0] S1 (shapeCast S256x1 (multiReduction (F := Ideal) .add [1] S256 w 0x00000000#32
          reduces_S256x1024_S256 (.inl rfl) rfl) shapeCasts_S256_S256x1) 0x00000000#32 reduces_S256x1_S1 (.inl rfl) rfl) shapeCasts_S1_S1x1))
        broadcasts_S1x1_S8x128) : FVec Ideal S8x128 .f32) (ix2 p q)
    = (v (ix2 p q) : EReal) + Ideal.ofBits .f32 0x3A000000#32 * ∑ a : Fin 256, ∑ b : Fin 1024, (w (ix2 a b) : EReal) := by
  pointwise

/-- The loss of one tile is added. -/
theorem pay23 (v : Vec Ideal S8x128 .f32) : k0_pay23 (F := Ideal) (rows (a := 256) (b := 1024) P I.h2b) (tile (a := 256) (b := 1024) P 3072 I.act) (rows (a := 1024) (b := 1024) 3072 I.wd) (row (b := 1024) I.g3) (rows (a := 256) (b := 1024) P I.tg) v
    = fun i => (v i : EReal) + ((1 / 2048 * ∑ p : Fin 256, ∑ q : Fin 1024, I.df (P + p) q * I.df (P + p) q : ℝ) : EReal) := by
  funext y
  obtain ⟨p, q, rfl⟩ : ∃ (p : Fin 8) (q : Fin 128), y = ix2 p q := ⟨y 0, y 1, eq_ix2 y⟩
  unfold k0_pay23
  rw [pay22]
  refine (loss_tail _ v p q).trans ?_
  have e : ∀ (a : Fin 256) (b : Fin 1024), (mulf (F := Ideal) (φ := .f32) (rows (a := 256) (b := 1024) P I.df) (rows (a := 256) (b := 1024) P I.df) (ix2 a b) : EReal)
      = ((I.df (P + a) b * I.df (P + a) b : ℝ) : EReal) := fun a b => (EReal.coe_mul _ _).symm
  simp only [e, ← EReal.coe_mul, ← EReal.coe_add, coe_sum, ofBits_inv_2048]

/-- One tile's part of the last norm's scale gradient is added. -/
theorem pay25 (v : Vec Ideal S1x1024 .f32) : k0_pay25 (F := Ideal) (rows (a := 256) (b := 1024) P I.h2b) (tile (a := 256) (b := 1024) P 3072 I.act) (rows (a := 1024) (b := 1024) 3072 I.wd) (row (b := 1024) I.g3) (rows (a := 256) (b := 1024) P I.tg) v
    = fun i => (v i : EReal) + ((∑ p : Fin 256, I.dy (P + p) (i 1).val * I.xh (P + p) (i 1).val : ℝ) : EReal) := by
  unfold k0_pay25
  rw [pay24, pay21]
  funext y
  obtain ⟨p, q, rfl⟩ : ∃ (p : Fin 1) (q : Fin 1024), y = ix2 p q := ⟨y 0, y 1, eq_ix2 y⟩
  pointwise [k0_pay25, rows, cols, tile, row]
  simp only [← EReal.coe_mul, ← EReal.coe_add, coe_sum, ofBits_inv_2048]

/-- One tile's part of the first norm's scale gradient is added. -/
theorem pay38 (v : Vec Ideal S1x1024 .f32) : k0_pay38 (F := Ideal) (rows (a := 256) (b := 1024) P I.h1) (rows (a := 256) (b := 1024) P I.dn2b) (tile (a := 256) (b := 1024) P 3072 I.dup) (cols (a := 1024) (b := 1024) 3072 I.wu) v
    = fun i => (v i : EReal) + ((∑ p : Fin 256, I.dn2 (P + p) (i 1).val * I.xh1 (P + p) (i 1).val : ℝ) : EReal) := by
  unfold k0_pay38
  rw [pay35, pay37]
  funext y
  obtain ⟨p, q, rfl⟩ : ∃ (p : Fin 1) (q : Fin 1024), y = ix2 p q := ⟨y 0, y 1, eq_ix2 y⟩
  pointwise [k0_pay38, rows, cols, tile, row]
  simp only [← EReal.coe_mul, ← EReal.coe_add, coe_sum, ofBits_inv_2048]

end Cert.K6

end
-- ==== Proof.MlpBlocks.lean ====
/- The fused feed-forward kernel: what a tile of 256 rows reads, and how its stored column runs are read back. -/
module

public import proofs.«01_k».proof.Proof.MlpBody
public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K6

open Cert.Kernel6Ideal Cert.Kernel6Ideal.Gen Cert.Reals

theorem idx : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] ∧ win0_6.index t = ![0, 0]
    ∧ win0_7.index t = ![t.val, 0] ∧ win0_8.index t = ![t.val, 0] ∧ win0_9.index t = ![t.val, 0] ∧ win0_10.index t = ![t.val, 0]
    ∧ win0_11.index t = ![0, 0] ∧ win0_12.index t = ![0, 0] ∧ win0_13.index t = ![0, 0] :=
  (by decide +kernel : ∀ t : Fin grid0.N, _)

variable (m : (ℓ : Loc nD τ sig) → Buf (Elt Ideal) ℓ) (c : Dev nD) (I : In)

/-- An array of reals whose columns are stacked in runs of `b`. -/
def stack {n a b : ℕ} (f : ℕ → ℕ → ℝ) : (⟨3, ![n, a, b]⟩ : Shape).Idx → EReal :=
  fun i => ((f (i 1).val (b * (i 0).val + (i 2).val) : ℝ) : EReal)

/-- The arguments are arrays of reals. -/
structure Args : Prop where
  h0 : m ((c : Thread nD τ).loc main_arg0) = real2 I.h1
  h1 : m ((c : Thread nD τ).loc main_arg1) = real2 I.tg
  h2 : m ((c : Thread nD τ).loc main_arg2) = real2 I.wu
  h3 : m ((c : Thread nD τ).loc main_arg3) = real2 I.wd
  h4 : m ((c : Thread nD τ).loc main_arg4) = real2 I.g2
  h5 : m ((c : Thread nD τ).loc main_arg5) = real2 I.g3

variable {m c I}

/-- The blocks a tile reads, in the arguments. -/
theorem blk1 (H : Args m c I) (t : Fin cfg0.N) : iblk m c 1 t = rows (a := 256) (b := 1024) (256 * t.val) I.h1 := by
  have hN : t.val < 16 := lt_of_lt_of_eq t.isLt N_0
  funext y
  obtain ⟨a, b, rfl⟩ : ∃ (a : Fin 256) (b : Fin 1024), y = ix2 a b := ⟨y 0, y 1, eq_ix2 y⟩
  have e : iblk m c 1 t (ix2 a b) = m ((c : Thread nD τ).loc main_arg0) (ix2 ⟨256 * t.val + a.val, by omega⟩ b) := by
    blk_ext [iblk, V, idx t]
  rw [e, H.h0]; rfl

theorem blk2 (H : Args m c I) (t : Fin cfg0.N) : iblk m c 2 t = rows (a := 256) (b := 1024) (256 * t.val) I.tg := by
  have hN : t.val < 16 := lt_of_lt_of_eq t.isLt N_0
  funext y
  obtain ⟨a, b, rfl⟩ : ∃ (a : Fin 256) (b : Fin 1024), y = ix2 a b := ⟨y 0, y 1, eq_ix2 y⟩
  have e : iblk m c 2 t (ix2 a b) = m ((c : Thread nD τ).loc main_arg1) (ix2 ⟨256 * t.val + a.val, by omega⟩ b) := by
    blk_ext [iblk, V, idx t]
  rw [e, H.h1]; rfl

theorem blk5 (H : Args m c I) (t : Fin cfg0.N) : iblk m c 5 t = row (b := 1024) I.g2 := by
  funext y
  obtain ⟨a, b, rfl⟩ : ∃ (a : Fin 1) (b : Fin 1024), y = ix2 a b := ⟨y 0, y 1, eq_ix2 y⟩
  have e : iblk m c 5 t (ix2 a b) = m ((c : Thread nD τ).loc main_arg4) (ix2 0 b) := by
    blk_ext [iblk, V, idx t]
  rw [e, H.h4]; rfl

theorem blk6 (H : Args m c I) (t : Fin cfg0.N) : iblk m c 6 t = row (b := 1024) I.g3 := by
  funext y
  obtain ⟨a, b, rfl⟩ : ∃ (a : Fin 1) (b : Fin 1024), y = ix2 a b := ⟨y 0, y 1, eq_ix2 y⟩
  have e : iblk m c 6 t (ix2 a b) = m ((c : Thread nD τ).loc main_arg5) (ix2 0 b) := by
    blk_ext [iblk, V, idx t]
  rw [e, H.h5]; rfl

/-- The up weights' block `s` of the stack. -/
theorem wu_at (H : Args m c I) (t : Fin cfg0.N) (s : Fin 4) (a b : Fin 1024) :
    iblk m c 3 t (ix3 s a b) = ((I.wu a.val (1024 * s.val + b.val) : ℝ) : EReal) := by
  have e : iblk m c 3 t (ix3 s a b) = m ((c : Thread nD τ).loc main_arg2) (ix2 a ⟨1024 * s.val + b.val, by omega⟩) := by
    blk_ext! [iblk, V, idx t]
  rw [e, H.h2]; rfl

theorem wd_at (H : Args m c I) (t : Fin cfg0.N) (a : Fin 4096) (b : Fin 1024) :
    iblk m c 4 t (ix2 a b) = ((I.wd a.val b.val : ℝ) : EReal) := by
  have e : iblk m c 4 t (ix2 a b) = m ((c : Thread nD τ).loc main_arg3) (ix2 a b) := by
    blk_ext [iblk, V, idx t]
  rw [e, H.h3]; rfl

/-- The host's normalised input, over the reals. -/
theorem host0 (H : Args m c I) : V m c main_v12 = real2 (a := 4096) (b := 1024) I.n2 := by
  show StableHlo.after hostOps0 (fun b => m (c, b)) (Proc.devRef .tc main_v12) = _
  after_results
  have h0 : m (c, Proc.devRef .tc main_arg0) = real2 (a := 4096) (b := 1024) I.h1 := H.h0
  have h4 : m (c, Proc.devRef .tc main_arg4) = real2 (a := 1) (b := 1024) I.g2 := H.h4
  rw [h0, h4]
  funext y
  obtain ⟨p, q, rfl⟩ : ∃ (p : Fin 4096) (q : Fin 1024), y = ix2 p q := ⟨y 0, y 1, eq_ix2 y⟩
  pointwise [real2]
  simp only [← EReal.coe_mul, ← EReal.coe_add, coe_sum, div_1024, ms_coe I.h1, rsqrt_ms I.h1]
  rfl

theorem blk0 (H : Args m c I) (t : Fin cfg0.N) : iblk m c 0 t = rows (a := 256) (b := 1024) (256 * t.val) I.n2 := by
  have hN : t.val < 16 := lt_of_lt_of_eq t.isLt N_0
  funext y
  obtain ⟨a, b, rfl⟩ : ∃ (a : Fin 256) (b : Fin 1024), y = ix2 a b := ⟨y 0, y 1, eq_ix2 y⟩
  have e : iblk m c 0 t (ix2 a b) = V m c main_v12 (ix2 ⟨256 * t.val + a.val, by omega⟩ b) := by
    blk_ext [iblk, idx t]
  rw [e, host0 H]; rfl

/-- The two weight blocks, whole. -/
theorem blk3 (H : Args m c I) (t : Fin cfg0.N) : iblk m c 3 t = stack (n := 4) (a := 1024) (b := 1024) I.wu := by
  funext y
  rw [show y = ix3 (y 0) (y 1) (y 2) from eq_ix3 y]
  exact wu_at H t (y 0) (y 1) (y 2)

theorem blk4 (H : Args m c I) (t : Fin cfg0.N) : iblk m c 4 t = rows (a := 4096) (b := 1024) 0 I.wd := by
  funext y
  rw [show y = ix2 (y 0) (y 1) from eq_ix2 y]
  refine (wd_at H t (y 0) (y 1)).trans ?_
  show _ = ((I.wd (0 + (y 0).val) (y 1).val : ℝ) : EReal)
  rw [zero_add]

theorem ld_up0 (f : ℕ → ℕ → ℝ) : View.ld (Val := Elt Ideal) (S := S4x1024x1024) (e' := .bf16) (stack (n := 4) (a := 1024) (b := 1024) f)
    (Rect.unit ![0, 0, 0] ![1, 1024, 1024] inb_S4x1024x1024_S1x1024x1024_0_0_0) = cols (a := 1024) (b := 1024) 0 f := by
  funext y
  have h0 : (y 0).val = 0 := Nat.lt_one_iff.mp (y 0).isLt
  simp [View.ld_apply, stack, cols, h0]

theorem ld_up1 (f : ℕ → ℕ → ℝ) : View.ld (Val := Elt Ideal) (S := S4x1024x1024) (e' := .bf16) (stack (n := 4) (a := 1024) (b := 1024) f)
    (Rect.unit ![1, 0, 0] ![1, 1024, 1024] inb_S4x1024x1024_S1x1024x1024_1_0_0) = cols (a := 1024) (b := 1024) 1024 f := by
  funext y
  have h0 : (y 0).val = 0 := Nat.lt_one_iff.mp (y 0).isLt
  simp [View.ld_apply, stack, cols, h0]

theorem ld_up2 (f : ℕ → ℕ → ℝ) : View.ld (Val := Elt Ideal) (S := S4x1024x1024) (e' := .bf16) (stack (n := 4) (a := 1024) (b := 1024) f)
    (Rect.unit ![2, 0, 0] ![1, 1024, 1024] inb_S4x1024x1024_S1x1024x1024_2_0_0) = cols (a := 1024) (b := 1024) 2048 f := by
  funext y
  have h0 : (y 0).val = 0 := Nat.lt_one_iff.mp (y 0).isLt
  simp [View.ld_apply, stack, cols, h0]

theorem ld_up3 (f : ℕ → ℕ → ℝ) : View.ld (Val := Elt Ideal) (S := S4x1024x1024) (e' := .bf16) (stack (n := 4) (a := 1024) (b := 1024) f)
    (Rect.unit ![3, 0, 0] ![1, 1024, 1024] inb_S4x1024x1024_S1x1024x1024_3_0_0) = cols (a := 1024) (b := 1024) 3072 f := by
  funext y
  have h0 : (y 0).val = 0 := Nat.lt_one_iff.mp (y 0).isLt
  simp [View.ld_apply, stack, cols, h0]

theorem ld_down0 (f : ℕ → ℕ → ℝ) : View.ld (Val := Elt Ideal) (S := S4096x1024) (e' := .bf16) (rows (a := 4096) (b := 1024) 0 f)
    (Rect.unit ![0, 0] ![1024, 1024] inb_S4096x1024_S1024x1024_0_0) = rows (a := 1024) (b := 1024) 0 f := by
  funext y
  simp [View.ld_apply, rows]

theorem ld_down1 (f : ℕ → ℕ → ℝ) : View.ld (Val := Elt Ideal) (S := S4096x1024) (e' := .bf16) (rows (a := 4096) (b := 1024) 0 f)
    (Rect.unit ![1024, 0] ![1024, 1024] inb_S4096x1024_S1024x1024_1024_0) = rows (a := 1024) (b := 1024) 1024 f := by
  funext y
  simp [View.ld_apply, rows]

theorem ld_down2 (f : ℕ → ℕ → ℝ) : View.ld (Val := Elt Ideal) (S := S4096x1024) (e' := .bf16) (rows (a := 4096) (b := 1024) 0 f)
    (Rect.unit ![2048, 0] ![1024, 1024] inb_S4096x1024_S1024x1024_2048_0) = rows (a := 1024) (b := 1024) 2048 f := by
  funext y
  simp [View.ld_apply, rows]

theorem ld_down3 (f : ℕ → ℕ → ℝ) : View.ld (Val := Elt Ideal) (S := S4096x1024) (e' := .bf16) (rows (a := 4096) (b := 1024) 0 f)
    (Rect.unit ![3072, 0] ![1024, 1024] inb_S4096x1024_S1024x1024_3072_0) = rows (a := 1024) (b := 1024) 3072 f := by
  funext y
  simp [View.ld_apply, rows]

/-- Four stored column runs make the whole tile. -/
theorem canon4 (P : ℕ) (f : ℕ → ℕ → ℝ) : View.canon (Val := Elt Ideal) (s := S256x4096) (e := .bf16)
    [⟨Rect.unit ![0, 3072] ![256, 1024] inb_S256x4096_S256x1024_0_3072, tile (a := 256) (b := 1024) P 3072 f⟩,
     ⟨Rect.unit ![0, 2048] ![256, 1024] inb_S256x4096_S256x1024_0_2048, tile (a := 256) (b := 1024) P 2048 f⟩,
     ⟨Rect.unit ![0, 1024] ![256, 1024] inb_S256x4096_S256x1024_0_1024, tile (a := 256) (b := 1024) P 1024 f⟩,
     ⟨Rect.unit ![0, 0] ![256, 1024] inb_S256x4096_S256x1024_0_0, tile (a := 256) (b := 1024) P 0 f⟩]
    = rows (a := 256) (b := 4096) P f := by
  funext x
  obtain ⟨a, b, rfl⟩ : ∃ (a : Fin 256) (b : Fin 4096), x = ix2 a b := ⟨x 0, x 1, eq_ix2 x⟩
  canon_tiles x h
  all_goals
    show ((f (P + (x 0).val) _ : ℝ) : EReal) = ((f (P + (ix2 a b 0).val) (ix2 a b 1).val : ℝ) : EReal)
    simp only [h0, h1, zero_add]

end Cert.K6

end
-- ==== Proof.MlpKernel.lean ====
/- The fused feed-forward kernel: what each tile of 256 rows leaves in each window, and the arrays at the end. -/
module

public import proofs.«01_k».proof.Proof.MlpBlocks
public import proofs.«01_k».proof.Proof.Gen.Kernel6Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K6

open Cert.Kernel6Ideal Cert.Kernel6Ideal.Gen Cert.Reals

variable {m : (ℓ : Loc nD τ sig) → Buf (Elt Ideal) ℓ} {c : Dev nD} {I : In}

set_option maxHeartbeats 1000000 in
/-- What a tile leaves of the squared positive parts. -/
theorem after7 (H : Args m c I) (t : Fin cfg0.N) :
    ((dats m 0 c).after 7 t : S256x4096.Idx → EReal) = rows (a := 256) (b := 4096) (256 * t.val) I.act := by
  rw [after0_7]
  by_cases h0 : t.val % 16 = 0
  on_goal 1 => rw [outsAt0_A m c t h0]
  on_goal 2 => rw [outsAt0_B m c t h0]
  all_goals
    frame_out
    simp (disch := decide) only [blk0 H, blk1 H, blk2 H, blk3 H, blk4 H, blk5 H, blk6 H, ld_up0, ld_up1, ld_up2, ld_up3, ld_down0, ld_down1, ld_down2, ld_down3,
    ↓View.readCov_skip, View.readCov_cons_toLoadRect,
      pay4, pay6, pay7, pay8, pay10, pay11, pay13, pay14, pay15, pay17, pay18]
    exact canon4 _ _

theorem final7 (H : Args m c I) : (dats m 0 c).arrAt 7 (cfgs 0).N = real2 (a := 4096) (b := 4096) I.act := by
  refine (dats m 0 c).arrAt_eq_of_covers 7 _ (by decide +kernel) fun t hf y => ?_
  blk_simp
  refine (congrFun (after7 H t) y).trans ?_
  blk_simp [real2, rows, idx t]
  rw [Nat.mul_comm]

set_option maxHeartbeats 1000000 in
/-- What a tile leaves of the up projection's gradient. -/
theorem after8 (H : Args m c I) (t : Fin cfg0.N) :
    ((dats m 0 c).after 8 t : S256x4096.Idx → EReal) = rows (a := 256) (b := 4096) (256 * t.val) I.dup := by
  rw [after0_8]
  by_cases h0 : t.val % 16 = 0
  on_goal 1 => rw [outsAt0_A m c t h0]
  on_goal 2 => rw [outsAt0_B m c t h0]
  all_goals
    frame_out
    simp (disch := decide) only [blk0 H, blk1 H, blk2 H, blk3 H, blk4 H, blk5 H, blk6 H, ld_up0, ld_up1, ld_up2, ld_up3, ld_down0, ld_down1, ld_down2, ld_down3,
    ↓View.readCov_skip, View.readCov_cons_toLoadRect,
      pay4, pay6, pay7, pay8, pay10, pay11, pay13, pay14, pay15, pay17, pay18,
    pay19, pay20, pay21, pay22, pay24, pay26, pay27, pay28, pay29, pay30, pay31, pay32, pay33, pay34, pay35, pay36, pay37, pay39]
    exact canon4 _ _

theorem final8 (H : Args m c I) : (dats m 0 c).arrAt 8 (cfgs 0).N = real2 (a := 4096) (b := 4096) I.dup := by
  refine (dats m 0 c).arrAt_eq_of_covers 8 _ (by decide +kernel) fun t hf y => ?_
  blk_simp
  refine (congrFun (after8 H t) y).trans ?_
  blk_simp [real2, rows, idx t]
  rw [Nat.mul_comm]

set_option maxHeartbeats 1000000 in
/-- What a tile leaves of the output's gradient. -/
theorem after9 (H : Args m c I) (t : Fin cfg0.N) :
    ((dats m 0 c).after 9 t : S256x1024.Idx → EReal) = rows (a := 256) (b := 1024) (256 * t.val) I.dh2 := by
  rw [after0_9]
  by_cases h0 : t.val % 16 = 0
  on_goal 1 => rw [outsAt0_A m c t h0]
  on_goal 2 => rw [outsAt0_B m c t h0]
  all_goals
    frame_out
    simp (disch := decide) only [blk0 H, blk1 H, blk2 H, blk3 H, blk4 H, blk5 H, blk6 H, ld_up0, ld_up1, ld_up2, ld_up3, ld_down0, ld_down1, ld_down2, ld_down3,
    ↓View.readCov_skip, View.readCov_cons_toLoadRect,
      pay4, pay6, pay7, pay8, pay10, pay11, pay13, pay14, pay15, pay17, pay18,
    pay19, pay20, pay21, pay22, pay24, pay26, pay27, pay28, pay29, pay30, pay31, pay32, pay33, pay34, pay35, pay36, pay37, pay39]

theorem final9 (H : Args m c I) : (dats m 0 c).arrAt 9 (cfgs 0).N = real2 (a := 4096) (b := 1024) I.dh2 := by
  refine (dats m 0 c).arrAt_eq_of_covers 9 _ (by decide +kernel) fun t hf y => ?_
  blk_simp
  refine (congrFun (after9 H t) y).trans ?_
  blk_simp [real2, rows, idx t]
  rw [Nat.mul_comm]

set_option maxHeartbeats 1000000 in
/-- What a tile leaves of the residual stream's gradient. -/
theorem after10 (H : Args m c I) (t : Fin cfg0.N) :
    ((dats m 0 c).after 10 t : S256x1024.Idx → EReal) = rows (a := 256) (b := 1024) (256 * t.val) I.dh1 := by
  rw [after0_10]
  by_cases h0 : t.val % 16 = 0
  on_goal 1 => rw [outsAt0_A m c t h0]
  on_goal 2 => rw [outsAt0_B m c t h0]
  all_goals
    frame_out
    simp (disch := decide) only [blk0 H, blk1 H, blk2 H, blk3 H, blk4 H, blk5 H, blk6 H, ld_up0, ld_up1, ld_up2, ld_up3, ld_down0, ld_down1, ld_down2, ld_down3,
    ↓View.readCov_skip, View.readCov_cons_toLoadRect,
      pay4, pay6, pay7, pay8, pay10, pay11, pay13, pay14, pay15, pay17, pay18,
    pay19, pay20, pay21, pay22, pay24, pay26, pay27, pay28, pay29, pay30, pay31, pay32, pay33, pay34, pay35, pay36, pay37, pay39]

theorem final10 (H : Args m c I) : (dats m 0 c).arrAt 10 (cfgs 0).N = real2 (a := 4096) (b := 1024) I.dh1 := by
  refine (dats m 0 c).arrAt_eq_of_covers 10 _ (by decide +kernel) fun t hf y => ?_
  blk_simp
  refine (congrFun (after10 H t) y).trans ?_
  blk_simp [real2, rows, idx t]
  rw [Nat.mul_comm]

set_option maxHeartbeats 1000000 in
theorem final11 (H : Args m c I) : (dats m 0 c).arrAt 11 (cfgs 0).N = real2 (a := 8) (b := 128) I.loss := by
  refine (dats m 0 c).arrAt_eq_of_after_last 11 t0_15 (by decide +kernel) _ fun j => ?_
  obtain ⟨a, q, rfl⟩ : ∃ (a : Fin 8) (q : Fin 128), j = ix2 a q := ⟨j 0, j 1, eq_ix2 j⟩
  rw [after0_11, Pipeline.eq_sum_fin_of_reset_step_apply_last (fun n h => (outsAt0 m c n h).2.2.2.2.1) 16 (fun _ => 0)
    (fun t i => ((1 / 2048 * ∑ p : Fin 256, ∑ q : Fin 1024, I.df (256 * t.val + p) q * I.df (256 * t.val + p) q : ℝ) : EReal))
    (fun t h0 i => ?_) (fun t h0 i => ?_) (le_of_eq N_0) t0_15 rfl]
  · simp only [zero_add, coe_sum]
    blk_simp [real2]
    refine congrArg _ ?_
    show ∑ t : Fin 16, 1 / 2048 * ∑ p : Fin 256, ∑ q : Fin 1024, I.df (256 * t + p) q * I.df (256 * t + p) q = _
    unfold In.loss
    rw [← Finset.mul_sum, ← Finset.mul_sum, sum_tiles 16 256 fun p => ∑ q : Fin 1024, I.df p q * I.df p q]
  · rw [outsAt0_A m c t h0]
    frame_out
    simp (disch := decide) only [blk0 H, blk1 H, blk2 H, blk3 H, blk4 H, blk5 H, blk6 H, ld_up0, ld_up1, ld_up2, ld_up3, ld_down0, ld_down1, ld_down2, ld_down3,
    ↓View.readCov_skip, View.readCov_cons_toLoadRect,
      pay4, pay6, pay7, pay8, pay10, pay11, pay13, pay14, pay15, pay17, pay18,
    pay19, pay20, pay21, pay22, pay24, pay26, pay27, pay28, pay29, pay30, pay31, pay32, pay33, pay34, pay35, pay36, pay37, pay39, pay23]
    congr 1
    exact ofBits_zero
  · rw [outsAt0_B m c t h0]
    frame_out
    simp (disch := decide) only [blk0 H, blk1 H, blk2 H, blk3 H, blk4 H, blk5 H, blk6 H, ld_up0, ld_up1, ld_up2, ld_up3, ld_down0, ld_down1, ld_down2, ld_down3,
    ↓View.readCov_skip, View.readCov_cons_toLoadRect,
      pay4, pay6, pay7, pay8, pay10, pay11, pay13, pay14, pay15, pay17, pay18,
    pay19, pay20, pay21, pay22, pay24, pay26, pay27, pay28, pay29, pay30, pay31, pay32, pay33, pay34, pay35, pay36, pay37, pay39, pay23]

set_option maxHeartbeats 1000000 in
theorem final12 (H : Args m c I) : (dats m 0 c).arrAt 12 (cfgs 0).N = real2 (a := 1) (b := 1024) I.dg3 := by
  refine (dats m 0 c).arrAt_eq_of_after_last 12 t0_15 (by decide +kernel) _ fun j => ?_
  obtain ⟨a, q, rfl⟩ : ∃ (a : Fin 1) (q : Fin 1024), j = ix2 a q := ⟨j 0, j 1, eq_ix2 j⟩
  rw [after0_12, Pipeline.eq_sum_fin_of_reset_step_apply_last (fun n h => (outsAt0 m c n h).2.2.2.2.2.1) 16 (fun _ => 0)
    (fun t i => ((∑ p : Fin 256, I.dy (256 * t.val + p) (i 1).val * I.xh (256 * t.val + p) (i 1).val : ℝ) : EReal))
    (fun t h0 i => ?_) (fun t h0 i => ?_) (le_of_eq N_0) t0_15 rfl]
  · simp only [zero_add, coe_sum]
    blk_simp [real2]
    exact congrArg _ (sum_tiles 16 256 fun p => I.dy p q * I.xh p q).symm
  · rw [outsAt0_A m c t h0]
    frame_out
    simp (disch := decide) only [blk0 H, blk1 H, blk2 H, blk3 H, blk4 H, blk5 H, blk6 H, ld_up0, ld_up1, ld_up2, ld_up3, ld_down0, ld_down1, ld_down2, ld_down3,
    ↓View.readCov_skip, View.readCov_cons_toLoadRect,
      pay4, pay6, pay7, pay8, pay10, pay11, pay13, pay14, pay15, pay17, pay18,
    pay19, pay20, pay21, pay22, pay24, pay26, pay27, pay28, pay29, pay30, pay31, pay32, pay33, pay34, pay35, pay36, pay37, pay39, pay25]
    congr 1
    exact ofBits_zero
  · rw [outsAt0_B m c t h0]
    frame_out
    simp (disch := decide) only [blk0 H, blk1 H, blk2 H, blk3 H, blk4 H, blk5 H, blk6 H, ld_up0, ld_up1, ld_up2, ld_up3, ld_down0, ld_down1, ld_down2, ld_down3,
    ↓View.readCov_skip, View.readCov_cons_toLoadRect,
      pay4, pay6, pay7, pay8, pay10, pay11, pay13, pay14, pay15, pay17, pay18,
    pay19, pay20, pay21, pay22, pay24, pay26, pay27, pay28, pay29, pay30, pay31, pay32, pay33, pay34, pay35, pay36, pay37, pay39, pay25]

set_option maxHeartbeats 1000000 in
theorem final13 (H : Args m c I) : (dats m 0 c).arrAt 13 (cfgs 0).N = real2 (a := 1) (b := 1024) I.dg2 := by
  refine (dats m 0 c).arrAt_eq_of_after_last 13 t0_15 (by decide +kernel) _ fun j => ?_
  obtain ⟨a, q, rfl⟩ : ∃ (a : Fin 1) (q : Fin 1024), j = ix2 a q := ⟨j 0, j 1, eq_ix2 j⟩
  rw [after0_13, Pipeline.eq_sum_fin_of_reset_step_apply_last (fun n h => (outsAt0 m c n h).2.2.2.2.2.2) 16 (fun _ => 0)
    (fun t i => ((∑ p : Fin 256, I.dn2 (256 * t.val + p) (i 1).val * I.xh1 (256 * t.val + p) (i 1).val : ℝ) : EReal))
    (fun t h0 i => ?_) (fun t h0 i => ?_) (le_of_eq N_0) t0_15 rfl]
  · simp only [zero_add, coe_sum]
    blk_simp [real2]
    exact congrArg _ (sum_tiles 16 256 fun p => I.dn2 p q * I.xh1 p q).symm
  · rw [outsAt0_A m c t h0]
    frame_out
    simp (disch := decide) only [blk0 H, blk1 H, blk2 H, blk3 H, blk4 H, blk5 H, blk6 H, ld_up0, ld_up1, ld_up2, ld_up3, ld_down0, ld_down1, ld_down2, ld_down3,
    ↓View.readCov_skip, View.readCov_cons_toLoadRect,
      pay4, pay6, pay7, pay8, pay10, pay11, pay13, pay14, pay15, pay17, pay18,
    pay19, pay20, pay21, pay22, pay24, pay26, pay27, pay28, pay29, pay30, pay31, pay32, pay33, pay34, pay35, pay36, pay37, pay39, pay38]
    congr 1
    exact ofBits_zero
  · rw [outsAt0_B m c t h0]
    frame_out
    simp (disch := decide) only [blk0 H, blk1 H, blk2 H, blk3 H, blk4 H, blk5 H, blk6 H, ld_up0, ld_up1, ld_up2, ld_up3, ld_down0, ld_down1, ld_down2, ld_down3,
    ↓View.readCov_skip, View.readCov_cons_toLoadRect,
      pay4, pay6, pay7, pay8, pay10, pay11, pay13, pay14, pay15, pay17, pay18,
    pay19, pay20, pay21, pay22, pay24, pay26, pay27, pay28, pay29, pay30, pay31, pay32, pay33, pay34, pay35, pay36, pay37, pay39, pay38]

end Cert.K6

end
-- ==== Proof.MlpRef.lean ====
/- The reference's fused feed-forward step, value by value, over the reals. -/
module

public import proofs.«01_k».proof.Proof.Gen.Reference6Ideal.Run
public import proofs.«01_k».proof.Proof.MlpReal
public import Idealize.ShloMosaic.Lib.Pipeline.ValueKit

@[expose] public section

set_option maxRecDepth 16384

noncomputable section

open Idealize.ShloMosaic

namespace Cert.K6.Ref

open Cert.Reference6Ideal Cert.Reference6Ideal.Gen Cert.Reference6Ideal.Value Cert.Reals

/-- The arguments are arrays of reals. -/
structure Args (V : Valuation τ sig (Elt Ideal)) (I : In) : Prop where
  a0 : V (Proc.devRef .tc main_arg0) = real2 (a := 4096) (b := 1024) I.h1
  a1 : V (Proc.devRef .tc main_arg1) = real2 (a := 4096) (b := 1024) I.tg
  a2 : V (Proc.devRef .tc main_arg2) = real2 (a := 1024) (b := 4096) I.wu
  a3 : V (Proc.devRef .tc main_arg3) = real2 (a := 4096) (b := 1024) I.wd
  a4 : V (Proc.devRef .tc main_arg4) = real2 (a := 1) (b := 1024) I.g2
  a5 : V (Proc.devRef .tc main_arg5) = real2 (a := 1) (b := 1024) I.g3

variable {V : Valuation τ sig (Elt Ideal)} {I : In}

/-- The down and up weights, read. -/
theorem v0 (H : Args V I) : res_main_v0 V = real2 (a := 1024) (b := 4096) I.wu := by
  unfold res_main_v0
  rw [H.a2]; rfl

theorem v1 (H : Args V I) : res_main_v1 V = real2 (a := 4096) (b := 1024) I.wd := by
  unfold res_main_v1
  rw [H.a3]; rfl

/-- Mean squares of the residual stream. -/
theorem v8 (H : Args V I) : res_main_v8 V = real2 (a := 4096) (b := 1) (fun p _ => ms I.h1 p) := by
  unfold res_main_v8
  rw [H.a0]
  funext y
  obtain ⟨p, q, rfl⟩ : ∃ (p : Fin 4096) (q : Fin 1), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero, ms_coe I.h1, rsqrt_ms I.h1, div_ms I.h1]

/-- Their reciprocal roots. -/
theorem v9 (H : Args V I) : res_main_v9 V = real2 (a := 4096) (b := 1) (fun p _ => rr I.h1 p) := by
  unfold res_main_v9
  rw [v8 H]
  funext y
  obtain ⟨p, q, rfl⟩ : ∃ (p : Fin 4096) (q : Fin 1), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero, ms_coe I.h1, rsqrt_ms I.h1, div_ms I.h1]

/-- The normalised residual stream. -/
theorem v14 (H : Args V I) : res_main_v14 V = real2 (a := 4096) (b := 1024) I.xh1 := by
  unfold res_main_v14
  rw [H.a0, v9 H]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  rfl

/-- The up projection. -/
theorem v17 (H : Args V I) : res_main_v17 V = real2 (a := 4096) (b := 4096) I.up := by
  unfold res_main_v17
  rw [v14 H, H.a4, v0 H]
  funext y
  obtain ⟨p, q, rfl⟩ : ∃ (p : Fin 4096) (q : Fin 4096), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  rfl

/-- Its positive part. -/
theorem v18 (H : Args V I) : res_main_v18 V = real2 (a := 4096) (b := 4096) I.u := by
  unfold res_main_v18
  rw [v17 H]
  funext y
  obtain ⟨p, q, rfl⟩ : ∃ (p : Fin 4096) (q : Fin 4096), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  rfl

/-- Its positive part. -/
theorem v100 (H : Args V I) : res_main_v100 V = real2 (a := 4096) (b := 4096) I.u := by
  unfold res_main_v100
  rw [v17 H]
  funext y
  obtain ⟨p, q, rfl⟩ : ∃ (p : Fin 4096) (q : Fin 4096), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  rfl

/-- The block's output. -/
theorem v26 (H : Args V I) : res_main_v26 V = real2 (a := 4096) (b := 1024) I.h2 := by
  unfold res_main_v26
  rw [H.a0, v18 H, v1 H]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  rfl

/-- Mean squares of the output. -/
theorem v33 (H : Args V I) : res_main_v33 V = real2 (a := 4096) (b := 1) (fun p _ => ms I.h2 p) := by
  unfold res_main_v33
  rw [v26 H]
  funext y
  obtain ⟨p, q, rfl⟩ : ∃ (p : Fin 4096) (q : Fin 1), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero, ms_coe I.h2, rsqrt_ms I.h2, div_ms I.h2]

/-- Their reciprocal roots. -/
theorem v34 (H : Args V I) : res_main_v34 V = real2 (a := 4096) (b := 1) (fun p _ => rr I.h2 p) := by
  unfold res_main_v34
  rw [v33 H]
  funext y
  obtain ⟨p, q, rfl⟩ : ∃ (p : Fin 4096) (q : Fin 1), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero, ms_coe I.h2, rsqrt_ms I.h2, div_ms I.h2]

/-- The normalised output. -/
theorem v39 (H : Args V I) : res_main_v39 V = real2 (a := 4096) (b := 1024) I.xh := by
  unfold res_main_v39
  rw [v26 H, v34 H]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  rfl

/-- The difference from the target. -/
theorem v42 (H : Args V I) : res_main_v42 V = real2 (a := 4096) (b := 1024) I.df := by
  unfold res_main_v42
  rw [v39 H, H.a5, H.a1]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  rfl

/-- The gradient of the scaled normalised output. -/
theorem v56 (H : Args V I) : res_main_v56 V = real2 (a := 4096) (b := 1024) I.dy := by
  unfold res_main_v56
  rw [v42 H]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  refine congrArg _ ?_
  unfold In.dy
  ring

/-- The gradient of the normalised output. -/
theorem v61 (H : Args V I) : res_main_v61 V = real2 (a := 4096) (b := 1024) (fun p q => I.dy p q * I.g3 0 q) := by
  unfold res_main_v61
  rw [v56 H, H.a5]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]

/-- The mean square's part of the gradient. -/
theorem v71 (H : Args V I) : res_main_v71 V = real2 (a := 4096) (b := 1024) (fun p _ => (∑ k : Fin 1024, I.h2 p k * (I.dy p k * I.g3 0 k)) * (-(1 / 2) * (rr I.h2 p / ms I.h2 p)) / 1024) := by
  unfold res_main_v71
  rw [v26 H, v61 H, v34 H, v33 H]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero, ms_coe I.h2, rsqrt_ms I.h2, div_ms I.h2]
  simp only [Finset.sum_const, Finset.card_univ, Fintype.card_fin, one_smul]

/-- The gradient of the output. -/
theorem v75 (H : Args V I) : res_main_v75 V = real2 (a := 4096) (b := 1024) I.dh2 := by
  unfold res_main_v75
  rw [v61 H, v34 H, v26 H, v71 H]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  refine congrArg _ (Eq.trans ?_ (normBwd_eq I.h2 (fun p q => I.dy p q * I.g3 0 q) p q).symm)
  ring

/-- The gradient of the up projection: zero where the projection is not positive, as the positive part is. -/
theorem v79 (H : Args V I) : res_main_v79 V = real2 (a := 4096) (b := 4096) I.dup := by
  unfold res_main_v79
  rw [v17 H, v75 H, v1 H, v18 H]
  funext y
  obtain ⟨p, q, rfl⟩ : ∃ (p : Fin 4096) (q : Fin 4096), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  by_cases h : (0 : ℝ) < I.up p q
  · rw [if_pos (by exact_mod_cast h)]
    rfl
  · rw [if_neg (by exact_mod_cast h)]
    have hu : I.u p q = 0 := max_eq_right (not_lt.mp h)
    have : I.dup p q = 0 := by
      unfold In.dup
      rw [hu, mul_zero, mul_zero]
    rw [this, EReal.coe_zero]

/-- The gradient of the normalised input. -/
theorem v80 (H : Args V I) : res_main_v80 V = real2 (a := 4096) (b := 1024) I.dn2 := by
  unfold res_main_v80
  rw [v79 H, v0 H]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]
  rfl

/-- The gradient of the normalised residual stream. -/
theorem v85 (H : Args V I) : res_main_v85 V = real2 (a := 4096) (b := 1024) (fun p q => I.dn2 p q * I.g2 0 q) := by
  unfold res_main_v85
  rw [v80 H, H.a4]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero]

/-- The mean square's part of the gradient. -/
theorem v95 (H : Args V I) : res_main_v95 V = real2 (a := 4096) (b := 1024) (fun p _ => (∑ k : Fin 1024, I.h1 p k * (I.dn2 p k * I.g2 0 k)) * (-(1 / 2) * (rr I.h1 p / ms I.h1 p)) / 1024) := by
  unfold res_main_v95
  rw [H.a0, v85 H, v9 H, v8 H]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, max_zero_coe, ofBits_two, ofBits_one, ofBits_half, ofBits_neg_half, div_1024, EReal.coe_zero, ms_coe I.h1, rsqrt_ms I.h1, div_ms I.h1]
  simp only [Finset.sum_const, Finset.card_univ, Fintype.card_fin, one_smul]

/-- The squared positive parts. -/
theorem act (H : Args V I) : (truncf .bf16 (mulf (res_main_v100 V) (res_main_v100 V)) bitsLt_bf16_f32) = real2 (a := 4096) (b := 4096) I.act := by
  rw [v100 H]
  funext y
  obtain ⟨p, q, rfl⟩ : ∃ (p : Fin 4096) (q : Fin 4096), y = ix2 p q := ⟨y 0, y 1, eq_ix2 y⟩
  pointwise [real2]
  simp only [← EReal.coe_mul, ← EReal.coe_add, ← EReal.coe_sub, coe_sum, div_1024, ofBits_half, EReal.coe_zero]
  rfl
/-- The residual stream's gradient. -/
theorem dh1 (H : Args V I) : (addf (res_main_v75 V) (addf (addf (mulf (res_main_v85 V) (broadcastInDim S4096x1024 ![0, 1] bcast_S4096x1_S4096x1024_0_1 (res_main_v9 V))) (mulf (V (Proc.devRef .tc main_arg0)) (res_main_v95 V))) (mulf (res_main_v95 V) (V (Proc.devRef .tc main_arg0))))) = real2 (a := 4096) (b := 1024) I.dh1 := by
  rw [v75 H, v85 H, v9 H, H.a0, v95 H]
  funext y
  obtain ⟨p, q, rfl⟩ : ∃ (p : Fin 4096) (q : Fin 1024), y = ix2 p q := ⟨y 0, y 1, eq_ix2 y⟩
  pointwise [real2]
  simp only [← EReal.coe_mul, ← EReal.coe_add, ← EReal.coe_sub, coe_sum, div_1024, ofBits_half, EReal.coe_zero]
  refine congrArg _ (congrArg (I.dh2 p q + ·) (Eq.trans ?_ (normBwd_eq I.h1 (fun p q => I.dn2 p q * I.g2 0 q) p q).symm))
  ring
/-- The loss. -/
theorem loss (H : Args V I) : (broadcastInDim S8x128 ![] bcast_S_S8x128 (mulf (constant S_ .f32 0x3F000000#32) (Host.reduceAdd (Host.divf (Host.reduceAdd (mulf (res_main_v42 V) (res_main_v42 V)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))) = real2 (a := 8) (b := 128) I.loss := by
  rw [v42 H]
  funext y
  obtain ⟨p, q, rfl⟩ : ∃ (p : Fin 8) (q : Fin 128), y = ix2 p q := ⟨y 0, y 1, eq_ix2 y⟩
  pointwise [real2]
  simp only [← EReal.coe_mul, ← EReal.coe_add, ← EReal.coe_sub, coe_sum, div_1024, ofBits_half, EReal.coe_zero]
  refine congrArg _ ((Finset.mul_sum _ _ _).trans (Finset.sum_congr rfl fun k _ => ?_))
  ring
/-- The last norm's scale gradient. -/
theorem dg3 (H : Args V I) : (shapeCast S1x1024 (Host.reduceAdd (mulf (res_main_v39 V) (res_main_v56 V)) (constant S_ .f32 0x00000000#32) reducesTo_S4096x1024_S1024_d0 h_S_) shapeCasts_S1024_S1x1024) = real2 (a := 1) (b := 1024) I.dg3 := by
  rw [v39 H, v56 H]
  funext y
  obtain ⟨p, q, rfl⟩ : ∃ (p : Fin 1) (q : Fin 1024), y = ix2 p q := ⟨y 0, y 1, eq_ix2 y⟩
  pointwise [real2]
  simp only [← EReal.coe_mul, ← EReal.coe_add, ← EReal.coe_sub, coe_sum, div_1024, ofBits_half, EReal.coe_zero]
  refine congrArg _ (Finset.sum_congr rfl fun k _ => ?_)
  ring
/-- The first norm's scale gradient. -/
theorem dg2 (H : Args V I) : (shapeCast S1x1024 (Host.reduceAdd (mulf (res_main_v14 V) (res_main_v80 V)) (constant S_ .f32 0x00000000#32) reducesTo_S4096x1024_S1024_d0 h_S_) shapeCasts_S1024_S1x1024) = real2 (a := 1) (b := 1024) I.dg2 := by
  rw [v14 H, v80 H]
  funext y
  obtain ⟨p, q, rfl⟩ : ∃ (p : Fin 1) (q : Fin 1024), y = ix2 p q := ⟨y 0, y 1, eq_ix2 y⟩
  pointwise [real2]
  simp only [← EReal.coe_mul, ← EReal.coe_add, ← EReal.coe_sub, coe_sum, div_1024, ofBits_half, EReal.coe_zero]
  refine congrArg _ (Finset.sum_congr rfl fun k _ => ?_)
  ring
end Cert.K6.Ref

end
-- ==== Proof.Mlp.lean ====
/- The fused feed-forward step: on finite arguments the kernel's seven results are the reference's. -/
module

public import proofs.«01_k».proof.Defs
public import proofs.«01_k».proof.Proof.MlpKernel
public import proofs.«01_k».proof.Proof.MlpRef
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Pre_mlp_finite
public import proofs.«01_k».proof.Proof.Finite

@[expose] public section

set_option maxRecDepth 16384

noncomputable section

open Idealize.ShloMosaic Idealize.ShloMosaic.TcCoe Idealize.SL.Sem

namespace Cert.K6

open Cert.Kernel6Ideal Cert.Kernel6Ideal.Gen Cert.Reals

/-- The precondition makes every argument an array of reals. -/
theorem args_of_pre {m : (ℓ : Loc nD τ sig) → Buf (Elt Ideal) ℓ} (hP : Cert.Pre_Kernel6Ideal_mlp_finite (hPre_mlp_finite := Cert.Pre_mlp_finite.Gen.facts) m)
    (c : Dev nD) : ∃ I, Args m c I := by
  have h := congrFun (hP c) ix0
  obtain ⟨h, e5⟩ := both_ones _ _ h
  obtain ⟨h, e4⟩ := both_ones _ _ h
  obtain ⟨h, e3⟩ := both_ones _ _ h
  obtain ⟨h, e2⟩ := both_ones _ _ h
  obtain ⟨e0, e1⟩ := both_ones _ _ h
  obtain ⟨h1, h0⟩ := real2_of_all _ _ _ _ _ _ e0
  obtain ⟨tg, h1'⟩ := real2_of_all _ _ _ _ _ _ e1
  obtain ⟨wu, h2⟩ := real2_of_all _ _ _ _ _ _ e2
  obtain ⟨wd, h3⟩ := real2_of_all _ _ _ _ _ _ e3
  obtain ⟨g2, h4⟩ := real2_of_all _ _ _ _ _ _ e4
  obtain ⟨g3, h5⟩ := real2_of_all _ _ _ _ _ _ e5
  exact ⟨⟨h1, tg, wu, wd, g2, g3⟩, h0, h1', h2, h3, h4, h5⟩

/-- On finite arguments the kernel and the reference end with the same seven results. -/
theorem algebraic : Cert.algebraic_Kernel6Ideal_Reference6Ideal_pre_mlp_finite (hKernel6Ideal := facts)
    (hReference6Ideal := Cert.Reference6Ideal.Gen.facts) (hPre_mlp_finite := Cert.Pre_mlp_finite.Gen.facts) := by
  intro m ρ m' ρ' hpre hargs
  choose I H using args_of_pre hpre
  refine ⟨fun c => real2 (I c).act, fun c => real2 (I c).dup, fun c => real2 (I c).dh2, fun c => real2 (I c).dh1,
    fun c => real2 (I c).loss, fun c => real2 (I c).dg3, fun c => real2 (I c).dg2, ?_, ?_⟩
  · exact (θ_run _ _ _).mono (fun r h c => ⟨(h c).1.trans (final7 (H c)), (h c).2.1.trans (final8 (H c)), (h c).2.2.1.trans (final9 (H c)),
      (h c).2.2.2.1.trans (final10 (H c)), (h c).2.2.2.2.1.trans (final11 (H c)), (h c).2.2.2.2.2.1.trans (final12 (H c)),
      (h c).2.2.2.2.2.2.1.trans (final13 (H c)), (h c).2.2.2.2.2.2.2⟩) (Cert.Kernel6Ideal.Value.run_blocks m ρ)
  · refine (θ_run _ _ _).mono (fun r h c => ?_) (Cert.Reference6Ideal.Value.run m' ρ')
    have R : Ref.Args (StableHlo.launchContents m' c) (I c) := ⟨(hargs c).1.trans (H c).h0, (hargs c).2.1.trans (H c).h1,
      (hargs c).2.2.1.trans (H c).h2, (hargs c).2.2.2.1.trans (H c).h3, (hargs c).2.2.2.2.1.trans (H c).h4, (hargs c).2.2.2.2.2.trans (H c).h5⟩
    refine ⟨(h c).1.trans (Ref.act R), (h c).2.1.trans (Ref.v79 R), (h c).2.2.1.trans (Ref.v75 R), (h c).2.2.2.1.trans (Ref.dh1 R),
      (h c).2.2.2.2.1.trans (Ref.loss R), (h c).2.2.2.2.2.1.trans (Ref.dg3 R), (h c).2.2.2.2.2.2.1.trans (Ref.dg2 R), (h c).2.2.2.2.2.2.2⟩

/-- The reference's run leaves its arguments as they were; it has no semaphore. -/
theorem frame_reference : Cert.quiescent_Reference6Ideal (hReference6Ideal := Cert.Reference6Ideal.Gen.facts) := by
  intro m ρ _
  exact (θ_run _ _ _).mono (fun r h => ⟨fun c => (h c).2.2.2.2.2.2.2, Idealize.ShloMosaic.sem_eq_zero_of_no_sems (by decide) r.2⟩)
    (Cert.Reference6Ideal.Value.run m ρ)

end Cert.K6

end
-- ==== Proof.MixSpec.lean ====
/- The spatial gating and the merge, entry by entry over the extended reals. -/
module

public import proofs.«01_k».proof.Proof.Norm
public import Idealize.ShloMosaic.Lib.Pipeline.ValueKit
public import Mathlib.Analysis.SpecialFunctions.Trigonometric.DerivHyp

@[expose] public section

noncomputable section

namespace Cert.K7

open Idealize.ShloMosaic

/-- The array whose entry at `(p, q)` is `f p q`; its rows from `P` on; its block from row `P` and column `Q` on. -/
def arr {a b : ℕ} (f : ℕ → ℕ → EReal) : (⟨2, ![a, b]⟩ : Shape).Idx → EReal := fun i => f (i 0).val (i 1).val
def rows {a b : ℕ} (P : ℕ) (f : ℕ → ℕ → EReal) : (⟨2, ![a, b]⟩ : Shape).Idx → EReal := fun i => f (P + (i 0).val) (i 1).val
def tile {a b : ℕ} (P Q : ℕ) (f : ℕ → ℕ → EReal) : (⟨2, ![a, b]⟩ : Shape).Idx → EReal := fun i => f (P + (i 0).val) (Q + (i 1).val)
/-- One row; a stack of arrays; one array of the stack. -/
def row {b : ℕ} (f : ℕ → EReal) : (⟨2, ![1, b]⟩ : Shape).Idx → EReal := fun i => f (i 1).val
def stack {n a b : ℕ} (f : ℕ → ℕ → ℕ → EReal) : (⟨3, ![n, a, b]⟩ : Shape).Idx → EReal := fun i => f (i 0).val (i 1).val (i 2).val
def slab {a b : ℕ} (f : ℕ → ℕ → EReal) : (⟨3, ![1, a, b]⟩ : Shape).Idx → EReal := fun i => f (i 1).val (i 2).val

/-- Every array is one of these. -/
theorem exists_arr {a b : ℕ} (x : (⟨2, ![a, b]⟩ : Shape).Idx → EReal) : ∃ f, x = arr f := by
  classical
  refine ⟨fun p q => if h : p < a ∧ q < b then x (ix2 ⟨p, h.1⟩ ⟨q, h.2⟩) else 0, ?_⟩
  funext i
  have h : (i 0).val < a ∧ (i 1).val < b := ⟨(i 0).isLt, (i 1).isLt⟩
  unfold arr
  beta_reduce
  rw [dif_pos h]
  exact congrArg x (eq_ix2 i)

theorem exists_stack {n a b : ℕ} (x : (⟨3, ![n, a, b]⟩ : Shape).Idx → EReal) : ∃ f, x = stack f := by
  classical
  refine ⟨fun g p q => if h : g < n ∧ p < a ∧ q < b then x (ix3 ⟨g, h.1⟩ ⟨p, h.2.1⟩ ⟨q, h.2.2⟩) else 0, ?_⟩
  funext i
  have h : (i 0).val < n ∧ (i 1).val < a ∧ (i 2).val < b := ⟨(i 0).isLt, (i 1).isLt, (i 2).isLt⟩
  unfold stack
  beta_reduce
  rw [dif_pos h]
  exact congrArg x (eq_ix3 i)

theorem ofBits_half : Ideal.ofBits .f32 0x3F000000#32 = ((1 / 2 : ℝ) : EReal) := by
  simp [Ideal.ofBits, Ideal.ieee, -EReal.coe_mul]; norm_num

/-- The two constants of the smooth rectifier. -/
def c0 : ℝ := 13386282 / 16777216
def c1 : ℝ := 9577081 / 268435456

theorem ofBits_c0 : Ideal.ofBits .f32 0x3F4C422A#32 = ((c0 : ℝ) : EReal) := by
  simp [Ideal.ofBits, Ideal.ieee, -EReal.coe_mul, c0]; norm_num

theorem ofBits_c1 : Ideal.ofBits .f32 0x3D122279#32 = ((c1 : ℝ) : EReal) := by
  simp [Ideal.ofBits, Ideal.ieee, -EReal.coe_mul, c1]; norm_num

/-- The smooth rectifier as the reference spells it. -/
def gelu (x : EReal) : EReal :=
  x * (Ideal.ofBits .f32 0x3F000000#32 * (1 + Ideal.tanh (Ideal.ofBits .f32 0x3F4C422A#32 * x + Ideal.ofBits .f32 0x3D122279#32 * (x * x * x))))

/-- The kernel factors its cubic and multiplies the half out. -/
theorem gelu_eq (x : EReal) :
    x * (Ideal.ofBits .f32 0x3F000000#32 + Ideal.ofBits .f32 0x3F000000#32
      * Ideal.tanh (x * (Ideal.ofBits .f32 0x3F4C422A#32 + Ideal.ofBits .f32 0x3D122279#32 * (x * x)))) = gelu x := by
  have p0 : (0 : ℝ) < c0 := by norm_num [c0]
  have p1 : (0 : ℝ) < c1 := by norm_num [c1]
  unfold gelu
  rw [ofBits_half, ofBits_c0, ofBits_c1]
  induction x with
  | bot =>
    rw [EReal.bot_mul_bot, EReal.top_mul_bot, EReal.coe_mul_bot_of_pos p0, EReal.coe_mul_bot_of_pos p1, EReal.coe_mul_top_of_pos p1,
      EReal.coe_add_top, EReal.bot_mul_top, EReal.bot_add, Ideal.tanh_bot, ← EReal.coe_one, ← EReal.coe_neg]
    norm_cast
    norm_num
  | top =>
    rw [EReal.top_mul_top, EReal.top_mul_top, EReal.coe_mul_top_of_pos p0, EReal.coe_mul_top_of_pos p1,
      EReal.coe_add_top, EReal.top_mul_top, EReal.top_add_top, Ideal.tanh_top, ← EReal.coe_one]
    norm_cast
    norm_num
  | coe r =>
    simp only [← EReal.coe_mul, ← EReal.coe_add, Ideal.tanh_coe, ← EReal.coe_one]
    congr 1
    rw [show r * (c0 + c1 * (r * r)) = c0 * r + c1 * (r * r * r) by ring]
    ring

/-- The gate. -/
def gate (x : EReal) : EReal := Ideal.div 1 (1 + Ideal.exp (-x))

/-- The kernel takes it through the hyperbolic tangent of half its argument. -/
theorem gate_eq (x : EReal) : Ideal.ofBits .f32 0x3F000000#32 + Ideal.ofBits .f32 0x3F000000#32
    * Ideal.tanh (Ideal.ofBits .f32 0x3F000000#32 * x) = gate x := by
  rw [ofBits_half]
  have p : (0 : ℝ) < 1 / 2 := by norm_num
  show _ = Ideal.logistic x
  induction x with
  | bot =>
    rw [EReal.coe_mul_bot_of_pos p, Ideal.tanh_bot, Ideal.logistic_bot, ← EReal.coe_one, ← EReal.coe_neg]
    norm_cast
    norm_num
  | top =>
    rw [EReal.coe_mul_top_of_pos p, Ideal.tanh_top, Ideal.logistic_top, ← EReal.coe_one]
    norm_cast
    norm_num
  | coe r =>
    rw [Ideal.logistic_coe]
    simp only [← EReal.coe_mul, ← EReal.coe_add, Ideal.tanh_coe]
    congr 1
    have e : Real.exp (-r) = Real.exp (-(1 / 2 * r)) * Real.exp (-(1 / 2 * r)) := by rw [← Real.exp_add]; congr 1; ring
    have h : Real.exp (1 / 2 * r) * Real.exp (-(1 / 2 * r)) = 1 := by rw [← Real.exp_add]; simp
    have ha := Real.exp_pos (1 / 2 * r)
    have hb := Real.exp_pos (-(1 / 2 * r))
    rw [Real.tanh_eq_sinh_div_cosh, Real.sinh_eq, Real.cosh_eq, e]
    generalize Real.exp (1 / 2 * r) = a at *
    generalize Real.exp (-(1 / 2 * r)) = b at *
    field_simp
    linear_combination 2 * b * h

/-- The comparison of row and column numbers. -/
theorem mask_at : ∀ p q : Fin 128, IntOp.cmpi CmpIPredicate.sge (BitVec.ofNat 32 p.val) (BitVec.ofNat 32 q.val) = if q.val ≤ p.val then 1 else 0 := by
  decide +kernel

/-- A choice by that comparison. -/
theorem select_at (p q : Fin 128) (a b : EReal) :
    Scalar.select (IntOp.cmpi CmpIPredicate.sge (BitVec.ofNat 32 p.val) (BitVec.ofNat 32 q.val)) a b = if q.val ≤ p.val then a else b := by
  rw [mask_at]
  split_ifs <;> rfl

/-- The arguments of the step. -/
structure In where
  ya : ℕ → ℕ → EReal
  z : ℕ → ℕ → EReal
  x : ℕ → ℕ → EReal
  lg : ℕ → EReal
  lb : ℕ → EReal
  ws : ℕ → ℕ → ℕ → EReal
  bs : ℕ → ℕ → EReal
  oa : ℕ → ℕ → EReal
  ob : ℕ → ℕ → EReal
  ow : ℕ → ℕ → EReal
  g2 : ℕ → EReal

namespace In

variable (I : In)

/-- The four column runs of the projection this step reads. -/
def zu (p q : ℕ) : EReal := I.z p (2048 + q)
def zv (p q : ℕ) : EReal := I.z p (3072 + q)
def za (p q : ℕ) : EReal := I.z p (4096 + q)
def zb (p q : ℕ) : EReal := I.z p (5120 + q)

/-- The rectified halves. -/
def u (p q : ℕ) : EReal := gelu (I.zu p q)
def v (p q : ℕ) : EReal := gelu (I.zv p q)

/-- The second half's row means, its centred rows, and the reciprocal roots of their variances. -/
def mu (p : ℕ) : EReal := Ideal.div (∑ k : Fin 1024, I.v p k) (Ideal.ofBits .f32 0x44800000#32)
def vc (p q : ℕ) : EReal := I.v p q - I.mu p
def rv (p : ℕ) : EReal :=
  Ideal.rsqrt (Ideal.div (∑ k : Fin 1024, I.vc p k * I.vc p k) (Ideal.ofBits .f32 0x44800000#32) + Ideal.ofBits .f32 0x3727C5AC#32)

/-- The normalised second half. -/
def ln (p q : ℕ) : EReal := I.vc p q * I.rv p * I.lg q + I.lb q

/-- The lower triangle of a group's mixing weights. -/
def wm (g t s : ℕ) : EReal := if s ≤ t then I.ws g t s else 0

/-- The bias of each group's columns. -/
def bias (p q : ℕ) : EReal := I.bs (q / 256) p

/-- A chunk's tokens mixed, with the group's bias. -/
def sp (p q : ℕ) : EReal := ∑ s : Fin 128, I.wm (q / 256) (p % 128) s * I.ln (128 * (p / 128) + s) q + I.bs (q / 256) (p % 128)

/-- The gated half. -/
def yb (p q : ℕ) : EReal := I.u p q * I.sp p q

/-- Within one chunk and one group. -/
theorem sp_at {P Q R G p q : ℕ} (hp : p < 128) (hq : q < 256) (hP : P = 128 * R) (hQ : Q = 256 * G) :
    ∑ s : Fin 128, I.wm G p s * I.ln (P + s) (Q + q) + I.bias p (Q + q) = I.sp (P + p) (Q + q) := by
  subst hP hQ
  unfold sp bias
  rw [show (256 * G + q) / 256 = G by omega, show (128 * R + p) % 128 = p by omega, show 128 * ((128 * R + p) / 128) = 128 * R by omega]

/-- The two branches' projections, their gated sum, and the residual stream after it. -/
def pa (p q : ℕ) : EReal := ∑ k : Fin 1024, I.ya p k * I.oa k q
def pb (p q : ℕ) : EReal := ∑ k : Fin 1024, I.yb p k * I.ob k q
def mg (p q : ℕ) : EReal := gate (I.za p q) * I.pa p q + gate (I.zb p q) * I.pb p q
def h1 (p q : ℕ) : EReal := I.x p q + ∑ k : Fin 1024, I.mg p k * I.ow k q

/-- The residual stream normalised. -/
def n2 (p q : ℕ) : EReal := I.h1 p q
  * Ideal.rsqrt (Ideal.div (∑ k : Fin 1024, I.h1 p k * I.h1 p k) (Ideal.ofBits .f32 0x44800000#32) + Ideal.ofBits .f32 0x358637BD#32) * I.g2 q

end In

end Cert.K7

end
-- ==== Proof.MixBody.lean ====
/- The values the spatial gating and merge kernel's body computes from one tile of 256 rows. -/
module

public import proofs.«01_k».proof.Proof.Gen.Kernel7Ideal.Frame
public import proofs.«01_k».proof.Proof.MixSpec
public import Idealize.ShloMosaic.Lib.Pipeline.ValueKit

@[expose] public section

set_option maxRecDepth 16384

noncomputable section

open Idealize.ShloMosaic

namespace Cert.K7

open Cert.Kernel7Ideal Cert.Kernel7Ideal.Gen

variable (I : In) (P T : ℕ)

/-- The first half, rectified. -/
theorem pay2 : k0_pay2 (F := Ideal) (rows (a := 256) (b := 1024) P I.zu) = rows (a := 256) (b := 1024) P I.u := by
  funext y
  obtain ⟨p, q, rfl⟩ : ∃ (p : Fin 256) (q : Fin 1024), y = ix2 p q := ⟨y 0, y 1, eq_ix2 y⟩
  pointwise [k0_pay2, rows]
  exact gelu_eq _

/-- The second half, rectified and centred. -/
theorem pay3 : k0_pay3 (F := Ideal) (rows (a := 256) (b := 1024) P I.zv) = rows (a := 256) (b := 1024) P I.vc := by
  funext y
  obtain ⟨p, q, rfl⟩ : ∃ (p : Fin 256) (q : Fin 1024), y = ix2 p q := ⟨y 0, y 1, eq_ix2 y⟩
  pointwise [k0_pay3, rows]
  simp only [gelu_eq]
  rfl

/-- The reciprocal roots of its rows' variances. -/
theorem pay4 : k0_pay4 (F := Ideal) (rows (a := 256) (b := 1024) P I.zv) = rows (a := 256) (b := 1) P (fun p _ => I.rv p) := by
  unfold k0_pay4
  rw [pay3]
  funext y
  obtain ⟨p, q, rfl⟩ : ∃ (p : Fin 256) (q : Fin 1), y = ix2 p q := ⟨y 0, y 1, eq_ix2 y⟩
  pointwise [k0_pay4, rows]
  rfl

/-- The second half, normalised. -/
theorem pay5 : k0_pay5 (F := Ideal) (rows (a := 256) (b := 1024) P I.vc) (rows (a := 256) (b := 1) P (fun p _ => I.rv p))
    (row (b := 1024) I.lg) (row (b := 1024) I.lb) = rows (a := 256) (b := 1024) P I.ln := by
  funext y
  obtain ⟨p, q, rfl⟩ : ∃ (p : Fin 256) (q : Fin 1024), y = ix2 p q := ⟨y 0, y 1, eq_ix2 y⟩
  pointwise [k0_pay5, rows, row]
  rfl

/-- The lower triangle of a group's weights. -/
theorem pay7 (g : ℕ) : k0_pay7 (F := Ideal) (slab (a := 128) (b := 128) (I.ws g)) = arr (a := 128) (b := 128) (I.wm g) := by
  funext y
  obtain ⟨p, q, rfl⟩ : ∃ (p : Fin 128) (q : Fin 128), y = ix2 p q := ⟨y 0, y 1, eq_ix2 y⟩
  pointwise [k0_pay7, k0_pay6, slab, arr]
  rw [select_at]
  rfl

/-- The lower triangle of a group's weights. -/
theorem pay8 (g : ℕ) : k0_pay8 (F := Ideal) (slab (a := 128) (b := 128) (I.ws g)) = arr (a := 128) (b := 128) (I.wm g) := by
  funext y
  obtain ⟨p, q, rfl⟩ : ∃ (p : Fin 128) (q : Fin 128), y = ix2 p q := ⟨y 0, y 1, eq_ix2 y⟩
  pointwise [k0_pay8, k0_pay6, slab, arr]
  rw [select_at]
  rfl

/-- The lower triangle of a group's weights. -/
theorem pay9 (g : ℕ) : k0_pay9 (F := Ideal) (slab (a := 128) (b := 128) (I.ws g)) = arr (a := 128) (b := 128) (I.wm g) := by
  funext y
  obtain ⟨p, q, rfl⟩ : ∃ (p : Fin 128) (q : Fin 128), y = ix2 p q := ⟨y 0, y 1, eq_ix2 y⟩
  pointwise [k0_pay9, k0_pay6, slab, arr]
  rw [select_at]
  rfl

/-- The lower triangle of a group's weights. -/
theorem pay10 (g : ℕ) : k0_pay10 (F := Ideal) (slab (a := 128) (b := 128) (I.ws g)) = arr (a := 128) (b := 128) (I.wm g) := by
  funext y
  obtain ⟨p, q, rfl⟩ : ∃ (p : Fin 128) (q : Fin 128), y = ix2 p q := ⟨y 0, y 1, eq_ix2 y⟩
  pointwise [k0_pay10, k0_pay6, slab, arr]
  rw [select_at]
  rfl

/-- The first chunk's first group, mixed. -/
theorem pay11 : k0_pay11 (F := Ideal) (rows (a := 256) (b := 1024) (256 * T) I.vc) (rows (a := 256) (b := 1) (256 * T) (fun p _ => I.rv p))
    (row (b := 1024) I.lg) (row (b := 1024) I.lb) (slab (a := 128) (b := 128) (I.ws 0)) (tile (a := 128) (b := 256) 0 0 I.bias)
    = tile (a := 128) (b := 256) (256 * T) 0 I.sp := by
  unfold k0_pay11
  rw [pay5, pay7]
  funext y
  obtain ⟨p, q, rfl⟩ : ∃ (p : Fin 128) (q : Fin 256), y = ix2 p q := ⟨y 0, y 1, eq_ix2 y⟩
  pointwise [rows, tile, arr]
  simpa only [Nat.zero_add] using I.sp_at (P := 256 * T) (Q := 0) (R := 2 * T) (G := 0) p.isLt q.isLt (by omega) rfl

/-- The second chunk's first group, mixed. -/
theorem pay16 : k0_pay16 (F := Ideal) (rows (a := 256) (b := 1024) (256 * T) I.ln) (arr (a := 128) (b := 128) (I.wm 0))
    (tile (a := 128) (b := 256) 0 0 I.bias) = tile (a := 128) (b := 256) (256 * T + 128) 0 I.sp := by
  funext y
  obtain ⟨p, q, rfl⟩ : ∃ (p : Fin 128) (q : Fin 256), y = ix2 p q := ⟨y 0, y 1, eq_ix2 y⟩
  pointwise [k0_pay16, rows, tile, arr]
  simp only [← Nat.add_assoc]
  simpa only [Nat.zero_add] using I.sp_at (P := 256 * T + 128) (Q := 0) (R := 2 * T + 1) (G := 0) p.isLt q.isLt (by omega) rfl

/-- The two chunks' first group, gated. -/
theorem pay12 : k0_pay12 (F := Ideal) (rows (a := 256) (b := 1024) (256 * T) I.u) (tile (a := 128) (b := 256) (256 * T) 0 I.sp)
    = tile (a := 128) (b := 256) (256 * T) 0 I.yb := by
  funext y
  obtain ⟨p, q, rfl⟩ : ∃ (p : Fin 128) (q : Fin 256), y = ix2 p q := ⟨y 0, y 1, eq_ix2 y⟩
  pointwise [k0_pay12, rows, tile]
  rfl

theorem pay17 : k0_pay17 (F := Ideal) (rows (a := 256) (b := 1024) (256 * T) I.u) (tile (a := 128) (b := 256) (256 * T + 128) 0 I.sp)
    = tile (a := 128) (b := 256) (256 * T + 128) 0 I.yb := by
  funext y
  obtain ⟨p, q, rfl⟩ : ∃ (p : Fin 128) (q : Fin 256), y = ix2 p q := ⟨y 0, y 1, eq_ix2 y⟩
  pointwise [k0_pay17, rows, tile]
  simp only [← Nat.add_assoc]
  rfl

/-- The first chunk's second group, mixed and gated. -/
theorem pay13 : k0_pay13 (F := Ideal) (rows (a := 256) (b := 1024) (256 * T) I.u) (rows (a := 256) (b := 1024) (256 * T) I.ln)
    (arr (a := 128) (b := 128) (I.wm 1)) (tile (a := 128) (b := 256) 0 256 I.bias) = tile (a := 128) (b := 256) (256 * T) 256 I.yb := by
  funext y
  obtain ⟨p, q, rfl⟩ : ∃ (p : Fin 128) (q : Fin 256), y = ix2 p q := ⟨y 0, y 1, eq_ix2 y⟩
  pointwise [k0_pay13, rows, tile, arr]
  exact congrArg (I.u _ _ * ·) (I.sp_at (P := 256 * T) (Q := 256) (R := 2 * T) (G := 1) p.isLt q.isLt (by omega) rfl)

/-- The first chunk's third group, mixed and gated. -/
theorem pay14 : k0_pay14 (F := Ideal) (rows (a := 256) (b := 1024) (256 * T) I.u) (rows (a := 256) (b := 1024) (256 * T) I.ln)
    (arr (a := 128) (b := 128) (I.wm 2)) (tile (a := 128) (b := 256) 0 512 I.bias) = tile (a := 128) (b := 256) (256 * T) 512 I.yb := by
  funext y
  obtain ⟨p, q, rfl⟩ : ∃ (p : Fin 128) (q : Fin 256), y = ix2 p q := ⟨y 0, y 1, eq_ix2 y⟩
  pointwise [k0_pay14, rows, tile, arr]
  exact congrArg (I.u _ _ * ·) (I.sp_at (P := 256 * T) (Q := 512) (R := 2 * T) (G := 2) p.isLt q.isLt (by omega) rfl)

/-- The first chunk's fourth group, mixed and gated. -/
theorem pay15 : k0_pay15 (F := Ideal) (rows (a := 256) (b := 1024) (256 * T) I.u) (rows (a := 256) (b := 1024) (256 * T) I.ln)
    (arr (a := 128) (b := 128) (I.wm 3)) (tile (a := 128) (b := 256) 0 768 I.bias) = tile (a := 128) (b := 256) (256 * T) 768 I.yb := by
  funext y
  obtain ⟨p, q, rfl⟩ : ∃ (p : Fin 128) (q : Fin 256), y = ix2 p q := ⟨y 0, y 1, eq_ix2 y⟩
  pointwise [k0_pay15, rows, tile, arr]
  exact congrArg (I.u _ _ * ·) (I.sp_at (P := 256 * T) (Q := 768) (R := 2 * T) (G := 3) p.isLt q.isLt (by omega) rfl)

/-- The second chunk's second group, mixed and gated. -/
theorem pay18 : k0_pay18 (F := Ideal) (rows (a := 256) (b := 1024) (256 * T) I.u) (rows (a := 256) (b := 1024) (256 * T) I.ln)
    (arr (a := 128) (b := 128) (I.wm 1)) (tile (a := 128) (b := 256) 0 256 I.bias) = tile (a := 128) (b := 256) (256 * T + 128) 256 I.yb := by
  funext y
  obtain ⟨p, q, rfl⟩ : ∃ (p : Fin 128) (q : Fin 256), y = ix2 p q := ⟨y 0, y 1, eq_ix2 y⟩
  pointwise [k0_pay18, rows, tile, arr]
  simp only [← Nat.add_assoc]
  exact congrArg (I.u _ _ * ·) (I.sp_at (P := 256 * T + 128) (Q := 256) (R := 2 * T + 1) (G := 1) p.isLt q.isLt (by omega) rfl)

/-- The second chunk's third group, mixed and gated. -/
theorem pay19 : k0_pay19 (F := Ideal) (rows (a := 256) (b := 1024) (256 * T) I.u) (rows (a := 256) (b := 1024) (256 * T) I.ln)
    (arr (a := 128) (b := 128) (I.wm 2)) (tile (a := 128) (b := 256) 0 512 I.bias) = tile (a := 128) (b := 256) (256 * T + 128) 512 I.yb := by
  funext y
  obtain ⟨p, q, rfl⟩ : ∃ (p : Fin 128) (q : Fin 256), y = ix2 p q := ⟨y 0, y 1, eq_ix2 y⟩
  pointwise [k0_pay19, rows, tile, arr]
  simp only [← Nat.add_assoc]
  exact congrArg (I.u _ _ * ·) (I.sp_at (P := 256 * T + 128) (Q := 512) (R := 2 * T + 1) (G := 2) p.isLt q.isLt (by omega) rfl)

/-- The second chunk's fourth group, mixed and gated. -/
theorem pay20 : k0_pay20 (F := Ideal) (rows (a := 256) (b := 1024) (256 * T) I.u) (rows (a := 256) (b := 1024) (256 * T) I.ln)
    (arr (a := 128) (b := 128) (I.wm 3)) (tile (a := 128) (b := 256) 0 768 I.bias) = tile (a := 128) (b := 256) (256 * T + 128) 768 I.yb := by
  funext y
  obtain ⟨p, q, rfl⟩ : ∃ (p : Fin 128) (q : Fin 256), y = ix2 p q := ⟨y 0, y 1, eq_ix2 y⟩
  pointwise [k0_pay20, rows, tile, arr]
  simp only [← Nat.add_assoc]
  exact congrArg (I.u _ _ * ·) (I.sp_at (P := 256 * T + 128) (Q := 768) (R := 2 * T + 1) (G := 3) p.isLt q.isLt (by omega) rfl)

/-- The two branches' projections. -/
theorem pay21 : k0_pay21 (F := Ideal) (rows (a := 256) (b := 1024) P I.ya) (arr (a := 1024) (b := 1024) I.oa) = rows (a := 256) (b := 1024) P I.pa := by
  funext y
  obtain ⟨p, q, rfl⟩ : ∃ (p : Fin 256) (q : Fin 1024), y = ix2 p q := ⟨y 0, y 1, eq_ix2 y⟩
  pointwise [k0_pay21, rows, arr]
  rfl

theorem pay22 : k0_pay22 (F := Ideal) (rows (a := 256) (b := 1024) P I.yb) (arr (a := 1024) (b := 1024) I.ob) = rows (a := 256) (b := 1024) P I.pb := by
  funext y
  obtain ⟨p, q, rfl⟩ : ∃ (p : Fin 256) (q : Fin 1024), y = ix2 p q := ⟨y 0, y 1, eq_ix2 y⟩
  pointwise [k0_pay22, rows, arr]
  rfl

/-- The residual stream after the step. -/
theorem pay23 : k0_pay23 (F := Ideal) (rows (a := 256) (b := 1024) P I.pa) (rows (a := 256) (b := 1024) P I.yb) (arr (a := 1024) (b := 1024) I.ob)
    (rows (a := 256) (b := 1024) P I.za) (rows (a := 256) (b := 1024) P I.zb) (rows (a := 256) (b := 1024) P I.x) (arr (a := 1024) (b := 1024) I.ow)
    = rows (a := 256) (b := 1024) P I.h1 := by
  unfold k0_pay23
  rw [pay22]
  funext y
  obtain ⟨p, q, rfl⟩ : ∃ (p : Fin 256) (q : Fin 1024), y = ix2 p q := ⟨y 0, y 1, eq_ix2 y⟩
  pointwise [rows, arr]
  simp only [gate_eq]
  rfl

/-- The residual stream, normalised. -/
theorem pay1 : k0_pay1 (F := Ideal) (rows (a := 256) (b := 1024) P I.h1) (row (b := 1024) I.g2) = rows (a := 256) (b := 1024) P I.n2 := by
  funext y
  obtain ⟨p, q, rfl⟩ : ∃ (p : Fin 256) (q : Fin 1024), y = ix2 p q := ⟨y 0, y 1, eq_ix2 y⟩
  pointwise [k0_pay1, rows, row]
  rfl

end Cert.K7

end
-- ==== Proof.MixBlocks.lean ====
/- The spatial gating and merge kernel: what a tile of 256 rows reads, and how its stored pieces are read back. -/
module

public import proofs.«01_k».proof.Proof.MixBody
public import proofs.«01_k».proof.Proof.Gen.Kernel7Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K7

open Cert.Kernel7Ideal Cert.Kernel7Ideal.Gen

theorem idx : ∀ t : Fin cfg0.N, win0_0.index t = ![t.val, 0] ∧ win0_1.index t = ![t.val, 2] ∧ win0_2.index t = ![t.val, 3]
    ∧ win0_3.index t = ![t.val, 2] ∧ win0_4.index t = ![t.val, 0] ∧ win0_5.index t = ![0, 0] ∧ win0_6.index t = ![0, 0]
    ∧ win0_7.index t = ![0, 0, 0] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![t.val, 0] ∧ win0_16.index t = ![t.val, 0] ∧ win0_17.index t = ![t.val, 0] :=
  (by decide +kernel : ∀ t : Fin grid0.N, _)

variable (m : (ℓ : Loc nD τ sig) → Buf (Elt Ideal) ℓ) (c : Dev nD) (I : In)

/-- The arguments, entry by entry. -/
structure Args : Prop where
  h0 : m ((c : Thread nD τ).loc main_arg0) = arr (a := 4096) (b := 1024) I.ya
  h1 : m ((c : Thread nD τ).loc main_arg1) = arr (a := 4096) (b := 6144) I.z
  h2 : m ((c : Thread nD τ).loc main_arg2) = arr (a := 4096) (b := 1024) I.x
  h3 : m ((c : Thread nD τ).loc main_arg3) = row (b := 1024) I.lg
  h4 : m ((c : Thread nD τ).loc main_arg4) = row (b := 1024) I.lb
  h5 : m ((c : Thread nD τ).loc main_arg5) = stack (n := 4) (a := 128) (b := 128) I.ws
  h6 : m ((c : Thread nD τ).loc main_arg6) = arr (a := 4) (b := 128) I.bs
  h7 : m ((c : Thread nD τ).loc main_arg7) = arr (a := 1024) (b := 1024) I.oa
  h8 : m ((c : Thread nD τ).loc main_arg8) = arr (a := 1024) (b := 1024) I.ob
  h9 : m ((c : Thread nD τ).loc main_arg9) = arr (a := 1024) (b := 1024) I.ow
  h10 : m ((c : Thread nD τ).loc main_arg10) = row (b := 1024) I.g2

variable {m c I}

/-- The tiles of the arrays. -/
theorem blk0 (H : Args m c I) (t : Fin cfg0.N) : iblk m c 0 t = rows (a := 256) (b := 1024) (256 * t.val) I.ya := by
  have hN : t.val < 16 := lt_of_lt_of_eq t.isLt N_0
  funext y
  obtain ⟨a, b, rfl⟩ : ∃ (a : Fin 256) (b : Fin 1024), y = ix2 a b := ⟨y 0, y 1, eq_ix2 y⟩
  have e : iblk m c 0 t (ix2 a b) = m ((c : Thread nD τ).loc main_arg0) (ix2 ⟨256 * t.val + a.val, by omega⟩ b) := by
    blk_ext [iblk, V, idx t]
  rw [e, H.h0]; rfl

theorem blk1 (H : Args m c I) (t : Fin cfg0.N) : iblk m c 1 t = rows (a := 256) (b := 1024) (256 * t.val) I.zu := by
  have hN : t.val < 16 := lt_of_lt_of_eq t.isLt N_0
  funext y
  obtain ⟨a, b, rfl⟩ : ∃ (a : Fin 256) (b : Fin 1024), y = ix2 a b := ⟨y 0, y 1, eq_ix2 y⟩
  have e : iblk m c 1 t (ix2 a b) = m ((c : Thread nD τ).loc main_arg1) (ix2 ⟨256 * t.val + a.val, by omega⟩ ⟨2048 + b.val, by omega⟩) := by
    blk_ext [iblk, V, idx t]
  rw [e, H.h1]; rfl

theorem blk2 (H : Args m c I) (t : Fin cfg0.N) : iblk m c 2 t = rows (a := 256) (b := 1024) (256 * t.val) I.zv := by
  have hN : t.val < 16 := lt_of_lt_of_eq t.isLt N_0
  funext y
  obtain ⟨a, b, rfl⟩ : ∃ (a : Fin 256) (b : Fin 1024), y = ix2 a b := ⟨y 0, y 1, eq_ix2 y⟩
  have e : iblk m c 2 t (ix2 a b) = m ((c : Thread nD τ).loc main_arg1) (ix2 ⟨256 * t.val + a.val, by omega⟩ ⟨3072 + b.val, by omega⟩) := by
    blk_ext [iblk, V, idx t]
  rw [e, H.h1]; rfl

theorem blk3 (H : Args m c I) (t : Fin cfg0.N) : iblk m c 3 t = tile (a := 256) (b := 2048) (256 * t.val) 4096 I.z := by
  have hN : t.val < 16 := lt_of_lt_of_eq t.isLt N_0
  funext y
  obtain ⟨a, b, rfl⟩ : ∃ (a : Fin 256) (b : Fin 2048), y = ix2 a b := ⟨y 0, y 1, eq_ix2 y⟩
  have e : iblk m c 3 t (ix2 a b) = m ((c : Thread nD τ).loc main_arg1) (ix2 ⟨256 * t.val + a.val, by omega⟩ ⟨4096 + b.val, by omega⟩) := by
    blk_ext [iblk, V, idx t]
  rw [e, H.h1]; rfl

theorem blk4 (H : Args m c I) (t : Fin cfg0.N) : iblk m c 4 t = rows (a := 256) (b := 1024) (256 * t.val) I.x := by
  have hN : t.val < 16 := lt_of_lt_of_eq t.isLt N_0
  funext y
  obtain ⟨a, b, rfl⟩ : ∃ (a : Fin 256) (b : Fin 1024), y = ix2 a b := ⟨y 0, y 1, eq_ix2 y⟩
  have e : iblk m c 4 t (ix2 a b) = m ((c : Thread nD τ).loc main_arg2) (ix2 ⟨256 * t.val + a.val, by omega⟩ b) := by
    blk_ext [iblk, V, idx t]
  rw [e, H.h2]; rfl

/-- The arrays every tile reads whole. -/
theorem blk5 (H : Args m c I) (t : Fin cfg0.N) : iblk m c 5 t = row (b := 1024) I.lg := by
  funext y
  obtain ⟨a, b, rfl⟩ : ∃ (a : Fin 1) (b : Fin 1024), y = ix2 a b := ⟨y 0, y 1, eq_ix2 y⟩
  have e : iblk m c 5 t (ix2 a b) = m ((c : Thread nD τ).loc main_arg3) (ix2 0 b) := by
    blk_ext [iblk, V, idx t]
  rw [e, H.h3]; rfl

theorem blk6 (H : Args m c I) (t : Fin cfg0.N) : iblk m c 6 t = row (b := 1024) I.lb := by
  funext y
  obtain ⟨a, b, rfl⟩ : ∃ (a : Fin 1) (b : Fin 1024), y = ix2 a b := ⟨y 0, y 1, eq_ix2 y⟩
  have e : iblk m c 6 t (ix2 a b) = m ((c : Thread nD τ).loc main_arg4) (ix2 0 b) := by
    blk_ext [iblk, V, idx t]
  rw [e, H.h4]; rfl

theorem blk7 (H : Args m c I) (t : Fin cfg0.N) : iblk m c 7 t = stack (n := 4) (a := 128) (b := 128) I.ws := by
  funext y
  obtain ⟨s, a, b, rfl⟩ : ∃ (s : Fin 4) (a b : Fin 128), y = ix3 s a b := ⟨y 0, y 1, y 2, eq_ix3 y⟩
  have e : iblk m c 7 t (ix3 s a b) = m ((c : Thread nD τ).loc main_arg5) (ix3 s a b) := by
    blk_ext [iblk, V, idx t]
  rw [e, H.h5]

theorem blk9 (H : Args m c I) (t : Fin cfg0.N) : iblk m c 9 t = arr (a := 1024) (b := 1024) I.oa := by
  funext y
  obtain ⟨a, b, rfl⟩ : ∃ (a b : Fin 1024), y = ix2 a b := ⟨y 0, y 1, eq_ix2 y⟩
  have e : iblk m c 9 t (ix2 a b) = m ((c : Thread nD τ).loc main_arg7) (ix2 a b) := by
    blk_ext [iblk, V, idx t]
  rw [e, H.h7]

theorem blk10 (H : Args m c I) (t : Fin cfg0.N) : iblk m c 10 t = arr (a := 1024) (b := 1024) I.ob := by
  funext y
  obtain ⟨a, b, rfl⟩ : ∃ (a b : Fin 1024), y = ix2 a b := ⟨y 0, y 1, eq_ix2 y⟩
  have e : iblk m c 10 t (ix2 a b) = m ((c : Thread nD τ).loc main_arg8) (ix2 a b) := by
    blk_ext [iblk, V, idx t]
  rw [e, H.h8]

theorem blk11 (H : Args m c I) (t : Fin cfg0.N) : iblk m c 11 t = arr (a := 1024) (b := 1024) I.ow := by
  funext y
  obtain ⟨a, b, rfl⟩ : ∃ (a b : Fin 1024), y = ix2 a b := ⟨y 0, y 1, eq_ix2 y⟩
  have e : iblk m c 11 t (ix2 a b) = m ((c : Thread nD τ).loc main_arg9) (ix2 a b) := by
    blk_ext [iblk, V, idx t]
  rw [e, H.h9]

theorem blk12 (H : Args m c I) (t : Fin cfg0.N) : iblk m c 12 t = row (b := 1024) I.g2 := by
  funext y
  obtain ⟨a, b, rfl⟩ : ∃ (a : Fin 1) (b : Fin 1024), y = ix2 a b := ⟨y 0, y 1, eq_ix2 y⟩
  have e : iblk m c 12 t (ix2 a b) = m ((c : Thread nD τ).loc main_arg10) (ix2 0 b) := by
    blk_ext [iblk, V, idx t]
  rw [e, H.h10]; rfl

/-- The host's bias: a group's bias at each of its columns. -/
theorem host8 (H : Args m c I) : V m c main_v3 = arr (a := 128) (b := 1024) I.bias := by
  show StableHlo.after hostOps0 (fun b => m (c, b)) (Proc.devRef .tc main_v3) = _
  after_results
  have h6 : m (c, Proc.devRef .tc main_arg6) = arr (a := 4) (b := 128) I.bs := H.h6
  rw [h6]
  funext y
  obtain ⟨p, q, rfl⟩ : ∃ (p : Fin 128) (q : Fin 1024), y = ix2 p q := ⟨y 0, y 1, eq_ix2 y⟩
  pointwise [arr]
  rfl

theorem blk8 (H : Args m c I) (t : Fin cfg0.N) : iblk m c 8 t = arr (a := 128) (b := 1024) I.bias := by
  funext y
  obtain ⟨a, b, rfl⟩ : ∃ (a : Fin 128) (b : Fin 1024), y = ix2 a b := ⟨y 0, y 1, eq_ix2 y⟩
  have e : iblk m c 8 t (ix2 a b) = V m c main_v3 (ix2 a b) := by
    blk_ext [iblk, idx t]
  rw [e, host8 H]

/-- One group's weights, one group's bias columns, one half of the gates' block. -/
theorem ld_ws (f : ℕ → ℕ → ℕ → EReal) (g : ℕ) (h) : View.ld (Val := Elt Ideal) (S := S4x128x128) (e' := .f32) (stack (n := 4) (a := 128) (b := 128) f)
    (Rect.unit ![g, 0, 0] ![1, 128, 128] h) = slab (a := 128) (b := 128) (f g) := by
  funext y
  have h0 : (y 0).val = 0 := Nat.lt_one_iff.mp (y 0).isLt
  simp [View.ld_apply, stack, slab, h0]

theorem ld_bias (f : ℕ → ℕ → EReal) (Q : ℕ) (h) : View.ld (Val := Elt Ideal) (S := S128x1024) (e' := .f32) (arr (a := 128) (b := 1024) f)
    (Rect.unit ![0, Q] ![128, 256] h) = tile (a := 128) (b := 256) 0 Q f := by
  funext y
  simp [View.ld_apply, arr, tile]

theorem ld_za (P : ℕ) (h) : View.ld (Val := Elt Ideal) (S := S256x2048) (e' := .bf16) (tile (a := 256) (b := 2048) P 4096 I.z)
    (Rect.unit ![0, 0] ![256, 1024] h) = rows (a := 256) (b := 1024) P I.za := by
  funext y
  simp [View.ld_apply, tile, rows, In.za]

theorem ld_zb (P : ℕ) (h) : View.ld (Val := Elt Ideal) (S := S256x2048) (e' := .bf16) (tile (a := 256) (b := 2048) P 4096 I.z)
    (Rect.unit ![0, 1024] ![256, 1024] h) = rows (a := 256) (b := 1024) P I.zb := by
  funext y
  simp [View.ld_apply, tile, rows, In.zb, ← Nat.add_assoc]

/-- The eight stored pieces of a tile make it whole. -/
theorem canon8 (P : ℕ) (f : ℕ → ℕ → EReal) : View.canon (Val := Elt Ideal) (s := S256x1024) (e := .bf16)
    [⟨Rect.unit ![128, 768] ![128, 256] inb_S256x1024_S128x256_128_768, tile (a := 128) (b := 256) (P + 128) 768 f⟩,
     ⟨Rect.unit ![128, 512] ![128, 256] inb_S256x1024_S128x256_128_512, tile (a := 128) (b := 256) (P + 128) 512 f⟩,
     ⟨Rect.unit ![128, 256] ![128, 256] inb_S256x1024_S128x256_128_256, tile (a := 128) (b := 256) (P + 128) 256 f⟩,
     ⟨Rect.unit ![128, 0] ![128, 256] inb_S256x1024_S128x256_128_0, tile (a := 128) (b := 256) (P + 128) 0 f⟩,
     ⟨Rect.unit ![0, 768] ![128, 256] inb_S256x1024_S128x256_0_768, tile (a := 128) (b := 256) P 768 f⟩,
     ⟨Rect.unit ![0, 512] ![128, 256] inb_S256x1024_S128x256_0_512, tile (a := 128) (b := 256) P 512 f⟩,
     ⟨Rect.unit ![0, 256] ![128, 256] inb_S256x1024_S128x256_0_256, tile (a := 128) (b := 256) P 256 f⟩,
     ⟨Rect.unit ![0, 0] ![128, 256] inb_S256x1024_S128x256_0_0, tile (a := 128) (b := 256) P 0 f⟩]
    = rows (a := 256) (b := 1024) P f := by
  funext x
  obtain ⟨a, b, rfl⟩ : ∃ (a : Fin 256) (b : Fin 1024), x = ix2 a b := ⟨x 0, x 1, eq_ix2 x⟩
  canon_tiles x h
  all_goals
    first
    | show f (P + 128 + (x 0).val) _ = f (P + (ix2 a b 0).val) (ix2 a b 1).val
    | show f (P + (x 0).val) _ = f (P + (ix2 a b 0).val) (ix2 a b 1).val
    simp only [h0, h1, zero_add, Nat.add_assoc]

/-- Reading the whole tile back. -/
theorem read8 {ψ : RefSig} {κ : Kind} {sp : Space} (v : View ψ κ sp S256x1024 .bf16) (P : ℕ) (f : ℕ → ℕ → EReal) :
    v.readCov (Val := Elt Ideal)
    [⟨Rect.unit ![128, 768] ![128, 256] inb_S256x1024_S128x256_128_768, tile (a := 128) (b := 256) (P + 128) 768 f⟩,
     ⟨Rect.unit ![128, 512] ![128, 256] inb_S256x1024_S128x256_128_512, tile (a := 128) (b := 256) (P + 128) 512 f⟩,
     ⟨Rect.unit ![128, 256] ![128, 256] inb_S256x1024_S128x256_128_256, tile (a := 128) (b := 256) (P + 128) 256 f⟩,
     ⟨Rect.unit ![128, 0] ![128, 256] inb_S256x1024_S128x256_128_0, tile (a := 128) (b := 256) (P + 128) 0 f⟩,
     ⟨Rect.unit ![0, 768] ![128, 256] inb_S256x1024_S128x256_0_768, tile (a := 128) (b := 256) P 768 f⟩,
     ⟨Rect.unit ![0, 512] ![128, 256] inb_S256x1024_S128x256_0_512, tile (a := 128) (b := 256) P 512 f⟩,
     ⟨Rect.unit ![0, 256] ![128, 256] inb_S256x1024_S128x256_0_256, tile (a := 128) (b := 256) P 256 f⟩,
     ⟨Rect.unit ![0, 0] ![128, 256] inb_S256x1024_S128x256_0_0, tile (a := 128) (b := 256) P 0 f⟩]
      (Rect.unit ![0, 0] ![256, 1024] inb_S256x1024_S256x1024_0_0).toLoadRect = rows (a := 256) (b := 1024) P f := by
  rw [View.readCov_eq_canon', canon8]
  funext y
  show rows (a := 256) (b := 1024) P f _ = _
  refine congrArg _ ?_
  funext a
  fin_cases a <;> exact Fin.ext (by simp [LoadRect.idx])

end Cert.K7

end
-- ==== Proof.MixKernel.lean ====
/- The spatial gating and merge kernel: what each tile of 256 rows leaves in each window, and the arrays at the end. -/
module

public import proofs.«01_k».proof.Proof.MixBlocks
public import proofs.«01_k».proof.Proof.Gen.Kernel7Ideal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K7

open Cert.Kernel7Ideal Cert.Kernel7Ideal.Gen

variable {m : (ℓ : Loc nD τ sig) → Buf (Elt Ideal) ℓ} {c : Dev nD} {I : In}

/-- What a tile leaves of the gated half. -/
theorem after13 (H : Args m c I) (t : Fin cfg0.N) :
    ((dats m 0 c).after 13 t : S256x1024.Idx → EReal) = rows (a := 256) (b := 1024) (256 * t.val) I.yb := by
  rw [after0_13]
  unfold outsAt0
  frame_out
  simp (disch := decide) only [blk0 H, blk1 H, blk2 H, blk3 H, blk4 H, blk5 H, blk6 H, blk7 H, blk8 H, blk9 H, blk10 H, blk11 H, blk12 H,
    ld_ws, ld_bias, ld_za, ld_zb, pay2, pay3, pay4, pay5, pay7, pay8, pay9, pay10, pay11, pay12, pay13, pay14, pay15, pay16, pay17, pay18, pay19,
    pay20]
  exact canon8 _ _

theorem final13 (H : Args m c I) : (dats m 0 c).arrAt 13 (cfgs 0).N = arr (a := 4096) (b := 1024) I.yb := by
  refine (dats m 0 c).arrAt_eq_of_covers 13 _ (by decide +kernel) fun t hf y => ?_
  blk_simp
  refine (congrFun (after13 H t) y).trans ?_
  blk_simp [arr, rows, idx t]
  rw [Nat.mul_comm]

/-- What a tile leaves of the first branch's projection. -/
theorem after14 (H : Args m c I) (t : Fin cfg0.N) :
    ((dats m 0 c).after 14 t : S256x1024.Idx → EReal) = rows (a := 256) (b := 1024) (256 * t.val) I.pa := by
  rw [after0_14]
  unfold outsAt0
  frame_out
  simp (disch := decide) only [blk0 H, blk1 H, blk2 H, blk3 H, blk4 H, blk5 H, blk6 H, blk7 H, blk8 H, blk9 H, blk10 H, blk11 H, blk12 H,
    ld_ws, ld_bias, ld_za, ld_zb, pay2, pay3, pay4, pay5, pay7, pay8, pay9, pay10, pay11, pay12, pay13, pay14, pay15, pay16, pay17, pay18, pay19,
    pay20, pay21]

theorem final14 (H : Args m c I) : (dats m 0 c).arrAt 14 (cfgs 0).N = arr (a := 4096) (b := 1024) I.pa := by
  refine (dats m 0 c).arrAt_eq_of_covers 14 _ (by decide +kernel) fun t hf y => ?_
  blk_simp
  refine (congrFun (after14 H t) y).trans ?_
  blk_simp [arr, rows, idx t]
  rw [Nat.mul_comm]

/-- What a tile leaves of the second branch's projection. -/
theorem after15 (H : Args m c I) (t : Fin cfg0.N) :
    ((dats m 0 c).after 15 t : S256x1024.Idx → EReal) = rows (a := 256) (b := 1024) (256 * t.val) I.pb := by
  rw [after0_15]
  unfold outsAt0
  frame_out
  simp (disch := decide) only [blk0 H, blk1 H, blk2 H, blk3 H, blk4 H, blk5 H, blk6 H, blk7 H, blk8 H, blk9 H, blk10 H, blk11 H, blk12 H,
    ld_ws, ld_bias, ld_za, ld_zb, pay2, pay3, pay4, pay5, pay7, pay8, pay9, pay10, pay11, pay12, pay13, pay14, pay15, pay16, pay17, pay18, pay19,
    pay20, read8, pay22]

theorem final15 (H : Args m c I) : (dats m 0 c).arrAt 15 (cfgs 0).N = arr (a := 4096) (b := 1024) I.pb := by
  refine (dats m 0 c).arrAt_eq_of_covers 15 _ (by decide +kernel) fun t hf y => ?_
  blk_simp
  refine (congrFun (after15 H t) y).trans ?_
  blk_simp [arr, rows, idx t]
  rw [Nat.mul_comm]

/-- What a tile leaves of the residual stream. -/
theorem after16 (H : Args m c I) (t : Fin cfg0.N) :
    ((dats m 0 c).after 16 t : S256x1024.Idx → EReal) = rows (a := 256) (b := 1024) (256 * t.val) I.h1 := by
  rw [after0_16]
  unfold outsAt0
  frame_out
  simp (disch := decide) only [blk0 H, blk1 H, blk2 H, blk3 H, blk4 H, blk5 H, blk6 H, blk7 H, blk8 H, blk9 H, blk10 H, blk11 H, blk12 H,
    ld_ws, ld_bias, ld_za, ld_zb, pay2, pay3, pay4, pay5, pay7, pay8, pay9, pay10, pay11, pay12, pay13, pay14, pay15, pay16, pay17, pay18, pay19,
    pay20, read8, pay21, pay22, pay23]

theorem final16 (H : Args m c I) : (dats m 0 c).arrAt 16 (cfgs 0).N = arr (a := 4096) (b := 1024) I.h1 := by
  refine (dats m 0 c).arrAt_eq_of_covers 16 _ (by decide +kernel) fun t hf y => ?_
  blk_simp
  refine (congrFun (after16 H t) y).trans ?_
  blk_simp [arr, rows, idx t]
  rw [Nat.mul_comm]

/-- What a tile leaves of the normalised stream. -/
theorem after17 (H : Args m c I) (t : Fin cfg0.N) :
    ((dats m 0 c).after 17 t : S256x1024.Idx → EReal) = rows (a := 256) (b := 1024) (256 * t.val) I.n2 := by
  rw [after0_17]
  unfold outsAt0
  frame_out
  simp (disch := decide) only [blk0 H, blk1 H, blk2 H, blk3 H, blk4 H, blk5 H, blk6 H, blk7 H, blk8 H, blk9 H, blk10 H, blk11 H, blk12 H,
    ld_ws, ld_bias, ld_za, ld_zb, pay2, pay3, pay4, pay5, pay7, pay8, pay9, pay10, pay11, pay12, pay13, pay14, pay15, pay16, pay17, pay18, pay19,
    pay20, read8, pay21, pay22, pay23, pay1]

theorem final17 (H : Args m c I) : (dats m 0 c).arrAt 17 (cfgs 0).N = arr (a := 4096) (b := 1024) I.n2 := by
  refine (dats m 0 c).arrAt_eq_of_covers 17 _ (by decide +kernel) fun t hf y => ?_
  blk_simp
  refine (congrFun (after17 H t) y).trans ?_
  blk_simp [arr, rows, idx t]
  rw [Nat.mul_comm]

end Cert.K7

end
-- ==== Proof.MixRef.lean ====
/- The reference's spatial gating and merge, stage by stage over the extended reals. -/
module

public import proofs.«01_k».proof.Proof.Gen.Reference7Ideal.Run
public import proofs.«01_k».proof.Proof.MixSpec
public import Idealize.ShloMosaic.Lib.Pipeline.ValueKit

@[expose] public section

set_option maxRecDepth 16384

noncomputable section

open Idealize.ShloMosaic Idealize.ShloMosaic.TcCoe

namespace Cert.K7.Ref

open Cert.Reference7Ideal Cert.Reference7Ideal.Gen Cert.Reference7Ideal.Value Cert.K7

/-- A constant at every entry. -/
abbrev const (w : BitVec 32) : FVec Ideal S4096x1024 .f32 := broadcastInDim S4096x1024 ![] bcast_S_S4096x1024 (constant S_ .f32 w)

/-- The smooth rectifier of every entry. -/
def Gelu (x : FVec Ideal S4096x1024 .f32) : FVec Ideal S4096x1024 .f32 :=
  mulf x (mulf (const 0x3F000000#32) (addf (const 0x3F800000#32)
    (Host.tanh (addf (mulf (const 0x3F4C422A#32) x) (mulf (const 0x3D122279#32) (mulf (mulf x x) x))))))

/-- Every row's mean. -/
def Mean (x : FVec Ideal S4096x1024 .f32) : FVec Ideal S4096x1 .f32 :=
  Host.divf (broadcastInDim S4096x1 ![0] bcast_S4096_S4096x1_0
    (Host.reduceAdd x (constant S_ .f32 0x00000000#32) reducesTo_S4096x1024_S4096_d1 h_S_))
    (broadcastInDim S4096x1 ![] bcast_S_S4096x1 (constant S_ .f32 0x44800000#32))

/-- Every row less its mean. -/
def Centre (x : FVec Ideal S4096x1024 .f32) : FVec Ideal S4096x1024 .f32 :=
  subf x (broadcastInDim S4096x1024 ![0, 1] bcast_S4096x1_S4096x1024_0_1 (Mean x))

/-- The rows times the reciprocal roots of their mean squares and a small constant. -/
def Scale (w : BitVec 32) (x : FVec Ideal S4096x1024 .f32) : FVec Ideal S4096x1024 .f32 :=
  mulf x (broadcastInDim S4096x1024 ![0, 1] bcast_S4096x1_S4096x1024_0_1
    (Host.rsqrt (addf (Mean (mulf x x)) (broadcastInDim S4096x1 ![] bcast_S_S4096x1 (constant S_ .f32 w)))))

/-- A row at every row. -/
abbrev Spread (g : FVec Ideal S1x1024 .f32) : FVec Ideal S4096x1024 .f32 :=
  broadcastInDim S4096x1024 ![0, 1] bcast_S1x1024_S4096x1024_0_1 g

/-- The layer norm of centred rows. -/
def Norm (x : FVec Ideal S4096x1024 .f32) (g b : FVec Ideal S1x1024 .f32) : FVec Ideal S4096x1024 .f32 :=
  addf (mulf (Scale 0x3727C5AC#32 x) (Spread g)) (Spread b)

/-- The lower triangle of each group's weights. -/
def Mask (w : FVec Ideal S4x128x128 .f32) : FVec Ideal S4x128x128 .f32 :=
  mulf w (broadcastInDim S4x128x128 ![0, 1, 2] bcast_S1x128x128_S4x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constant S_ .f32 0x3F800000#32))
      (broadcastInDim S128x128 ![] bcast_S_S128x128 (constant S_ .f32 0x00000000#32)))))

/-- Every chunk's tokens mixed within each group. -/
def Tokens (l : FVec Ideal S32x128x4x256 .f32) (w : FVec Ideal S4x128x128 .f32) (b : FVec Ideal S4x128 .f32) : FVec Ideal S32x128x4x256 .f32 :=
  addf (transpose S32x128x4x256 [1, 3, 0, 2] (Host.dotGeneral dot_S32x128x4x256_S4x128x128_S4x32x256x128_1_2_03_1_2_0 none l w)
    transposes_S4x32x256x128_S32x128x4x256_1_3_0_2)
    (broadcastInDim S32x128x4x256 ![0, 1, 2, 3] bcast_S1x128x4x1_S32x128x4x256_0_1_2_3 (broadcastInDim S1x128x4x1 ![1, 2, 3] bcast_S128x4x1_S1x128x4x1_1_2_3
      (broadcastInDim S128x4x1 ![0, 1] bcast_S128x4_S128x4x1_0_1 (transpose S128x4 [1, 0] b transposes_S4x128_S128x4_1_0))))

/-- A product with a square array of weights. -/
def Dot (x : FVec Ideal S4096x1024 .f32) (w : FVec Ideal S1024x1024 .bf16) : FVec Ideal S4096x1024 .f32 :=
  Host.dotGeneral dot_S4096x1024_S1024x1024_S4096x1024_1_0_0_1_n_n none x (extf .f32 w bitsLt_bf16_f32)

/-- The logistic gate of every entry. -/
def Gate (x : FVec Ideal S4096x1024 .f32) : FVec Ideal S4096x1024 .f32 :=
  Host.divf (const 0x3F800000#32) (addf (const 0x3F800000#32) (Host.exp (Host.negf x)))

variable (f : ℕ → ℕ → EReal) (I : In)

theorem gelu_arr : Gelu (arr (a := 4096) (b := 1024) f) = arr (a := 4096) (b := 1024) (fun p q => gelu (f p q)) := by
  funext y
  obtain ⟨p, q, rfl⟩ : ∃ (p : Fin 4096) (q : Fin 1024), y = ix2 p q := ⟨y 0, y 1, eq_ix2 y⟩
  pointwise [Gelu, arr]
  rfl

theorem mean_arr : Mean (arr (a := 4096) (b := 1024) f)
    = arr (a := 4096) (b := 1) (fun p _ => Ideal.div (∑ k : Fin 1024, f p k) (Ideal.ofBits .f32 0x44800000#32)) := by
  funext y
  obtain ⟨p, q, rfl⟩ : ∃ (p : Fin 4096) (q : Fin 1), y = ix2 p q := ⟨y 0, y 1, eq_ix2 y⟩
  pointwise [Mean, arr]

theorem centre_arr : Centre (arr (a := 4096) (b := 1024) f)
    = arr (a := 4096) (b := 1024) (fun p q => f p q - Ideal.div (∑ k : Fin 1024, f p k) (Ideal.ofBits .f32 0x44800000#32)) := by
  unfold Centre
  rw [mean_arr]
  funext y
  obtain ⟨p, q, rfl⟩ : ∃ (p : Fin 4096) (q : Fin 1024), y = ix2 p q := ⟨y 0, y 1, eq_ix2 y⟩
  pointwise [arr]

theorem scale_arr (w : BitVec 32) : Scale w (arr (a := 4096) (b := 1024) f)
    = arr (a := 4096) (b := 1024) (fun p q => f p q
      * Ideal.rsqrt (Ideal.div (∑ k : Fin 1024, f p k * f p k) (Ideal.ofBits .f32 0x44800000#32) + Ideal.ofBits .f32 w)) := by
  funext y
  obtain ⟨p, q, rfl⟩ : ∃ (p : Fin 4096) (q : Fin 1024), y = ix2 p q := ⟨y 0, y 1, eq_ix2 y⟩
  pointwise [Scale, Mean, arr]

theorem mask_arr : Mask (stack (n := 4) (a := 128) (b := 128) I.ws) = stack (n := 4) (a := 128) (b := 128) I.wm := by
  funext y
  obtain ⟨g, p, q, rfl⟩ : ∃ (g : Fin 4) (p q : Fin 128), y = ix3 g p q := ⟨y 0, y 1, y 2, eq_ix3 y⟩
  pointwise [Mask, stack]
  rw [show IntOp.addi (BitVec.ofNat 32 p.val) 0#32 = BitVec.ofNat 32 p.val from BitVec.add_zero _, select_at]
  rfl

theorem dot_arr (w : ℕ → ℕ → EReal) : Dot (arr (a := 4096) (b := 1024) f) (arr (a := 1024) (b := 1024) w)
    = arr (a := 4096) (b := 1024) (fun p q => ∑ k : Fin 1024, f p k * w k q) := by
  funext y
  obtain ⟨p, q, rfl⟩ : ∃ (p : Fin 4096) (q : Fin 1024), y = ix2 p q := ⟨y 0, y 1, eq_ix2 y⟩
  pointwise [Dot, arr]

theorem gate_arr : Gate (arr (a := 4096) (b := 1024) f) = arr (a := 4096) (b := 1024) (fun p q => gate (f p q)) := by
  funext y
  obtain ⟨p, q, rfl⟩ : ∃ (p : Fin 4096) (q : Fin 1024), y = ix2 p q := ⟨y 0, y 1, eq_ix2 y⟩
  pointwise [Gate, arr]
  rfl

/-- The mixed tokens, chunk by chunk. -/
theorem tokens_arr : shapeCast S4096x1024 (Tokens (shapeCast S32x128x4x256 (arr (a := 4096) (b := 1024) I.ln) shapeCasts_S4096x1024_S32x128x4x256)
    (stack (n := 4) (a := 128) (b := 128) I.wm) (arr (a := 4) (b := 128) I.bs)) shapeCasts_S32x128x4x256_S4096x1024 = arr (a := 4096) (b := 1024) I.sp := by
  funext y
  obtain ⟨p, q, rfl⟩ : ∃ (p : Fin 4096) (q : Fin 1024), y = ix2 p q := ⟨y 0, y 1, eq_ix2 y⟩
  pointwise [Tokens, arr, stack]
  simp only [mul_comm (I.ln _ _), Nat.mul_comm (p.val / 128)]
  rfl

/-- The arguments, entry by entry. -/
structure Args (m : (ℓ : Loc nD τ sig) → Buf (Elt Ideal) ℓ) (c : Dev nD) (I : In) : Prop where
  h0 : m ((c.tc : Thread nD τ).loc main_arg0) = arr (a := 4096) (b := 1024) I.ya
  h1 : m ((c.tc : Thread nD τ).loc main_arg1) = arr (a := 4096) (b := 6144) I.z
  h2 : m ((c.tc : Thread nD τ).loc main_arg2) = arr (a := 4096) (b := 1024) I.x
  h3 : m ((c.tc : Thread nD τ).loc main_arg3) = row (b := 1024) I.lg
  h4 : m ((c.tc : Thread nD τ).loc main_arg4) = row (b := 1024) I.lb
  h5 : m ((c.tc : Thread nD τ).loc main_arg5) = stack (n := 4) (a := 128) (b := 128) I.ws
  h6 : m ((c.tc : Thread nD τ).loc main_arg6) = arr (a := 4) (b := 128) I.bs
  h7 : m ((c.tc : Thread nD τ).loc main_arg7) = arr (a := 1024) (b := 1024) I.oa
  h8 : m ((c.tc : Thread nD τ).loc main_arg8) = arr (a := 1024) (b := 1024) I.ob
  h9 : m ((c.tc : Thread nD τ).loc main_arg9) = arr (a := 1024) (b := 1024) I.ow
  h10 : m ((c.tc : Thread nD τ).loc main_arg10) = row (b := 1024) I.g2

/-- A column run of the wide projection. -/
def Run (o : Fin 2 → ℕ) (h : S4096x6144.Slices o S4096x1024) (z : FVec Ideal S4096x6144 .bf16) : FVec Ideal S4096x1024 .f32 :=
  extractStridedSlice S4096x1024 o (extf .f32 z bitsLt_bf16_f32) h

/-- The gated half, from the arguments. -/
def Half (z : FVec Ideal S4096x6144 .bf16) (g b : FVec Ideal S1x1024 .f32) (w : FVec Ideal S4x128x128 .f32) (s : FVec Ideal S4x128 .f32) :
    FVec Ideal S4096x1024 .f32 :=
  mulf (Gelu (Run ![0, 2048] slices_S4096x6144_S4096x1024_0_2048 z)) (shapeCast S4096x1024
    (Tokens (shapeCast S32x128x4x256 (Norm (Centre (Gelu (Run ![0, 3072] slices_S4096x6144_S4096x1024_0_3072 z))) g b)
      shapeCasts_S4096x1024_S32x128x4x256) (Mask w) s) shapeCasts_S32x128x4x256_S4096x1024)

/-- The residual stream, from the two projections. -/
def Stream (z : FVec Ideal S4096x6144 .bf16) (a b x : FVec Ideal S4096x1024 .f32) (w : FVec Ideal S1024x1024 .bf16) : FVec Ideal S4096x1024 .f32 :=
  addf x (Dot (addf (mulf (Gate (Run ![0, 4096] slices_S4096x6144_S4096x1024_0_4096 z)) a)
    (mulf (Gate (Run ![0, 5120] slices_S4096x6144_S4096x1024_0_5120 z)) b)) w)

theorem half_arr : Half (arr (a := 4096) (b := 6144) I.z) (row (b := 1024) I.lg) (row (b := 1024) I.lb) (stack (n := 4) (a := 128) (b := 128) I.ws)
    (arr (a := 4) (b := 128) I.bs) = arr (a := 4096) (b := 1024) I.yb := by
  have eu : Run ![0, 2048] slices_S4096x6144_S4096x1024_0_2048 (arr (a := 4096) (b := 6144) I.z) = arr (a := 4096) (b := 1024) I.zu := by
    funext y
    obtain ⟨p, q, rfl⟩ : ∃ (p : Fin 4096) (q : Fin 1024), y = ix2 p q := ⟨y 0, y 1, eq_ix2 y⟩
    pointwise [Run, arr]
    rfl
  have ev : Run ![0, 3072] slices_S4096x6144_S4096x1024_0_3072 (arr (a := 4096) (b := 6144) I.z) = arr (a := 4096) (b := 1024) I.zv := by
    funext y
    obtain ⟨p, q, rfl⟩ : ∃ (p : Fin 4096) (q : Fin 1024), y = ix2 p q := ⟨y 0, y 1, eq_ix2 y⟩
    pointwise [Run, arr]
    rfl
  have en : Norm (arr (a := 4096) (b := 1024) I.vc) (row (b := 1024) I.lg) (row (b := 1024) I.lb) = arr (a := 4096) (b := 1024) I.ln := by
    unfold Norm
    rw [scale_arr]
    funext y
    obtain ⟨p, q, rfl⟩ : ∃ (p : Fin 4096) (q : Fin 1024), y = ix2 p q := ⟨y 0, y 1, eq_ix2 y⟩
    pointwise [arr, row]
    rfl
  unfold Half
  rw [eu, ev, gelu_arr, gelu_arr, centre_arr]
  refine Eq.trans (congrArg (fun l => mulf (arr (a := 4096) (b := 1024) I.u) (shapeCast S4096x1024
    (Tokens (shapeCast S32x128x4x256 l shapeCasts_S4096x1024_S32x128x4x256) (Mask (stack (n := 4) (a := 128) (b := 128) I.ws))
      (arr (a := 4) (b := 128) I.bs)) shapeCasts_S32x128x4x256_S4096x1024)) en) ?_
  beta_reduce
  rw [mask_arr, tokens_arr]
  rfl

theorem stream_arr : Stream (arr (a := 4096) (b := 6144) I.z) (arr (a := 4096) (b := 1024) I.pa) (arr (a := 4096) (b := 1024) I.pb)
    (arr (a := 4096) (b := 1024) I.x) (arr (a := 1024) (b := 1024) I.ow) = arr (a := 4096) (b := 1024) I.h1 := by
  have ea : Run ![0, 4096] slices_S4096x6144_S4096x1024_0_4096 (arr (a := 4096) (b := 6144) I.z) = arr (a := 4096) (b := 1024) I.za := by
    funext y
    obtain ⟨p, q, rfl⟩ : ∃ (p : Fin 4096) (q : Fin 1024), y = ix2 p q := ⟨y 0, y 1, eq_ix2 y⟩
    pointwise [Run, arr]
    rfl
  have eb : Run ![0, 5120] slices_S4096x6144_S4096x1024_0_5120 (arr (a := 4096) (b := 6144) I.z) = arr (a := 4096) (b := 1024) I.zb := by
    funext y
    obtain ⟨p, q, rfl⟩ : ∃ (p : Fin 4096) (q : Fin 1024), y = ix2 p q := ⟨y 0, y 1, eq_ix2 y⟩
    pointwise [Run, arr]
    rfl
  unfold Stream
  rw [ea, eb, gate_arr, gate_arr]
  exact congrArg (addf (arr (a := 4096) (b := 1024) I.x)) (dot_arr I.mg I.ow)

variable {m : (ℓ : Loc nD τ sig) → Buf (Elt Ideal) ℓ} {c : Dev nD} {I : In}

/-- The five results. -/
theorem yb (H : Args m c I) : res_main_v91 m c = arr (a := 4096) (b := 1024) I.yb := by
  show Half (m ((c.tc : Thread nD τ).loc main_arg1)) (m ((c.tc : Thread nD τ).loc main_arg3)) (m ((c.tc : Thread nD τ).loc main_arg4))
    (m ((c.tc : Thread nD τ).loc main_arg5)) (m ((c.tc : Thread nD τ).loc main_arg6)) = _
  rw [H.h1, H.h3, H.h4, H.h5, H.h6]
  exact half_arr I

theorem pa (H : Args m c I) : Dot (m ((c.tc : Thread nD τ).loc main_arg0)) (m ((c.tc : Thread nD τ).loc main_arg7)) = arr (a := 4096) (b := 1024) I.pa := by
  rw [H.h0, H.h7]
  exact dot_arr _ _

theorem pb (H : Args m c I) : res_main_v71 m c = arr (a := 4096) (b := 1024) I.pb := by
  show Dot (res_main_v91 m c) (m ((c.tc : Thread nD τ).loc main_arg8)) = _
  rw [yb H, H.h8]
  exact dot_arr _ _

theorem h1 (H : Args m c I) : res_main_v90 m c = arr (a := 4096) (b := 1024) I.h1 := by
  show Stream (m ((c.tc : Thread nD τ).loc main_arg1)) (Dot (m ((c.tc : Thread nD τ).loc main_arg0)) (m ((c.tc : Thread nD τ).loc main_arg7)))
    (res_main_v71 m c) (m ((c.tc : Thread nD τ).loc main_arg2)) (m ((c.tc : Thread nD τ).loc main_arg9)) = _
  rw [pa H, pb H, H.h1, H.h2, H.h9]
  exact stream_arr I

theorem n2 (H : Args m c I) : res_main_v104 m c = arr (a := 4096) (b := 1024) I.n2 := by
  show mulf (Scale 0x358637BD#32 (res_main_v90 m c)) (Spread (m ((c.tc : Thread nD τ).loc main_arg10))) = _
  rw [h1 H, H.h10, scale_arr]
  funext y
  obtain ⟨p, q, rfl⟩ : ∃ (p : Fin 4096) (q : Fin 1024), y = ix2 p q := ⟨y 0, y 1, eq_ix2 y⟩
  pointwise [arr, row]
  rfl

end Cert.K7.Ref

end
-- ==== Proof.Mix.lean ====
/- The spatial gating and the merge: the kernel's five results are the reference's. -/
module

public import proofs.«01_k».proof.Defs
public import proofs.«01_k».proof.Proof.MixKernel
public import proofs.«01_k».proof.Proof.MixRef
public import proofs.«01_k».proof.Proof.Gen.Kernel7Ideal.Frame
public import proofs.«01_k».proof.Proof.Gen.Kernel7Ideal.Value
public import proofs.«01_k».proof.Proof.Gen.Reference7Ideal.Run

@[expose] public section

set_option maxRecDepth 16384

noncomputable section

open Idealize.ShloMosaic Idealize.ShloMosaic.TcCoe Idealize.SL.Sem

namespace Cert.K7

open Cert.Kernel7Ideal Cert.Kernel7Ideal.Gen

/-- An array of one row is its row. -/
theorem exists_row {b : ℕ} (x : (⟨2, ![1, b]⟩ : Shape).Idx → EReal) : ∃ f, x = row f := by
  obtain ⟨f, h⟩ := exists_arr x
  refine ⟨f 0, h.trans (funext fun i => ?_)⟩
  show f (i 0).val (i 1).val = f 0 (i 1).val
  rw [Nat.lt_one_iff.mp (i 0).isLt]

/-- Every argument, entry by entry. -/
theorem exists_args (m : (ℓ : Loc nD τ sig) → Buf (Elt Ideal) ℓ) (c : Dev nD) : ∃ I, Args m c I := by
  obtain ⟨ya, h0⟩ := exists_arr (a := 4096) (b := 1024) (m ((c : Thread nD τ).loc main_arg0))
  obtain ⟨z, h1⟩ := exists_arr (a := 4096) (b := 6144) (m ((c : Thread nD τ).loc main_arg1))
  obtain ⟨x, h2⟩ := exists_arr (a := 4096) (b := 1024) (m ((c : Thread nD τ).loc main_arg2))
  obtain ⟨lg, h3⟩ := exists_row (b := 1024) (m ((c : Thread nD τ).loc main_arg3))
  obtain ⟨lb, h4⟩ := exists_row (b := 1024) (m ((c : Thread nD τ).loc main_arg4))
  obtain ⟨ws, h5⟩ := exists_stack (n := 4) (a := 128) (b := 128) (m ((c : Thread nD τ).loc main_arg5))
  obtain ⟨bs, h6⟩ := exists_arr (a := 4) (b := 128) (m ((c : Thread nD τ).loc main_arg6))
  obtain ⟨oa, h7⟩ := exists_arr (a := 1024) (b := 1024) (m ((c : Thread nD τ).loc main_arg7))
  obtain ⟨ob, h8⟩ := exists_arr (a := 1024) (b := 1024) (m ((c : Thread nD τ).loc main_arg8))
  obtain ⟨ow, h9⟩ := exists_arr (a := 1024) (b := 1024) (m ((c : Thread nD τ).loc main_arg9))
  obtain ⟨g2, h10⟩ := exists_row (b := 1024) (m ((c : Thread nD τ).loc main_arg10))
  exact ⟨⟨ya, z, x, lg, lb, ws, bs, oa, ob, ow, g2⟩, h0, h1, h2, h3, h4, h5, h6, h7, h8, h9, h10⟩

/-- The kernel and the reference end with the same five results. -/
theorem algebraic : Cert.algebraic_Kernel7Ideal_Reference7Ideal (hKernel7Ideal := facts) (hReference7Ideal := Cert.Reference7Ideal.Gen.facts) := by
  intro m g m' g' hpre hargs
  choose I H using exists_args m
  refine ⟨fun c => arr (I c).yb, fun c => arr (I c).pa, fun c => arr (I c).pb, fun c => arr (I c).h1, fun c => arr (I c).n2, ?_, ?_⟩
  · exact (θ_run _ _ _).mono (fun r h c => ⟨(h c).1.trans (final13 (H c)), (h c).2.1.trans (final14 (H c)), (h c).2.2.1.trans (final15 (H c)),
      (h c).2.2.2.1.trans (final16 (H c)), (h c).2.2.2.2.1.trans (final17 (H c)), (h c).2.2.2.2.2⟩) (Cert.Kernel7Ideal.Value.run_blocks m g)
  · refine (θ_run _ _ _).mono (fun r h c => ?_) (Cert.Reference7Ideal.Value.run m' g')
    obtain ⟨a0, a1, a2, a3, a4, a5, a6, a7, a8, a9, a10⟩ := hargs c
    have R : Ref.Args m' c (I c) := ⟨a0.trans (H c).h0, a1.trans (H c).h1, a2.trans (H c).h2, a3.trans (H c).h3, a4.trans (H c).h4,
      a5.trans (H c).h5, a6.trans (H c).h6, a7.trans (H c).h7, a8.trans (H c).h8, a9.trans (H c).h9, a10.trans (H c).h10⟩
    exact ⟨(h c).1.trans (Ref.yb R), (h c).2.1.trans (Ref.pa R), (h c).2.2.1.trans (Ref.pb R), (h c).2.2.2.1.trans (Ref.h1 R),
      (h c).2.2.2.2.1.trans (Ref.n2 R), (h c).2.2.2.2.2⟩

/-- The reference's run leaves its arguments as they were; it has no semaphore. -/
theorem frame_reference : Cert.quiescent_Reference7Ideal (hReference7Ideal := Cert.Reference7Ideal.Gen.facts) := by
  intro m ρ _
  exact (θ_run _ _ _).mono (fun r h => ⟨fun c => (h c).2.2.2.2.2, Idealize.ShloMosaic.sem_eq_zero_of_no_sems (by decide) r.2⟩)
    (Cert.Reference7Ideal.Value.run m ρ)

end Cert.K7

end
-- ==== Proof.Adam.lean ====
/- The optimiser's update of one weight, entry by entry over the extended reals. -/
module

public import Idealize.ShloMosaic.Lib.Pipeline.ValueKit

@[expose] public section

noncomputable section

namespace Cert.Adam

open Idealize.ShloMosaic

/-- The first moment's new entry from the gradient's and its own. -/
def first (g m : EReal) : EReal := Ideal.ofBits .f32 0x3F666666#32 * m + Ideal.ofBits .f32 0x3DCCCCCD#32 * g

/-- The second moment's new entry from the gradient's and its own. -/
def second (g v : EReal) : EReal := Ideal.ofBits .f32 0x3F7FBE77#32 * v + Ideal.ofBits .f32 0x3A83126F#32 * (g * g)

/-- The weight's change: the corrected first moment over the root of the corrected second, with the weight's own decay. -/
def change (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

/-- The three over whole arrays. -/
def firsts {ι : Type} (g m : ι → EReal) : ι → EReal := fun i => first (g i) (m i)
def seconds {ι : Type} (g v : ι → EReal) : ι → EReal := fun i => second (g i) (v i)
def changes {ι : Type} (w g m v : ι → EReal) : ι → EReal := fun i => change (w i) (g i) (m i) (v i)

section
variable {s t : Shape} (hb : (⟨0, ![]⟩ : Shape).BroadcastsInDim s ![]) (h : s.ShapeCasts t)

/-- A constant spread over an array, as the reference spells it. -/
abbrev spread (b : BitVec 32) : FVec Ideal s .f32 := broadcastInDim s ![] hb (constant (F := Ideal) ⟨0, ![]⟩ .f32 b)

theorem spread_apply (b : BitVec 32) (i : s.Idx) : spread hb b i = Ideal.ofBits .f32 b := rfl

/-- The reference's three results, taken to other axes, are the updates of the arguments taken there. -/
theorem reference_firsts (g m : FVec Ideal s .f32) :
    shapeCast t (addf (mulf (spread hb 0x3F666666#32) m) (mulf (spread hb 0x3DCCCCCD#32) g)) h = firsts (shapeCast t g h) (shapeCast t m h) := rfl

theorem reference_seconds (g v : FVec Ideal s .f32) :
    shapeCast t (addf (mulf (spread hb 0x3F7FBE77#32) v) (mulf (spread hb 0x3A83126F#32) (mulf g g))) h
      = seconds (shapeCast t g h) (shapeCast t v h) := rfl

theorem reference_changes (w g m v : FVec Ideal s .f32) :
    shapeCast t (mulf (spread hb 0xBA83126F#32) (addf (Host.divf
      (Host.divf (addf (mulf (spread hb 0x3F666666#32) m) (mulf (spread hb 0x3DCCCCCD#32) g)) (spread hb 0x3F26BD02#32))
      (addf (Host.sqrt (Host.divf (addf (mulf (spread hb 0x3F7FBE77#32) v) (mulf (spread hb 0x3A83126F#32) (mulf g g))) (spread hb 0x3C231ACC#32)))
        (spread hb 0x322BCC77#32))) (mulf (spread hb 0x3C23D70A#32) w))) h
      = changes (shapeCast t w h) (shapeCast t g h) (shapeCast t m h) (shapeCast t v h) := rfl

end

end Cert.Adam

end
-- ==== Proof.AdamMlp.lean ====
/- The optimiser's update of the two feed-forward weights, over four runs of rows: the kernel's results are the reference's. -/
module

public import proofs.«01_k».proof.Defs
public import proofs.«01_k».proof.Proof.Adam
public import proofs.«01_k».proof.Proof.Gen.Kernel8Ideal.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K8

open Cert.Kernel8Ideal Cert.Kernel8Ideal.Gen Cert.Adam

/-- The body's values from a run's blocks. -/
theorem pay2 (g m : Vec Ideal S256x1024 .f32) : k0_pay2 (F := Ideal) g m = firsts g m := by
  funext y
  obtain ⟨p, q, rfl⟩ : ∃ (p : Fin 256) (q : Fin 1024), y = ix2 p q := ⟨y 0, y 1, eq_ix2 y⟩
  pointwise [k0_pay2, k0_pay1]
  rfl

theorem pay3 (g v : Vec Ideal S256x1024 .f32) : k0_pay3 (F := Ideal) g v = seconds g v := by
  funext y
  obtain ⟨p, q, rfl⟩ : ∃ (p : Fin 256) (q : Fin 1024), y = ix2 p q := ⟨y 0, y 1, eq_ix2 y⟩
  pointwise [k0_pay3, k0_pay1]
  rfl

theorem pay4 (g w m v : Vec Ideal S256x1024 .f32) : k0_pay4 (F := Ideal) g w m v = changes w g m v := by
  unfold k0_pay4
  rw [pay2, pay3]
  funext y
  obtain ⟨p, q, rfl⟩ : ∃ (p : Fin 256) (q : Fin 1024), y = ix2 p q := ⟨y 0, y 1, eq_ix2 y⟩
  pointwise [firsts, seconds]
  rfl

/-- The second weight's are the same functions. -/
theorem pay6 (g m : Vec Ideal S256x1024 .f32) : k0_pay6 (F := Ideal) g m = firsts g m := pay2 g m
theorem pay7 (g v : Vec Ideal S256x1024 .f32) : k0_pay7 (F := Ideal) g v = seconds g v := pay3 g v
theorem pay8 (g w m v : Vec Ideal S256x1024 .f32) : k0_pay8 (F := Ideal) g w m v = changes w g m v := pay4 g w m v

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] :=
  (by decide +kernel : ∀ t : Fin grid0.N, _)

variable (m : (ℓ : Loc nD τ sig) → Buf (Elt Ideal) ℓ) (c : Dev nD)

/-- Run `t` of an array's rows. -/
def run (t : Fin cfg0.N) (A : S1024x1024.Idx → EReal) : S256x1024.Idx → EReal :=
  fun y => A (ix2 ⟨256 * t.val + (y 0).val, by have := lt_of_lt_of_eq t.isLt N_0; have : (y 0).val < 256 := (y 0).isLt; omega⟩ ⟨(y 1).val, by have : (y 1).val < 1024 := (y 1).isLt; exact this⟩)

/-- The blocks read are runs of the arrays. -/
theorem blk (t : Fin cfg0.N) : iblk m c 0 t = run t (V m c main_v2) ∧ iblk m c 1 t = run t (V m c main_v3)
    ∧ iblk m c 2 t = run t (V m c main_v0) ∧ iblk m c 3 t = run t (V m c main_v1) ∧ iblk m c 4 t = run t (V m c main_v4)
    ∧ iblk m c 5 t = run t (V m c main_v5) ∧ iblk m c 6 t = run t (V m c main_v6) ∧ iblk m c 7 t = run t (V m c main_v7) := by
  refine ⟨?_, ?_, ?_, ?_, ?_, ?_, ?_, ?_⟩
  all_goals
    funext y
    obtain ⟨a, b, rfl⟩ : ∃ (a : Fin 256) (b : Fin 1024), y = ix2 a b := ⟨y 0, y 1, eq_ix2 y⟩
    unfold run
    blk_ext [iblk, idx t]

/-- What a run of rows leaves in the six results' blocks. -/
theorem left (t : Fin cfg0.N) :
    ((dats m 0 c).after 9 t : S256x1024.Idx → EReal) = run t (changes (V m c main_v0) (V m c main_v2) (V m c main_v4) (V m c main_v6))
    ∧ ((dats m 0 c).after 10 t : S256x1024.Idx → EReal) = run t (firsts (V m c main_v2) (V m c main_v4))
    ∧ ((dats m 0 c).after 11 t : S256x1024.Idx → EReal) = run t (seconds (V m c main_v2) (V m c main_v6))
    ∧ ((dats m 0 c).after 13 t : S256x1024.Idx → EReal) = run t (changes (V m c main_v1) (V m c main_v3) (V m c main_v5) (V m c main_v7))
    ∧ ((dats m 0 c).after 14 t : S256x1024.Idx → EReal) = run t (firsts (V m c main_v3) (V m c main_v5))
    ∧ ((dats m 0 c).after 15 t : S256x1024.Idx → EReal) = run t (seconds (V m c main_v3) (V m c main_v7)) := by
  refine ⟨?_, ?_, ?_, ?_, ?_, ?_⟩
  · rw [after0_9]; unfold out0_9; frame_out; simp only [blk m c t, pay4]; rfl
  · rw [after0_10]; unfold out0_10; frame_out; simp only [blk m c t, pay2]; rfl
  · rw [after0_11]; unfold out0_11; frame_out; simp only [blk m c t, pay3]; rfl
  · rw [after0_13]; unfold out0_13; frame_out; simp only [blk m c t, pay8]; rfl
  · rw [after0_14]; unfold out0_14; frame_out; simp only [blk m c t, pay6]; rfl
  · rw [after0_15]; unfold out0_15; frame_out; simp only [blk m c t, pay7]; rfl

/-- A result's block lies at its run of rows. -/
theorem lies (t : Fin cfg0.N) (y : S256x1024.Idx) (A : S1024x1024.Idx → EReal) : run t A y = A ((win0_9.blk t).view.emb y) := by
  symm
  obtain ⟨a, b, rfl⟩ : ∃ (a : Fin 256) (b : Fin 1024), y = ix2 a b := ⟨y 0, y 1, eq_ix2 y⟩
  unfold run
  blk_ext [idx t]

set_option maxHeartbeats 1000000 in
/-- The six results at the end. -/
theorem finals :
    (dats m 0 c).arrAt 9 (cfgs 0).N = changes (V m c main_v0) (V m c main_v2) (V m c main_v4) (V m c main_v6)
    ∧ (dats m 0 c).arrAt 10 (cfgs 0).N = firsts (V m c main_v2) (V m c main_v4)
    ∧ (dats m 0 c).arrAt 11 (cfgs 0).N = seconds (V m c main_v2) (V m c main_v6)
    ∧ (dats m 0 c).arrAt 13 (cfgs 0).N = changes (V m c main_v1) (V m c main_v3) (V m c main_v5) (V m c main_v7)
    ∧ (dats m 0 c).arrAt 14 (cfgs 0).N = firsts (V m c main_v3) (V m c main_v5)
    ∧ (dats m 0 c).arrAt 15 (cfgs 0).N = seconds (V m c main_v3) (V m c main_v7) := by
  refine ⟨?_, ?_, ?_, ?_, ?_, ?_⟩
  · exact (dats m 0 c).arrAt_eq_of_covers 9 _ (by decide +kernel) fun t hf y => by blk_simp; exact (congrFun (left m c t).1 y).trans (lies t y _)
  · exact (dats m 0 c).arrAt_eq_of_covers 10 _ (by decide +kernel) fun t hf y => by blk_simp; exact (congrFun (left m c t).2.1 y).trans (lies t y _)
  · exact (dats m 0 c).arrAt_eq_of_covers 11 _ (by decide +kernel) fun t hf y => by blk_simp; exact (congrFun (left m c t).2.2.1 y).trans (lies t y _)
  · exact (dats m 0 c).arrAt_eq_of_covers 13 _ (by decide +kernel) fun t hf y => by blk_simp; exact (congrFun (left m c t).2.2.2.1 y).trans (lies t y _)
  · exact (dats m 0 c).arrAt_eq_of_covers 14 _ (by decide +kernel) fun t hf y => by blk_simp; exact (congrFun (left m c t).2.2.2.2.1 y).trans (lies t y _)
  · exact (dats m 0 c).arrAt_eq_of_covers 15 _ (by decide +kernel) fun t hf y => by blk_simp; exact (congrFun (left m c t).2.2.2.2.2 y).trans (lies t y _)

/-- An argument as the kernel takes it: two axes. -/
def flat (A : S1x1024x1024.Idx → EReal) : S1024x1024.Idx → EReal := shapeCast S1024x1024 A shapeCasts_S1x1024x1024_S1024x1024

theorem host : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3))
    ∧ V m c main_v4 = flat (m ((c : Thread nD τ).loc main_arg4)) ∧ V m c main_v5 = flat (m ((c : Thread nD τ).loc main_arg5))
    ∧ V m c main_v6 = flat (m ((c : Thread nD τ).loc main_arg6)) ∧ V m c main_v7 = flat (m ((c : Thread nD τ).loc main_arg7)) := by
  refine ⟨?_, ?_, ?_, ?_, ?_, ?_, ?_, ?_⟩
  all_goals
    unfold V
    after_results
    rfl

/-- The kernel and the reference end with the same six results. -/
theorem algebraic : Cert.algebraic_Kernel8Ideal_Reference8Ideal (hKernel8Ideal := facts) (hReference8Ideal := Cert.Reference8Ideal.Gen.facts) := by
  intro m g m' g' hpre hargs
  refine ⟨fun c => changes (V m c main_v0) (V m c main_v2) (V m c main_v4) (V m c main_v6), fun c => firsts (V m c main_v2) (V m c main_v4),
    fun c => seconds (V m c main_v2) (V m c main_v6), fun c => changes (V m c main_v1) (V m c main_v3) (V m c main_v5) (V m c main_v7),
    fun c => firsts (V m c main_v3) (V m c main_v5), fun c => seconds (V m c main_v3) (V m c main_v7), ?_, ?_⟩
  · refine (θ_run _ _ _).mono (fun r h c => ?_) (Cert.Kernel8Ideal.Value.run_blocks m g)
    obtain ⟨f9, f10, f11, f13, f14, f15⟩ := finals m c
    obtain ⟨-, h9, h10, h11, -, h13, h14, h15, k⟩ := h c
    exact ⟨h9.trans f9, h10.trans f10, h11.trans f11, h13.trans f13, h14.trans f14, h15.trans f15, k⟩
  · refine (θ_run _ _ _).mono (fun r h c => ?_) (Cert.Reference8Ideal.Value.run m' g')
    obtain ⟨a0, a1, a2, a3, a4, a5, a6, a7⟩ := hargs c
    obtain ⟨v0, v1, v2, v3, v4, v5, v6, v7⟩ := host m c
    obtain ⟨h9, h10, h11, h13, h14, h15, k⟩ := h c
    beta_reduce
    rw [v0, v1, v2, v3, v4, v5, v6, v7]
    refine ⟨h9.trans ?_, h10.trans ?_, h11.trans ?_, h13.trans ?_, h14.trans ?_, h15.trans ?_, k⟩
    all_goals
      simp only [a0, a1, a2, a3, a4, a5, a6, a7]
      first
      | exact reference_changes _ _ _ _ _ _
      | exact reference_firsts _ _ _ _
      | exact reference_seconds _ _ _ _

/-- The reference's run leaves its arguments as they were; it has no semaphore. -/
theorem frame_reference : Cert.quiescent_Reference8Ideal (hReference8Ideal := Cert.Reference8Ideal.Gen.facts) := by
  intro m ρ _
  exact (θ_run _ _ _).mono (fun r h => ⟨fun c => (h c).2.2.2.2.2.2, Idealize.ShloMosaic.sem_eq_zero_of_no_sems (by decide) r.2⟩)
    (Cert.Reference8Ideal.Value.run m ρ)

end Cert.K8

end
-- ==== Proof.AdamProjections.lean ====
/- The optimiser's update of the three square projections, over four runs of rows: the kernel's results are the reference's. -/
module

public import proofs.«01_k».proof.Defs
public import proofs.«01_k».proof.Proof.Adam
public import proofs.«01_k».proof.Proof.Gen.Kernel9Ideal.Frame
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K9

open Cert.Kernel9Ideal Cert.Kernel9Ideal.Gen Cert.Adam

/-- The body's values from a run's blocks. -/
theorem pay3 (g m : Vec Ideal S64x1024 .f32) : k0_pay3 (F := Ideal) g m = firsts g m := by
  funext y
  obtain ⟨p, q, rfl⟩ : ∃ (p : Fin 64) (q : Fin 1024), y = ix2 p q := ⟨y 0, y 1, eq_ix2 y⟩
  pointwise [k0_pay3, k0_pay2]
  rfl

theorem pay4 (g v : Vec Ideal S64x1024 .f32) : k0_pay4 (F := Ideal) g v = seconds g v := by
  funext y
  obtain ⟨p, q, rfl⟩ : ∃ (p : Fin 64) (q : Fin 1024), y = ix2 p q := ⟨y 0, y 1, eq_ix2 y⟩
  pointwise [k0_pay4, k0_pay2]
  rfl

theorem pay5 (g w m v : Vec Ideal S64x1024 .f32) : k0_pay5 (F := Ideal) g w m v = changes w g m v := by
  unfold k0_pay5
  rw [pay3, pay4]
  funext y
  obtain ⟨p, q, rfl⟩ : ∃ (p : Fin 64) (q : Fin 1024), y = ix2 p q := ⟨y 0, y 1, eq_ix2 y⟩
  pointwise [firsts, seconds]
  rfl

/-- The other weights' are the same functions. -/
theorem pay7 (g m : Vec Ideal S64x1024 .f32) : k0_pay7 (F := Ideal) g m = firsts g m := pay3 g m
theorem pay8 (g v : Vec Ideal S64x1024 .f32) : k0_pay8 (F := Ideal) g v = seconds g v := pay4 g v
theorem pay9 (g w m v : Vec Ideal S64x1024 .f32) : k0_pay9 (F := Ideal) g w m v = changes w g m v := pay5 g w m v
theorem pay11 (g m : Vec Ideal S64x1024 .f32) : k0_pay11 (F := Ideal) g m = firsts g m := pay3 g m
theorem pay12 (g v : Vec Ideal S64x1024 .f32) : k0_pay12 (F := Ideal) g v = seconds g v := pay4 g v
theorem pay1 (g w m v : Vec Ideal S64x1024 .f32) :
    k0_pay1 (k0_pay13 (F := Ideal) g m v) (k0_pay14 w) = changes w g m v := pay5 g w m v

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val, 0] ∧ win0_21.index t = ![t.val, 0] ∧ win0_22.index t = ![t.val, 0] ∧ win0_23.index t = ![t.val, 0] :=
  (by decide +kernel : ∀ t : Fin grid0.N, _)

variable (m : (ℓ : Loc nD τ sig) → Buf (Elt Ideal) ℓ) (c : Dev nD)

/-- Run `t` of an array's rows. -/
def run (t : Fin cfg0.N) (A : S256x1024.Idx → EReal) : S64x1024.Idx → EReal :=
  fun y => A (ix2 ⟨64 * t.val + (y 0).val, by have := lt_of_lt_of_eq t.isLt N_0; have : (y 0).val < 64 := (y 0).isLt; omega⟩ ⟨(y 1).val, by have : (y 1).val < 1024 := (y 1).isLt; exact this⟩)

set_option maxHeartbeats 2000000 in
/-- The blocks read are runs of the arrays. -/
theorem blk (t : Fin cfg0.N) : iblk m c 0 t = run t (V m c main_v3) ∧ iblk m c 1 t = run t (V m c main_v4)
    ∧ iblk m c 2 t = run t (V m c main_v5) ∧ iblk m c 3 t = run t (V m c main_v0)
    ∧ iblk m c 4 t = run t (V m c main_v1) ∧ iblk m c 5 t = run t (V m c main_v2)
    ∧ iblk m c 6 t = run t (V m c main_v6) ∧ iblk m c 7 t = run t (V m c main_v7)
    ∧ iblk m c 8 t = run t (V m c main_v8) ∧ iblk m c 9 t = run t (V m c main_v9)
    ∧ iblk m c 10 t = run t (V m c main_v10) ∧ iblk m c 11 t = run t (V m c main_v11) := by
  refine ⟨?_, ?_, ?_, ?_, ?_, ?_, ?_, ?_, ?_, ?_, ?_, ?_⟩
  all_goals
    funext y
    obtain ⟨a, b, rfl⟩ : ∃ (a : Fin 64) (b : Fin 1024), y = ix2 a b := ⟨y 0, y 1, eq_ix2 y⟩
    unfold run
    blk_ext [iblk, idx t]

set_option maxHeartbeats 2000000 in
/-- What a run of rows leaves in the nine results' blocks. -/
theorem left (t : Fin cfg0.N) :
    ((dats m 0 c).after 13 t : S64x1024.Idx → EReal) = run t (changes (V m c main_v0) (V m c main_v3) (V m c main_v6) (V m c main_v9))
    ∧ ((dats m 0 c).after 14 t : S64x1024.Idx → EReal) = run t (firsts (V m c main_v3) (V m c main_v6))
    ∧ ((dats m 0 c).after 15 t : S64x1024.Idx → EReal) = run t (seconds (V m c main_v3) (V m c main_v9))
    ∧ ((dats m 0 c).after 17 t : S64x1024.Idx → EReal) = run t (changes (V m c main_v1) (V m c main_v4) (V m c main_v7) (V m c main_v10))
    ∧ ((dats m 0 c).after 18 t : S64x1024.Idx → EReal) = run t (firsts (V m c main_v4) (V m c main_v7))
    ∧ ((dats m 0 c).after 19 t : S64x1024.Idx → EReal) = run t (seconds (V m c main_v4) (V m c main_v10))
    ∧ ((dats m 0 c).after 21 t : S64x1024.Idx → EReal) = run t (changes (V m c main_v2) (V m c main_v5) (V m c main_v8) (V m c main_v11))
    ∧ ((dats m 0 c).after 22 t : S64x1024.Idx → EReal) = run t (firsts (V m c main_v5) (V m c main_v8))
    ∧ ((dats m 0 c).after 23 t : S64x1024.Idx → EReal) = run t (seconds (V m c main_v5) (V m c main_v11)) := by
  refine ⟨?_, ?_, ?_, ?_, ?_, ?_, ?_, ?_, ?_⟩
  · rw [after0_13]; unfold out0_13; frame_out; simp only [blk m c t, pay5]; rfl
  · rw [after0_14]; unfold out0_14; frame_out; simp only [blk m c t, pay3]; rfl
  · rw [after0_15]; unfold out0_15; frame_out; simp only [blk m c t, pay4]; rfl
  · rw [after0_17]; unfold out0_17; frame_out; simp only [blk m c t, pay9]; rfl
  · rw [after0_18]; unfold out0_18; frame_out; simp only [blk m c t, pay7]; rfl
  · rw [after0_19]; unfold out0_19; frame_out; simp only [blk m c t, pay8]; rfl
  · rw [after0_21]; unfold out0_21; frame_out; simp only [blk m c t, pay1]; rfl
  · rw [after0_22]; unfold out0_22; frame_out; simp only [blk m c t, pay11]; rfl
  · rw [after0_23]; unfold out0_23; frame_out; simp only [blk m c t, pay12]; rfl

/-- A result's block lies at its run of rows. -/
theorem lies (t : Fin cfg0.N) (y : S64x1024.Idx) (A : S256x1024.Idx → EReal) : run t A y = A ((win0_13.blk t).view.emb y) := by
  symm
  obtain ⟨a, b, rfl⟩ : ∃ (a : Fin 64) (b : Fin 1024), y = ix2 a b := ⟨y 0, y 1, eq_ix2 y⟩
  unfold run
  blk_ext [idx t]

set_option maxHeartbeats 2000000 in
/-- The nine results at the end. -/
theorem finals :
    (dats m 0 c).arrAt 13 (cfgs 0).N = changes (V m c main_v0) (V m c main_v3) (V m c main_v6) (V m c main_v9)
    ∧ (dats m 0 c).arrAt 14 (cfgs 0).N = firsts (V m c main_v3) (V m c main_v6)
    ∧ (dats m 0 c).arrAt 15 (cfgs 0).N = seconds (V m c main_v3) (V m c main_v9)
    ∧ (dats m 0 c).arrAt 17 (cfgs 0).N = changes (V m c main_v1) (V m c main_v4) (V m c main_v7) (V m c main_v10)
    ∧ (dats m 0 c).arrAt 18 (cfgs 0).N = firsts (V m c main_v4) (V m c main_v7)
    ∧ (dats m 0 c).arrAt 19 (cfgs 0).N = seconds (V m c main_v4) (V m c main_v10)
    ∧ (dats m 0 c).arrAt 21 (cfgs 0).N = changes (V m c main_v2) (V m c main_v5) (V m c main_v8) (V m c main_v11)
    ∧ (dats m 0 c).arrAt 22 (cfgs 0).N = firsts (V m c main_v5) (V m c main_v8)
    ∧ (dats m 0 c).arrAt 23 (cfgs 0).N = seconds (V m c main_v5) (V m c main_v11) := by
  refine ⟨?_, ?_, ?_, ?_, ?_, ?_, ?_, ?_, ?_⟩
  · exact (dats m 0 c).arrAt_eq_of_covers 13 _ (by decide +kernel) fun t hf y => by blk_simp; exact (congrFun (left m c t).1 y).trans (lies t y _)
  · exact (dats m 0 c).arrAt_eq_of_covers 14 _ (by decide +kernel) fun t hf y => by blk_simp; exact (congrFun (left m c t).2.1 y).trans (lies t y _)
  · exact (dats m 0 c).arrAt_eq_of_covers 15 _ (by decide +kernel) fun t hf y => by blk_simp; exact (congrFun (left m c t).2.2.1 y).trans (lies t y _)
  · exact (dats m 0 c).arrAt_eq_of_covers 17 _ (by decide +kernel) fun t hf y => by blk_simp; exact (congrFun (left m c t).2.2.2.1 y).trans (lies t y _)
  · exact (dats m 0 c).arrAt_eq_of_covers 18 _ (by decide +kernel) fun t hf y => by blk_simp; exact (congrFun (left m c t).2.2.2.2.1 y).trans (lies t y _)
  · exact (dats m 0 c).arrAt_eq_of_covers 19 _ (by decide +kernel) fun t hf y => by blk_simp; exact (congrFun (left m c t).2.2.2.2.2.1 y).trans (lies t y _)
  · exact (dats m 0 c).arrAt_eq_of_covers 21 _ (by decide +kernel) fun t hf y => by blk_simp; exact (congrFun (left m c t).2.2.2.2.2.2.1 y).trans (lies t y _)
  · exact (dats m 0 c).arrAt_eq_of_covers 22 _ (by decide +kernel) fun t hf y => by blk_simp; exact (congrFun (left m c t).2.2.2.2.2.2.2.1 y).trans (lies t y _)
  · exact (dats m 0 c).arrAt_eq_of_covers 23 _ (by decide +kernel) fun t hf y => by blk_simp; exact (congrFun (left m c t).2.2.2.2.2.2.2.2 y).trans (lies t y _)

/-- An argument as the kernel takes it: two axes. -/
def flat (A : S1x256x1024.Idx → EReal) : S256x1024.Idx → EReal := shapeCast S256x1024 A shapeCasts_S1x256x1024_S256x1024

set_option maxHeartbeats 2000000 in
theorem host : V m c main_v0 = flat (m ((c : Thread nD τ).loc main_arg0)) ∧ V m c main_v1 = flat (m ((c : Thread nD τ).loc main_arg1))
    ∧ V m c main_v2 = flat (m ((c : Thread nD τ).loc main_arg2)) ∧ V m c main_v3 = flat (m ((c : Thread nD τ).loc main_arg3))
    ∧ V m c main_v4 = flat (m ((c : Thread nD τ).loc main_arg4)) ∧ V m c main_v5 = flat (m ((c : Thread nD τ).loc main_arg5))
    ∧ V m c main_v6 = flat (m ((c : Thread nD τ).loc main_arg6)) ∧ V m c main_v7 = flat (m ((c : Thread nD τ).loc main_arg7))
    ∧ V m c main_v8 = flat (m ((c : Thread nD τ).loc main_arg8)) ∧ V m c main_v9 = flat (m ((c : Thread nD τ).loc main_arg9))
    ∧ V m c main_v10 = flat (m ((c : Thread nD τ).loc main_arg10)) ∧ V m c main_v11 = flat (m ((c : Thread nD τ).loc main_arg11)) := by
  refine ⟨?_, ?_, ?_, ?_, ?_, ?_, ?_, ?_, ?_, ?_, ?_, ?_⟩
  all_goals
    unfold V
    after_results
    rfl

set_option maxHeartbeats 2000000 in
/-- The kernel and the reference end with the same nine results. -/
theorem algebraic : Cert.algebraic_Kernel9Ideal_Reference9Ideal (hKernel9Ideal := facts) (hReference9Ideal := Cert.Reference9Ideal.Gen.facts) := by
  intro m g m' g' hpre hargs
  refine ⟨fun c => changes (V m c main_v0) (V m c main_v3) (V m c main_v6) (V m c main_v9),
    fun c => firsts (V m c main_v3) (V m c main_v6),
    fun c => seconds (V m c main_v3) (V m c main_v9),
    fun c => changes (V m c main_v1) (V m c main_v4) (V m c main_v7) (V m c main_v10),
    fun c => firsts (V m c main_v4) (V m c main_v7),
    fun c => seconds (V m c main_v4) (V m c main_v10),
    fun c => changes (V m c main_v2) (V m c main_v5) (V m c main_v8) (V m c main_v11),
    fun c => firsts (V m c main_v5) (V m c main_v8),
    fun c => seconds (V m c main_v5) (V m c main_v11), ?_, ?_⟩
  · refine (θ_run _ _ _).mono (fun r h c => ?_) (Cert.Kernel9Ideal.Value.run_blocks m g)
    obtain ⟨f13, f14, f15, f17, f18, f19, f21, f22, f23⟩ := finals m c
    obtain ⟨-, h13, h14, h15, -, h17, h18, h19, -, h21, h22, h23, k⟩ := h c
    exact ⟨h13.trans f13, h14.trans f14, h15.trans f15, h17.trans f17, h18.trans f18, h19.trans f19, h21.trans f21, h22.trans f22, h23.trans f23, k⟩
  · refine (θ_run _ _ _).mono (fun r h c => ?_) (Cert.Reference9Ideal.Value.run m' g')
    obtain ⟨a0, a1, a2, a3, a4, a5, a6, a7, a8, a9, a10, a11⟩ := hargs c
    obtain ⟨v0, v1, v2, v3, v4, v5, v6, v7, v8, v9, v10, v11⟩ := host m c
    obtain ⟨h13, h14, h15, h17, h18, h19, h21, h22, h23, k⟩ := h c
    beta_reduce
    rw [v0, v1, v2, v3, v4, v5, v6, v7, v8, v9, v10, v11]
    refine ⟨h13.trans ?_, h14.trans ?_, h15.trans ?_, h17.trans ?_, h18.trans ?_, h19.trans ?_, h21.trans ?_, h22.trans ?_, h23.trans ?_, k⟩
    all_goals
      simp only [a0, a1, a2, a3, a4, a5, a6, a7, a8, a9, a10, a11]
      first
      | exact reference_changes _ _ _ _ _ _
      | exact reference_firsts _ _ _ _
      | exact reference_seconds _ _ _ _

/-- The reference's run leaves its arguments as they were; it has no semaphore. -/
theorem frame_reference : Cert.quiescent_Reference9Ideal (hReference9Ideal := Cert.Reference9Ideal.Gen.facts) := by
  intro m ρ _
  exact (θ_run _ _ _).mono (fun r h => ⟨fun c => (h c).2.2.2.2.2.2.2.2.2, Idealize.ShloMosaic.sem_eq_zero_of_no_sems (by decide) r.2⟩)
    (Cert.Reference9Ideal.Value.run m ρ)

end Cert.K9

end
-- ==== Proof.AdamFirst.lean ====
/- The optimiser's update of the input projection and of the two gates, over four runs of rows: the kernel's results are the reference's. -/
module

public import proofs.«01_k».proof.Defs
public import proofs.«01_k».proof.Proof.Adam
public import proofs.«01_k».proof.Proof.Gen.Kernel10Ideal.Frame
public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K10

open Cert.Kernel10Ideal Cert.Kernel10Ideal.Gen Cert.Adam

/-- The body's values from a run's blocks. -/
theorem pay3 (g m : Vec Ideal S256x1536 .f32) : k0_pay3 (F := Ideal) g m = firsts g m := by
  funext y
  obtain ⟨p, q, rfl⟩ : ∃ (p : Fin 256) (q : Fin 1536), y = ix2 p q := ⟨y 0, y 1, eq_ix2 y⟩
  pointwise [k0_pay3, k0_pay2]
  rfl

theorem pay4 (g v : Vec Ideal S256x1536 .f32) : k0_pay4 (F := Ideal) g v = seconds g v := by
  funext y
  obtain ⟨p, q, rfl⟩ : ∃ (p : Fin 256) (q : Fin 1536), y = ix2 p q := ⟨y 0, y 1, eq_ix2 y⟩
  pointwise [k0_pay4, k0_pay2]
  rfl

theorem pay5 (g w m v : Vec Ideal S256x1536 .f32) : k0_pay5 (F := Ideal) g w m v = changes w g m v := by
  unfold k0_pay5
  rw [pay3, pay4]
  funext y
  obtain ⟨p, q, rfl⟩ : ∃ (p : Fin 256) (q : Fin 1536), y = ix2 p q := ⟨y 0, y 1, eq_ix2 y⟩
  pointwise [firsts, seconds]
  rfl

/-- The same of the gates' blocks. -/
theorem pay7 (g m : Vec Ideal S64x256 .f32) : k0_pay7 (F := Ideal) g m = firsts g m := by
  funext y
  obtain ⟨p, q, rfl⟩ : ∃ (p : Fin 64) (q : Fin 256), y = ix2 p q := ⟨y 0, y 1, eq_ix2 y⟩
  pointwise [k0_pay7, k0_pay6]
  rfl

theorem pay8 (g v : Vec Ideal S64x256 .f32) : k0_pay8 (F := Ideal) g v = seconds g v := by
  funext y
  obtain ⟨p, q, rfl⟩ : ∃ (p : Fin 64) (q : Fin 256), y = ix2 p q := ⟨y 0, y 1, eq_ix2 y⟩
  pointwise [k0_pay8, k0_pay6]
  rfl

theorem pay9 (g w m v : Vec Ideal S64x256 .f32) : k0_pay9 (F := Ideal) g w m v = changes w g m v := by
  unfold k0_pay9
  rw [pay7, pay8]
  funext y
  obtain ⟨p, q, rfl⟩ : ∃ (p : Fin 64) (q : Fin 256), y = ix2 p q := ⟨y 0, y 1, eq_ix2 y⟩
  pointwise [firsts, seconds]
  rfl

/-- The third weight's are the second's. -/
theorem pay11 (g m : Vec Ideal S64x256 .f32) : k0_pay11 (F := Ideal) g m = firsts g m := pay7 g m
theorem pay12 (g v : Vec Ideal S64x256 .f32) : k0_pay12 (F := Ideal) g v = seconds g v := pay8 g v
theorem pay1 (g w m v : Vec Ideal S64x256 .f32) :
    k0_pay1 (k0_pay13 (F := Ideal) g m v) (k0_pay14 w) = changes w g m v := pay9 g w m v

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0]
    ∧ win0_20.index t = ![t.val, 0] ∧ win0_21.index t = ![t.val, 0] ∧ win0_22.index t = ![t.val, 0] ∧ win0_23.index t = ![t.val, 0] :=
  (by decide +kernel : ∀ t : Fin grid0.N, _)

variable (m : (ℓ : Loc nD τ sig) → Buf (Elt Ideal) ℓ) (c : Dev nD)

/-- Run `t` of an input projection's rows. -/
def run (t : Fin cfg0.N) (A : S1024x1536.Idx → EReal) : S256x1536.Idx → EReal :=
  fun y => A (ix2 ⟨256 * t.val + (y 0).val, by have := lt_of_lt_of_eq t.isLt N_0; have : (y 0).val < 256 := (y 0).isLt; omega⟩ ⟨(y 1).val, by have : (y 1).val < 1536 := (y 1).isLt; exact this⟩)

/-- Run `t` of a gate's rows. -/
def runGate (t : Fin cfg0.N) (A : S256x256.Idx → EReal) : S64x256.Idx → EReal :=
  fun y => A (ix2 ⟨64 * t.val + (y 0).val, by have := lt_of_lt_of_eq t.isLt N_0; have : (y 0).val < 64 := (y 0).isLt; omega⟩ ⟨(y 1).val, by have : (y 1).val < 256 := (y 1).isLt; exact this⟩)

set_option maxHeartbeats 2000000 in
/-- The blocks read are runs of the arrays. -/
theorem blk (t : Fin cfg0.N) : iblk m c 0 t = run t (V m c main_v3) ∧ iblk m c 1 t = runGate t (V m c main_v4)
    ∧ iblk m c 2 t = runGate t (V m c main_v5) ∧ iblk m c 3 t = run t (V m c main_v0)
    ∧ iblk m c 4 t = runGate t (V m c main_v1) ∧ iblk m c 5 t = runGate t (V m c main_v2)
    ∧ iblk m c 6 t = run t (V m c main_v6) ∧ iblk m c 7 t = runGate t (V m c main_v7)
    ∧ iblk m c 8 t = runGate t (V m c main_v8) ∧ iblk m c 9 t = run t (V m c main_v9)
    ∧ iblk m c 10 t = runGate t (V m c main_v10) ∧ iblk m c 11 t = runGate t (V m c main_v11) := by
  refine ⟨?_, ?_, ?_, ?_, ?_, ?_, ?_, ?_, ?_, ?_, ?_, ?_⟩
  · funext y; obtain ⟨a, b, rfl⟩ : ∃ (a : Fin 256) (b : Fin 1536), y = ix2 a b := ⟨y 0, y 1, eq_ix2 y⟩; unfold run; blk_ext [iblk, idx t]
  · funext y; obtain ⟨a, b, rfl⟩ : ∃ (a : Fin 64) (b : Fin 256), y = ix2 a b := ⟨y 0, y 1, eq_ix2 y⟩; unfold runGate; blk_ext [iblk, idx t]
  · funext y; obtain ⟨a, b, rfl⟩ : ∃ (a : Fin 64) (b : Fin 256), y = ix2 a b := ⟨y 0, y 1, eq_ix2 y⟩; unfold runGate; blk_ext [iblk, idx t]
  · funext y; obtain ⟨a, b, rfl⟩ : ∃ (a : Fin 256) (b : Fin 1536), y = ix2 a b := ⟨y 0, y 1, eq_ix2 y⟩; unfold run; blk_ext [iblk, idx t]
  · funext y; obtain ⟨a, b, rfl⟩ : ∃ (a : Fin 64) (b : Fin 256), y = ix2 a b := ⟨y 0, y 1, eq_ix2 y⟩; unfold runGate; blk_ext [iblk, idx t]
  · funext y; obtain ⟨a, b, rfl⟩ : ∃ (a : Fin 64) (b : Fin 256), y = ix2 a b := ⟨y 0, y 1, eq_ix2 y⟩; unfold runGate; blk_ext [iblk, idx t]
  · funext y; obtain ⟨a, b, rfl⟩ : ∃ (a : Fin 256) (b : Fin 1536), y = ix2 a b := ⟨y 0, y 1, eq_ix2 y⟩; unfold run; blk_ext [iblk, idx t]
  · funext y; obtain ⟨a, b, rfl⟩ : ∃ (a : Fin 64) (b : Fin 256), y = ix2 a b := ⟨y 0, y 1, eq_ix2 y⟩; unfold runGate; blk_ext [iblk, idx t]
  · funext y; obtain ⟨a, b, rfl⟩ : ∃ (a : Fin 64) (b : Fin 256), y = ix2 a b := ⟨y 0, y 1, eq_ix2 y⟩; unfold runGate; blk_ext [iblk, idx t]
  · funext y; obtain ⟨a, b, rfl⟩ : ∃ (a : Fin 256) (b : Fin 1536), y = ix2 a b := ⟨y 0, y 1, eq_ix2 y⟩; unfold run; blk_ext [iblk, idx t]
  · funext y; obtain ⟨a, b, rfl⟩ : ∃ (a : Fin 64) (b : Fin 256), y = ix2 a b := ⟨y 0, y 1, eq_ix2 y⟩; unfold runGate; blk_ext [iblk, idx t]
  · funext y; obtain ⟨a, b, rfl⟩ : ∃ (a : Fin 64) (b : Fin 256), y = ix2 a b := ⟨y 0, y 1, eq_ix2 y⟩; unfold runGate; blk_ext [iblk, idx t]

set_option maxHeartbeats 2000000 in
/-- What a run of rows leaves in the nine results' blocks. -/
theorem left (t : Fin cfg0.N) :
    ((dats m 0 c).after 13 t : S256x1536.Idx → EReal) = run t (changes (V m c main_v0) (V m c main_v3) (V m c main_v6) (V m c main_v9))
    ∧ ((dats m 0 c).after 14 t : S256x1536.Idx → EReal) = run t (firsts (V m c main_v3) (V m c main_v6))
    ∧ ((dats m 0 c).after 15 t : S256x1536.Idx → EReal) = run t (seconds (V m c main_v3) (V m c main_v9))
    ∧ ((dats m 0 c).after 17 t : S64x256.Idx → EReal) = runGate t (changes (V m c main_v1) (V m c main_v4) (V m c main_v7) (V m c main_v10))
    ∧ ((dats m 0 c).after 18 t : S64x256.Idx → EReal) = runGate t (firsts (V m c main_v4) (V m c main_v7))
    ∧ ((dats m 0 c).after 19 t : S64x256.Idx → EReal) = runGate t (seconds (V m c main_v4) (V m c main_v10))
    ∧ ((dats m 0 c).after 21 t : S64x256.Idx → EReal) = runGate t (changes (V m c main_v2) (V m c main_v5) (V m c main_v8) (V m c main_v11))
    ∧ ((dats m 0 c).after 22 t : S64x256.Idx → EReal) = runGate t (firsts (V m c main_v5) (V m c main_v8))
    ∧ ((dats m 0 c).after 23 t : S64x256.Idx → EReal) = runGate t (seconds (V m c main_v5) (V m c main_v11)) := by
  refine ⟨?_, ?_, ?_, ?_, ?_, ?_, ?_, ?_, ?_⟩
  · rw [after0_13]; unfold out0_13; frame_out; simp only [blk m c t, pay5]; rfl
  · rw [after0_14]; unfold out0_14; frame_out; simp only [blk m c t, pay3]; rfl
  · rw [after0_15]; unfold out0_15; frame_out; simp only [blk m c t, pay4]; rfl
  · rw [after0_17]; unfold out0_17; frame_out; simp only [blk m c t, pay9]; rfl
  · rw [after0_18]; unfold out0_18; frame_out; simp only [blk m c t, pay7]; rfl
  · rw [after0_19]; unfold out0_19; frame_out; simp only [blk m c t, pay8]; rfl
  · rw [after0_21]; unfold out0_21; frame_out; simp only [blk m c t, pay1]; rfl
  · rw [after0_22]; unfold out0_22; frame_out; simp only [blk m c t, pay11]; rfl
  · rw [after0_23]; unfold out0_23; frame_out; simp only [blk m c t, pay12]; rfl

/-- A result's block lies at its run of rows. -/
theorem lies (t : Fin cfg0.N) (y : S256x1536.Idx) (A : S1024x1536.Idx → EReal) : run t A y = A ((win0_13.blk t).view.emb y) := by
  symm
  obtain ⟨a, b, rfl⟩ : ∃ (a : Fin 256) (b : Fin 1536), y = ix2 a b := ⟨y 0, y 1, eq_ix2 y⟩
  unfold run
  blk_ext [idx t]

/-- A result's block lies at its run of rows. -/
theorem liesGate (t : Fin cfg0.N) (y : S64x256.Idx) (A : S256x256.Idx → EReal) : runGate t A y = A ((win0_17.blk t).view.emb y) := by
  symm
  obtain ⟨a, b, rfl⟩ : ∃ (a : Fin 64) (b : Fin 256), y = ix2 a b := ⟨y 0, y 1, eq_ix2 y⟩
  unfold runGate
  blk_ext [idx t]

set_option maxHeartbeats 2000000 in
/-- The nine results at the end. -/
theorem finals :
    (dats m 0 c).arrAt 13 (cfgs 0).N = changes (V m c main_v0) (V m c main_v3) (V m c main_v6) (V m c main_v9)
    ∧ (dats m 0 c).arrAt 14 (cfgs 0).N = firsts (V m c main_v3) (V m c main_v6)
    ∧ (dats m 0 c).arrAt 15 (cfgs 0).N = seconds (V m c main_v3) (V m c main_v9)
    ∧ (dats m 0 c).arrAt 17 (cfgs 0).N = changes (V m c main_v1) (V m c main_v4) (V m c main_v7) (V m c main_v10)
    ∧ (dats m 0 c).arrAt 18 (cfgs 0).N = firsts (V m c main_v4) (V m c main_v7)
    ∧ (dats m 0 c).arrAt 19 (cfgs 0).N = seconds (V m c main_v4) (V m c main_v10)
    ∧ (dats m 0 c).arrAt 21 (cfgs 0).N = changes (V m c main_v2) (V m c main_v5) (V m c main_v8) (V m c main_v11)
    ∧ (dats m 0 c).arrAt 22 (cfgs 0).N = firsts (V m c main_v5) (V m c main_v8)
    ∧ (dats m 0 c).arrAt 23 (cfgs 0).N = seconds (V m c main_v5) (V m c main_v11) := by
  refine ⟨?_, ?_, ?_, ?_, ?_, ?_, ?_, ?_, ?_⟩
  · exact (dats m 0 c).arrAt_eq_of_covers 13 _ (by decide +kernel) fun t hf y => by blk_simp; exact (congrFun (left m c t).1 y).trans (lies t y _)
  · exact (dats m 0 c).arrAt_eq_of_covers 14 _ (by decide +kernel) fun t hf y => by blk_simp; exact (congrFun (left m c t).2.1 y).trans (lies t y _)
  · exact (dats m 0 c).arrAt_eq_of_covers 15 _ (by decide +kernel) fun t hf y => by blk_simp; exact (congrFun (left m c t).2.2.1 y).trans (lies t y _)
  · exact (dats m 0 c).arrAt_eq_of_covers 17 _ (by decide +kernel) fun t hf y => by blk_simp; exact (congrFun (left m c t).2.2.2.1 y).trans (liesGate t y _)
  · exact (dats m 0 c).arrAt_eq_of_covers 18 _ (by decide +kernel) fun t hf y => by blk_simp; exact (congrFun (left m c t).2.2.2.2.1 y).trans (liesGate t y _)
  · exact (dats m 0 c).arrAt_eq_of_covers 19 _ (by decide +kernel) fun t hf y => by blk_simp; exact (congrFun (left m c t).2.2.2.2.2.1 y).trans (liesGate t y _)
  · exact (dats m 0 c).arrAt_eq_of_covers 21 _ (by decide +kernel) fun t hf y => by blk_simp; exact (congrFun (left m c t).2.2.2.2.2.2.1 y).trans (liesGate t y _)
  · exact (dats m 0 c).arrAt_eq_of_covers 22 _ (by decide +kernel) fun t hf y => by blk_simp; exact (congrFun (left m c t).2.2.2.2.2.2.2.1 y).trans (liesGate t y _)
  · exact (dats m 0 c).arrAt_eq_of_covers 23 _ (by decide +kernel) fun t hf y => by blk_simp; exact (congrFun (left m c t).2.2.2.2.2.2.2.2 y).trans (liesGate t y _)

/-- The input projection as the kernel takes it: two axes. -/
def flat (A : S1x1024x1536.Idx → EReal) : S1024x1536.Idx → EReal := shapeCast S1024x1536 A shapeCasts_S1x1024x1536_S1024x1536

/-- A gate as the kernel takes it: two axes. -/
def flatGate (A : S1x4x64x256.Idx → EReal) : S256x256.Idx → EReal := shapeCast S256x256 A shapeCasts_S1x4x64x256_S256x256

set_option maxHeartbeats 2000000 in
theorem host : V m c main_v0 = flat (m ((c : Thread nD τ).loc main_arg0)) ∧ V m c main_v1 = flatGate (m ((c : Thread nD τ).loc main_arg1))
    ∧ V m c main_v2 = flatGate (m ((c : Thread nD τ).loc main_arg2)) ∧ V m c main_v3 = flat (m ((c : Thread nD τ).loc main_arg3))
    ∧ V m c main_v4 = flatGate (m ((c : Thread nD τ).loc main_arg4)) ∧ V m c main_v5 = flatGate (m ((c : Thread nD τ).loc main_arg5))
    ∧ V m c main_v6 = flat (m ((c : Thread nD τ).loc main_arg6)) ∧ V m c main_v7 = flatGate (m ((c : Thread nD τ).loc main_arg7))
    ∧ V m c main_v8 = flatGate (m ((c : Thread nD τ).loc main_arg8)) ∧ V m c main_v9 = flat (m ((c : Thread nD τ).loc main_arg9))
    ∧ V m c main_v10 = flatGate (m ((c : Thread nD τ).loc main_arg10)) ∧ V m c main_v11 = flatGate (m ((c : Thread nD τ).loc main_arg11)) := by
  refine ⟨?_, ?_, ?_, ?_, ?_, ?_, ?_, ?_, ?_, ?_, ?_, ?_⟩
  all_goals
    unfold V
    after_results
    rfl

set_option maxHeartbeats 2000000 in
/-- The kernel and the reference end with the same nine results. -/
theorem algebraic : Cert.algebraic_Kernel10Ideal_Reference10Ideal (hKernel10Ideal := facts) (hReference10Ideal := Cert.Reference10Ideal.Gen.facts) := by
  intro m g m' g' hpre hargs
  refine ⟨fun c => changes (V m c main_v0) (V m c main_v3) (V m c main_v6) (V m c main_v9),
    fun c => firsts (V m c main_v3) (V m c main_v6),
    fun c => seconds (V m c main_v3) (V m c main_v9),
    fun c => changes (V m c main_v1) (V m c main_v4) (V m c main_v7) (V m c main_v10),
    fun c => firsts (V m c main_v4) (V m c main_v7),
    fun c => seconds (V m c main_v4) (V m c main_v10),
    fun c => changes (V m c main_v2) (V m c main_v5) (V m c main_v8) (V m c main_v11),
    fun c => firsts (V m c main_v5) (V m c main_v8),
    fun c => seconds (V m c main_v5) (V m c main_v11), ?_, ?_⟩
  · refine (θ_run _ _ _).mono (fun r h c => ?_) (Cert.Kernel10Ideal.Value.run_blocks m g)
    obtain ⟨f13, f14, f15, f17, f18, f19, f21, f22, f23⟩ := finals m c
    obtain ⟨-, h13, h14, h15, -, h17, h18, h19, -, h21, h22, h23, k⟩ := h c
    exact ⟨h13.trans f13, h14.trans f14, h15.trans f15, h17.trans f17, h18.trans f18, h19.trans f19, h21.trans f21, h22.trans f22, h23.trans f23, k⟩
  · refine (θ_run _ _ _).mono (fun r h c => ?_) (Cert.Reference10Ideal.Value.run m' g')
    obtain ⟨a0, a1, a2, a3, a4, a5, a6, a7, a8, a9, a10, a11⟩ := hargs c
    obtain ⟨v0, v1, v2, v3, v4, v5, v6, v7, v8, v9, v10, v11⟩ := host m c
    obtain ⟨h13, h14, h15, h17, h18, h19, h21, h22, h23, k⟩ := h c
    beta_reduce
    rw [v0, v1, v2, v3, v4, v5, v6, v7, v8, v9, v10, v11]
    refine ⟨h13.trans ?_, h14.trans ?_, h15.trans ?_, h17.trans ?_, h18.trans ?_, h19.trans ?_, h21.trans ?_, h22.trans ?_, h23.trans ?_, k⟩
    all_goals
      simp only [a0, a1, a2, a3, a4, a5, a6, a7, a8, a9, a10, a11]
      first
      | exact reference_changes _ _ _ _ _ _
      | exact reference_firsts _ _ _ _
      | exact reference_seconds _ _ _ _

/-- The reference's run leaves its arguments as they were; it has no semaphore. -/
theorem frame_reference : Cert.quiescent_Reference10Ideal (hReference10Ideal := Cert.Reference10Ideal.Gen.facts) := by
  intro m ρ _
  exact (θ_run _ _ _).mono (fun r h => ⟨fun c => (h c).2.2.2.2.2.2.2.2.2, Idealize.ShloMosaic.sem_eq_zero_of_no_sems (by decide) r.2⟩)
    (Cert.Reference10Ideal.Value.run m ρ)

end Cert.K10

end
-- ==== Proof.Sums.lean ====
/- The sums over the eight devices: the kernel's two results are the reference's. -/
module

public import proofs.«01_k».proof.Defs
public import proofs.«01_k».proof.Proof.Gen.Kernel11Ideal.Frame
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.K11

open Cert.Kernel11Ideal Cert.Kernel11Ideal.Gen

/-- One device's array of eight. -/
def slab {a b : ℕ} (k : ℕ) (A : (⟨3, ![8, a, b]⟩ : Shape).Idx → EReal) : (⟨3, ![1, a, b]⟩ : Shape).Idx → EReal :=
  fun y => A (ix3 (Fin.ofNat 8 k) ⟨(y 1).val, (y 1).isLt⟩ ⟨(y 2).val, (y 2).isLt⟩)

/-- The sum of the eight. -/
def total {a b : ℕ} (A : (⟨3, ![8, a, b]⟩ : Shape).Idx → EReal) : (⟨2, ![a, b]⟩ : Shape).Idx → EReal :=
  fun y => ∑ k : Fin 8, A (ix3 k ⟨(y 0).val, (y 0).isLt⟩ ⟨(y 1).val, (y 1).isLt⟩)

/-- Packed rows with the first replaced. -/
def patch (r : S1x1024.Idx → EReal) (R : S24x1024.Idx → EReal) : S24x1024.Idx → EReal :=
  fun y => if (y 0).val = 0 then r (ix2 0 ⟨(y 1).val, (y 1).isLt⟩) else R y

/-- A read of one device's array. -/
theorem ld_slab {a b : ℕ} (k : ℕ) (A : (⟨3, ![8, a, b]⟩ : Shape).Idx → EReal) (h) :
    View.ld (Val := Elt Ideal) (S := ⟨3, ![8, a, b]⟩) (e' := .f32) A (Rect.unit ![k, 0, 0] ![1, a, b] h) = slab k A := by
  funext y
  have hk : k < 8 := h 0
  rw [View.ld_apply]
  refine congrArg A ?_
  funext x
  fin_cases x
  · refine Fin.ext ?_
    have : (y 0).val < 1 := (y 0).isLt
    show k + 1 * (y 0).val = k % 8
    omega
  · refine Fin.ext ?_
    show 0 + 1 * (y 1).val = (y 1).val
    omega
  · refine Fin.ext ?_
    show 0 + 1 * (y 2).val = (y 2).val
    omega

theorem rows_sum (A : S8x24x1024.Idx → EReal) :
    k0_pay1 (F := Ideal) (k0_pay8 (k0_pay6 (slab 0 A) (slab 1 A) (slab 2 A) (slab 3 A)) (slab 4 A) (slab 5 A) (slab 6 A)) (slab 7 A) = total A := by
  funext y
  obtain ⟨p, q, rfl⟩ : ∃ (p : Fin 24) (q : Fin 1024), y = ix2 p q := ⟨y 0, y 1, eq_ix2 y⟩
  pointwise [k0_pay1, k0_pay8, k0_pay6, slab, total]
  simp only [Fin.sum_univ_eight]
  rfl

theorem mix_sum (A : S8x128x512.Idx → EReal) :
    k0_pay2 (F := Ideal) (k0_pay9 (k0_pay4 (slab 0 A) (slab 1 A) (slab 2 A)) (slab 3 A) (slab 4 A) (slab 5 A) (slab 6 A)) (slab 7 A) = total A := by
  funext y
  obtain ⟨p, q, rfl⟩ : ∃ (p : Fin 128) (q : Fin 512), y = ix2 p q := ⟨y 0, y 1, eq_ix2 y⟩
  pointwise [k0_pay2, k0_pay9, k0_pay4, slab, total]
  simp only [Fin.sum_univ_eight]
  rfl

theorem first_sum (A : S8x1x1024.Idx → EReal) :
    k0_pay3 (F := Ideal) (k0_pay7 (k0_pay5 (slab 0 A) (slab 1 A) (slab 2 A)) (slab 3 A) (slab 4 A) (slab 5 A)) (slab 6 A) (slab 7 A) = total A := by
  funext y
  obtain ⟨p, q, rfl⟩ : ∃ (p : Fin 1) (q : Fin 1024), y = ix2 p q := ⟨y 0, y 1, eq_ix2 y⟩
  pointwise [k0_pay3, k0_pay7, k0_pay5, slab, total]
  simp only [Fin.sum_univ_eight]
  rfl

theorem idx : ∀ t : Fin cfg0.N, win0_0.index t = ![0, 0, 0] ∧ win0_1.index t = ![0, 0, 0] ∧ win0_2.index t = ![0, 0, 0]
    ∧ win0_3.index t = ![0, 0] ∧ win0_4.index t = ![0, 0] :=
  (by decide +kernel : ∀ t : Fin grid0.N, _)

/-- A store of all rows. -/
theorem canon_rows (R : S24x1024.Idx → EReal) : View.canon (Val := Elt Ideal) (s := S24x1024) (e := .f32)
    [⟨Rect.unit ![0, 0] ![24, 1024] inb_S24x1024_S24x1024_0_0, R⟩] = R := by
  simp (disch := decide) only [View.canon_cons_unit_lit']

set_option maxHeartbeats 1000000 in
/-- A store of the first row over a store of all rows. -/
theorem canon_patch (r : S1x1024.Idx → EReal) (R : S24x1024.Idx → EReal) : View.canon (Val := Elt Ideal) (s := S24x1024) (e := .f32)
    [⟨Rect.unit ![0, 0] ![1, 1024] inb_S24x1024_S1x1024_0_0, r⟩, ⟨Rect.unit ![0, 0] ![24, 1024] inb_S24x1024_S24x1024_0_0, R⟩] = patch r R := by
  funext y
  by_cases hy : y ∈ (Rect.unit (s := S24x1024) ![0, 0] ![1, 1024] inb_S24x1024_S1x1024_0_0).set
  · obtain ⟨x, rfl⟩ := (Rect.unit (s := S24x1024) ![0, 0] ![1, 1024] inb_S24x1024_S1x1024_0_0).exists_idx_of_mem hy
    refine (View.canon_cons_emb _ _ _ x).trans ?_
    have h0 : (x 0).val < 1 := (x 0).isLt
    unfold patch
    rw [if_pos (by show 0 + 1 * (x 0).val = 0; omega)]
    refine congrArg r ?_
    funext a
    fin_cases a
    · refine Fin.ext ?_
      show (x 0).val = 0
      omega
    · refine Fin.ext ?_
      show (x 1).val = 0 + 1 * (x 1).val
      omega
  · refine (View.canon_cons_of_not_mem _ _ hy).trans ?_
    refine (congrFun (canon_rows R) y).trans ?_
    unfold patch
    rw [if_neg]
    intro h0
    refine hy (Rect.mem_set_unit.2 fun a => ?_)
    fin_cases a
    · exact ⟨Nat.zero_le _, by show (y 0).val < 0 + 1; omega⟩
    · exact ⟨Nat.zero_le _, by show (y 1).val < 0 + 1024; have : (y 1).val < 1024 := (y 1).isLt; omega⟩

variable (m : (ℓ : Loc nD τ sig) → Buf (Elt Ideal) ℓ) (c : Dev nD)

/-- The blocks read are the arrays. -/
theorem blk (t : Fin cfg0.N) : iblk m c 0 t = m ((c : Thread nD τ).loc main_arg0) ∧ iblk m c 1 t = m ((c : Thread nD τ).loc main_arg1)
    ∧ iblk m c 2 t = m ((c : Thread nD τ).loc main_arg2) := by
  refine ⟨?_, ?_, ?_⟩
  · funext y
    obtain ⟨z, p, q, rfl⟩ : ∃ (z : Fin 8) (p : Fin 24) (q : Fin 1024), y = ix3 z p q := ⟨y 0, y 1, y 2, eq_ix3 y⟩
    blk_ext [iblk, idx t]
  · funext y
    obtain ⟨z, p, q, rfl⟩ : ∃ (z : Fin 8) (p : Fin 128) (q : Fin 512), y = ix3 z p q := ⟨y 0, y 1, y 2, eq_ix3 y⟩
    blk_ext [iblk, idx t]
  · funext y
    obtain ⟨z, p, q, rfl⟩ : ∃ (z : Fin 8) (p : Fin 1) (q : Fin 1024), y = ix3 z p q := ⟨y 0, y 1, y 2, eq_ix3 y⟩
    blk_ext [iblk, idx t]

/-- What the body leaves in the two results' blocks. -/
theorem left (t : Fin cfg0.N) :
    ((dats m 0 c).after 3 t : S24x1024.Idx → EReal) = patch (total (m ((c : Thread nD τ).loc main_arg2))) (total (m ((c : Thread nD τ).loc main_arg0)))
    ∧ ((dats m 0 c).after 4 t : S128x512.Idx → EReal) = total (m ((c : Thread nD τ).loc main_arg1)) := by
  refine ⟨?_, ?_⟩
  · rw [after0_3]; unfold outsAt0; frame_out; simp only [blk m c t, read_unread_whole, ld_slab, rows_sum, first_sum, canon_patch]
  · rw [after0_4]; unfold outsAt0; frame_out; simp only [blk m c t, read_unread_whole, ld_slab, mix_sum]

/-- The two results at the end. -/
theorem finals :
    (dats m 0 c).arrAt 3 (cfgs 0).N = patch (total (m ((c : Thread nD τ).loc main_arg2))) (total (m ((c : Thread nD τ).loc main_arg0)))
    ∧ (dats m 0 c).arrAt 4 (cfgs 0).N = total (m ((c : Thread nD τ).loc main_arg1)) := by
  refine ⟨?_, ?_⟩
  · refine (dats m 0 c).arrAt_eq_of_covers 3 _ (by decide +kernel) fun t hf y => ?_
    blk_simp
    refine (congrFun (left m c t).1 y).trans (congrArg _ ?_)
    obtain ⟨p, q, rfl⟩ : ∃ (p : Fin 24) (q : Fin 1024), y = ix2 p q := ⟨y 0, y 1, eq_ix2 y⟩
    blk_ext [idx t]
  · refine (dats m 0 c).arrAt_eq_of_covers 4 _ (by decide +kernel) fun t hf y => ?_
    blk_simp
    refine (congrFun (left m c t).2 y).trans (congrArg _ ?_)
    obtain ⟨p, q, rfl⟩ : ∃ (p : Fin 128) (q : Fin 512), y = ix2 p q := ⟨y 0, y 1, eq_ix2 y⟩
    blk_ext [idx t]

/-- The reference's sum over the devices. -/
theorem reference_total {a b : ℕ} (A : FVec Ideal ⟨3, ![8, a, b]⟩ .f32) (h : (⟨3, ![8, a, b]⟩ : Shape).ReducesTo [0] ⟨2, ![a, b]⟩) (h0) :
    Host.reduceAdd (F := Ideal) A (constant ⟨0, ![]⟩ .f32 0x00000000#32) h h0 = total A := by
  funext y
  obtain ⟨p, q, rfl⟩ : ∃ (p : Fin a) (q : Fin b), y = ix2 p q := ⟨y 0, y 1, eq_ix2 y⟩
  pointwise [total]

/-- The rows after the first. -/
abbrev later (R : S24x1024.Idx → EReal) : Cert.Reference11Ideal.S23x1024.Idx → EReal :=
  extractStridedSlice Cert.Reference11Ideal.S23x1024 ![1, 0] R Cert.Reference11Ideal.Gen.slices_S24x1024_S23x1024_1_0

/-- The reference's first row joined to the others. -/
theorem reference_patch (r : S1x1024.Idx → EReal) (R : S24x1024.Idx → EReal) :
    concatenate Cert.Reference11Ideal.S24x1024 0 [⟨Cert.Reference11Ideal.S1x1024, r⟩, ⟨Cert.Reference11Ideal.S23x1024, later R⟩]
      Cert.Reference11Ideal.Gen.concatenates_S1x1024_S23x1024_S24x1024_d0 = patch r R := by
  funext y
  obtain ⟨p, q, rfl⟩ : ∃ (p : Fin 24) (q : Fin 1024), y = ix2 p q := ⟨y 0, y 1, eq_ix2 y⟩
  unfold patch
  by_cases h : p.val = 0
  · rw [if_pos (show ((ix2 p q : S24x1024.Idx) 0).val = 0 from h)]
    refine concatenate_pair_apply_left (t := Cert.Reference11Ideal.S24x1024) (s₁ := Cert.Reference11Ideal.S1x1024) (s₂ := Cert.Reference11Ideal.S23x1024) 0 r (later R)
      Cert.Reference11Ideal.Gen.concatenates_S1x1024_S23x1024_S24x1024_d0 (ix2 p q) rfl (ix2 0 q) fun b => ?_
    fin_cases b
    · exact h.symm
    · rfl
  · rw [if_neg (show ¬ ((ix2 p q : S24x1024.Idx) 0).val = 0 from h)]
    refine (concatenate_pair_apply_right (t := Cert.Reference11Ideal.S24x1024) (s₁ := Cert.Reference11Ideal.S1x1024) (s₂ := Cert.Reference11Ideal.S23x1024) 0 r (later R)
      Cert.Reference11Ideal.Gen.concatenates_S1x1024_S23x1024_S24x1024_d0 (ix2 p q) rfl rfl
      (ix2 (⟨p.val - 1, by omega⟩ : Fin 23) q) (fun b hb => ?_) ?_).trans ?_
    · fin_cases b
      · exact absurd rfl hb
      · rfl
    · show p.val - 1 + 1 = p.val
      omega
    · refine congrArg R ?_
      funext a
      fin_cases a
      · refine Fin.ext ?_
        show 1 + (p.val - 1) = p.val
        omega
      · refine Fin.ext ?_
        show 0 + q.val = q.val
        omega

/-- The kernel and the reference end with the same two results. -/
theorem algebraic : Cert.algebraic_Kernel11Ideal_Reference11Ideal (hKernel11Ideal := facts) (hReference11Ideal := Cert.Reference11Ideal.Gen.facts) := by
  intro m g m' g' hpre hargs
  refine ⟨fun c => patch (total (m ((c : Thread nD τ).loc main_arg2))) (total (m ((c : Thread nD τ).loc main_arg0))),
    fun c => total (m ((c : Thread nD τ).loc main_arg1)), ?_, ?_⟩
  · refine (θ_run _ _ _).mono (fun r h c => ?_) (Cert.Kernel11Ideal.Value.run_blocks m g)
    obtain ⟨f3, f4⟩ := finals m c
    obtain ⟨h3, h4, k⟩ := h c
    exact ⟨h3.trans f3, h4.trans f4, k⟩
  · refine (θ_run _ _ _).mono (fun r h c => ?_) (Cert.Reference11Ideal.Value.run m' g')
    obtain ⟨a0, a1, a2⟩ := hargs c
    obtain ⟨h3, h4, k⟩ := h c
    beta_reduce
    refine ⟨h3.trans ?_, h4.trans ?_, k⟩
    · rw [a0, a2, ← reference_total (a := 1) (b := 1024) (m ((c : Thread nD τ).loc main_arg2)) Cert.Reference11Ideal.Gen.reducesTo_S8x1x1024_S1x1024_d0 Cert.Reference11Ideal.Gen.h_S_,
        ← reference_total (a := 24) (b := 1024) (m ((c : Thread nD τ).loc main_arg0)) Cert.Reference11Ideal.Gen.reducesTo_S8x24x1024_S24x1024_d0 Cert.Reference11Ideal.Gen.h_S_]
      exact reference_patch _ _
    · rw [a1]
      exact reference_total _ _ _

/-- The reference's run leaves its arguments as they were; it has no semaphore. -/
theorem frame_reference : Cert.quiescent_Reference11Ideal (hReference11Ideal := Cert.Reference11Ideal.Gen.facts) := by
  intro m ρ _
  exact (θ_run _ _ _).mono (fun r h => ⟨fun c => (h c).2.2, Idealize.ShloMosaic.sem_eq_zero_of_no_sems (by decide) r.2⟩)
    (Cert.Reference11Ideal.Value.run m ρ)

end Cert.K11

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Pre_bwd_in_finite
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Pre_mlp_finite
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal
public import proofs.«01_k».proof.Proof.Gen.Reference9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10
public import proofs.«01_k».proof.Proof.Gen.Kernel10Ideal
public import proofs.«01_k».proof.Proof.Gen.Reference10Ideal
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11Ideal
public import proofs.«01_k».proof.Proof.Gen.Reference11Ideal
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Down
public import proofs.«01_k».proof.Proof.Up
public import proofs.«01_k».proof.Proof.In
public import proofs.«01_k».proof.Proof.Projections
public import proofs.«01_k».proof.Proof.BwdIn
public import proofs.«01_k».proof.Proof.Mlp
public import proofs.«01_k».proof.Proof.Mix
public import proofs.«01_k».proof.Proof.AdamMlp
public import proofs.«01_k».proof.Proof.AdamProjections
public import proofs.«01_k».proof.Proof.AdamFirst
public import proofs.«01_k».proof.Proof.Sums
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Pre_bwd_in_finite.Gen.facts,
  Cert.Pre_mlp_finite.Gen.facts,
  fun m ρ _ => Cert.Kernel.Gen.frame m ρ, fun m ρ _ => Cert.KernelIdeal.Gen.frame m ρ, Cert.K1.frame_reference,
  fun m ρ _ => Cert.Kernel2.Gen.frame m ρ, fun m ρ _ => Cert.Kernel2Ideal.Gen.frame m ρ, Cert.K2.frame_reference,
  fun m ρ _ => Cert.Kernel3.Gen.frame m ρ, fun m ρ _ => Cert.Kernel3Ideal.Gen.frame m ρ, Cert.K3.frame_reference,
  fun m ρ _ => Cert.Kernel4.Gen.frame m ρ, fun m ρ _ => Cert.Kernel4Ideal.Gen.frame m ρ, Cert.K4.frame_reference,
  fun m ρ _ => Cert.Kernel5.Gen.frame m ρ, fun m ρ _ => Cert.Kernel5Ideal.Gen.frame m ρ, fun m ρ _ => Cert.Kernel5Ideal.Gen.frame m ρ, Cert.K5.frame_reference, fun m ρ _ => Cert.K5.frame_reference m ρ trivial,
  fun m ρ _ => Cert.Kernel6.Gen.frame m ρ, fun m ρ _ => Cert.Kernel6Ideal.Gen.frame m ρ, fun m ρ _ => Cert.Kernel6Ideal.Gen.frame m ρ, Cert.K6.frame_reference, fun m ρ _ => Cert.K6.frame_reference m ρ trivial,
  fun m ρ _ => Cert.Kernel7.Gen.frame m ρ, fun m ρ _ => Cert.Kernel7Ideal.Gen.frame m ρ, Cert.K7.frame_reference,
  fun m ρ _ => Cert.Kernel8.Gen.frame m ρ, fun m ρ _ => Cert.Kernel8Ideal.Gen.frame m ρ, Cert.K8.frame_reference,
  fun m ρ _ => Cert.Kernel9.Gen.frame m ρ, fun m ρ _ => Cert.Kernel9Ideal.Gen.frame m ρ, Cert.K9.frame_reference,
  fun m ρ _ => Cert.Kernel10.Gen.frame m ρ, fun m ρ _ => Cert.Kernel10Ideal.Gen.frame m ρ, Cert.K10.frame_reference,
  fun m ρ _ => Cert.Kernel11.Gen.frame m ρ, fun m ρ _ => Cert.Kernel11Ideal.Gen.frame m ρ, Cert.K11.frame_reference,
  trivial, Cert.K1.algebraic,
  trivial, Cert.K2.algebraic,
  trivial, Cert.K3.algebraic,
  trivial, Cert.K4.algebraic,
  trivial, Cert.K5.algebraic,
  trivial, Cert.K6.algebraic,
  trivial, Cert.K7.algebraic,
  trivial, Cert.K8.algebraic,
  trivial, Cert.K9.algebraic,
  trivial, Cert.K10.algebraic,
  trivial, Cert.K11.algebraic⟩

end Cert.Proof

end
